-- ==== Defs.lean ====
def Pre_Kernel [hPre_ragged : Cert.Pre_ragged.Facts] (m : (ℓ : Loc Cert.Kernel.nD Cert.Kernel.τ Cert.Kernel.sig) → Buf (Elt Bits) ℓ) : Prop :=
  ∀ c : Dev Cert.Kernel.nD,
    (Cert.Pre_ragged.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_ragged : Cert.Pre_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_described [hPre_described : Cert.Pre_described.Facts] (m : (ℓ : Loc Cert.KernelIdeal.nD Cert.KernelIdeal.τ Cert.KernelIdeal.sig) → Buf (Elt Ideal) ℓ) : Prop :=
  ∀ c : Dev Cert.KernelIdeal.nD,
    (Cert.Pre_described.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_described [hPre_described : Cert.Pre_described.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_described.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def quiescent_Kernel [hKernel : Cert.Kernel.Facts] [hPre_ragged : Cert.Pre_ragged.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_described [hKernelIdeal : Cert.KernelIdeal.Facts] [hPre_described : Cert.Pre_described.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_described m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_described [hReferenceIdeal : Cert.ReferenceIdeal.Facts] [hPre_described : Cert.Pre_described.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_described m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8)
      ∧ r.2.mem ((c.tc : Thread Cert.Output.nD Cert.Output.τ).loc Cert.Output.main_arg9) = m ((c.tc : Thread Cert.Output.nD Cert.Output.τ).loc Cert.Output.main_arg9)
      ∧ r.2.mem ((c.tc : Thread Cert.Output.nD Cert.Output.τ).loc Cert.Output.main_arg10) = m ((c.tc : Thread Cert.Output.nD Cert.Output.τ).loc Cert.Output.main_arg10))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
      ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9)
      ∧ r.2.mem ((c.tc : Thread Cert.OutputIdeal.nD Cert.OutputIdeal.τ).loc Cert.OutputIdeal.main_arg10) = m ((c.tc : Thread Cert.OutputIdeal.nD Cert.OutputIdeal.τ).loc Cert.OutputIdeal.main_arg10))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6)
      ∧ r.2.mem ((c.tc : Thread Cert.OutputReferenceIdeal.nD Cert.OutputReferenceIdeal.τ).loc Cert.OutputReferenceIdeal.main_arg7) = m ((c.tc : Thread Cert.OutputReferenceIdeal.nD Cert.OutputReferenceIdeal.τ).loc Cert.OutputReferenceIdeal.main_arg7)
      ∧ r.2.mem ((c.tc : Thread Cert.OutputReferenceIdeal.nD Cert.OutputReferenceIdeal.τ).loc Cert.OutputReferenceIdeal.main_arg8) = m ((c.tc : Thread Cert.OutputReferenceIdeal.nD Cert.OutputReferenceIdeal.τ).loc Cert.OutputReferenceIdeal.main_arg8)
      ∧ r.2.mem ((c.tc : Thread Cert.OutputReferenceIdeal.nD Cert.OutputReferenceIdeal.τ).loc Cert.OutputReferenceIdeal.main_arg9) = m ((c.tc : Thread Cert.OutputReferenceIdeal.nD Cert.OutputReferenceIdeal.τ).loc Cert.OutputReferenceIdeal.main_arg9)
      ∧ r.2.mem ((c.tc : Thread Cert.OutputReferenceIdeal.nD Cert.OutputReferenceIdeal.τ).loc Cert.OutputReferenceIdeal.main_arg10) = m ((c.tc : Thread Cert.OutputReferenceIdeal.nD Cert.OutputReferenceIdeal.τ).loc Cert.OutputReferenceIdeal.main_arg10))
      ∧ r.2.sem = fun _ => 0)

def preserves_Kernel_KernelIdeal : Prop :=
  True

def algebraic_KernelIdeal_ReferenceIdeal_pre_described [hKernelIdeal : Cert.KernelIdeal.Facts] [hReferenceIdeal : Cert.ReferenceIdeal.Facts] [hPre_described : Cert.Pre_described.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_described m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
      ∧ m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)
      ∧ m' ((c.tc : Thread Cert.OutputReferenceIdeal.nD Cert.OutputReferenceIdeal.τ).loc Cert.OutputReferenceIdeal.main_arg8) = m ((c.tc : Thread Cert.OutputIdeal.nD Cert.OutputIdeal.τ).loc Cert.OutputIdeal.main_arg8)
      ∧ m' ((c.tc : Thread Cert.OutputReferenceIdeal.nD Cert.OutputReferenceIdeal.τ).loc Cert.OutputReferenceIdeal.main_arg9) = m ((c.tc : Thread Cert.OutputIdeal.nD Cert.OutputIdeal.τ).loc Cert.OutputIdeal.main_arg9)
      ∧ m' ((c.tc : Thread Cert.OutputReferenceIdeal.nD Cert.OutputReferenceIdeal.τ).loc Cert.OutputReferenceIdeal.main_arg10) = m ((c.tc : Thread Cert.OutputIdeal.nD Cert.OutputIdeal.τ).loc Cert.OutputIdeal.main_arg10)) →
    ∃ (v0 : (c : Dev Cert.OutputIdeal.nD) → Buf (Elt Ideal) ((c.tc : Thread Cert.OutputIdeal.nD Cert.OutputIdeal.τ).loc Cert.OutputIdeal.main_v0_0)) (v1 : (c : Dev Cert.OutputIdeal.nD) → Buf (Elt Ideal) ((c.tc : Thread Cert.OutputIdeal.nD Cert.OutputIdeal.τ).loc Cert.OutputIdeal.main_v0_1)) (v2 : (c : Dev Cert.OutputIdeal.nD) → Buf (Elt Ideal) ((c.tc : Thread Cert.OutputIdeal.nD Cert.OutputIdeal.τ).loc Cert.OutputIdeal.main_v0_2)) (v3 : (c : Dev Cert.OutputIdeal.nD) → Buf (Elt Ideal) ((c.tc : Thread Cert.OutputIdeal.nD Cert.OutputIdeal.τ).loc Cert.OutputIdeal.main_v0_3)) (v4 : (c : Dev Cert.OutputIdeal.nD) → Buf (Elt Ideal) ((c.tc : Thread Cert.OutputIdeal.nD Cert.OutputIdeal.τ).loc Cert.OutputIdeal.main_v0_4)) (v5 : (c : Dev Cert.OutputIdeal.nD) → Buf (Elt Ideal) ((c.tc : Thread Cert.OutputIdeal.nD Cert.OutputIdeal.τ).loc Cert.OutputIdeal.main_v0_5)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v0_0) = v0 c
          ∧ r.2.mem ((c.tc : Thread Cert.OutputIdeal.nD Cert.OutputIdeal.τ).loc Cert.OutputIdeal.main_v0_1) = v1 c
          ∧ r.2.mem ((c.tc : Thread Cert.OutputIdeal.nD Cert.OutputIdeal.τ).loc Cert.OutputIdeal.main_v0_2) = v2 c
          ∧ r.2.mem ((c.tc : Thread Cert.OutputIdeal.nD Cert.OutputIdeal.τ).loc Cert.OutputIdeal.main_v0_3) = v3 c
          ∧ r.2.mem ((c.tc : Thread Cert.OutputIdeal.nD Cert.OutputIdeal.τ).loc Cert.OutputIdeal.main_v0_4) = v4 c
          ∧ r.2.mem ((c.tc : Thread Cert.OutputIdeal.nD Cert.OutputIdeal.τ).loc Cert.OutputIdeal.main_v0_5) = v5 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8)
          ∧ r.2.mem ((c.tc : Thread Cert.OutputIdeal.nD Cert.OutputIdeal.τ).loc Cert.OutputIdeal.main_arg9) = m ((c.tc : Thread Cert.OutputIdeal.nD Cert.OutputIdeal.τ).loc Cert.OutputIdeal.main_arg9)
          ∧ r.2.mem ((c.tc : Thread Cert.OutputIdeal.nD Cert.OutputIdeal.τ).loc Cert.OutputIdeal.main_arg10) = m ((c.tc : Thread Cert.OutputIdeal.nD Cert.OutputIdeal.τ).loc Cert.OutputIdeal.main_arg10))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v0_0) = v0 c
          ∧ r.2.mem ((c.tc : Thread Cert.OutputReferenceIdeal.nD Cert.OutputReferenceIdeal.τ).loc Cert.OutputReferenceIdeal.main_v0_1) = v1 c
          ∧ r.2.mem ((c.tc : Thread Cert.OutputReferenceIdeal.nD Cert.OutputReferenceIdeal.τ).loc Cert.OutputReferenceIdeal.main_v0_2) = v2 c
          ∧ r.2.mem ((c.tc : Thread Cert.OutputReferenceIdeal.nD Cert.OutputReferenceIdeal.τ).loc Cert.OutputReferenceIdeal.main_v0_3) = v3 c
          ∧ r.2.mem ((c.tc : Thread Cert.OutputReferenceIdeal.nD Cert.OutputReferenceIdeal.τ).loc Cert.OutputReferenceIdeal.main_v0_4) = v4 c
          ∧ r.2.mem ((c.tc : Thread Cert.OutputReferenceIdeal.nD Cert.OutputReferenceIdeal.τ).loc Cert.OutputReferenceIdeal.main_v0_5) = v5 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6)
          ∧ r.2.mem ((c.tc : Thread Cert.OutputReferenceIdeal.nD Cert.OutputReferenceIdeal.τ).loc Cert.OutputReferenceIdeal.main_arg7) = m' ((c.tc : Thread Cert.OutputReferenceIdeal.nD Cert.OutputReferenceIdeal.τ).loc Cert.OutputReferenceIdeal.main_arg7)
          ∧ r.2.mem ((c.tc : Thread Cert.OutputReferenceIdeal.nD Cert.OutputReferenceIdeal.τ).loc Cert.OutputReferenceIdeal.main_arg8) = m' ((c.tc : Thread Cert.OutputReferenceIdeal.nD Cert.OutputReferenceIdeal.τ).loc Cert.OutputReferenceIdeal.main_arg8)
          ∧ r.2.mem ((c.tc : Thread Cert.OutputReferenceIdeal.nD Cert.OutputReferenceIdeal.τ).loc Cert.OutputReferenceIdeal.main_arg9) = m' ((c.tc : Thread Cert.OutputReferenceIdeal.nD Cert.OutputReferenceIdeal.τ).loc Cert.OutputReferenceIdeal.main_arg9)
          ∧ r.2.mem ((c.tc : Thread Cert.OutputReferenceIdeal.nD Cert.OutputReferenceIdeal.τ).loc Cert.OutputReferenceIdeal.main_arg10) = m' ((c.tc : Thread Cert.OutputReferenceIdeal.nD Cert.OutputReferenceIdeal.τ).loc Cert.OutputReferenceIdeal.main_arg10))

def Claim : Prop :=
  ∃ (hKernel : Cert.Kernel.Facts) (hKernelIdeal : Cert.KernelIdeal.Facts) (hReferenceIdeal : Cert.ReferenceIdeal.Facts) (hOutput : Cert.Output.Facts) (hOutputIdeal : Cert.OutputIdeal.Facts) (hOutputReferenceIdeal : Cert.OutputReferenceIdeal.Facts) (hPre_ragged : Cert.Pre_ragged.Facts) (hPre_described : Cert.Pre_described.Facts),
    quiescent_Kernel (hKernel := hKernel) (hPre_ragged := hPre_ragged)
    ∧ quiescent_KernelIdeal (hKernelIdeal := hKernelIdeal) (hPre_ragged := hPre_ragged)
    ∧ quiescent_KernelIdeal_pre_described (hKernelIdeal := hKernelIdeal) (hPre_described := hPre_described)
    ∧ quiescent_ReferenceIdeal (hReferenceIdeal := hReferenceIdeal)
    ∧ quiescent_ReferenceIdeal_pre_described (hReferenceIdeal := hReferenceIdeal) (hPre_described := hPre_described)
    ∧ quiescent_Output (hOutput := hOutput)
    ∧ quiescent_OutputIdeal (hOutputIdeal := hOutputIdeal)
    ∧ quiescent_OutputReferenceIdeal (hOutputReferenceIdeal := hOutputReferenceIdeal)
    ∧ preserves_Kernel_KernelIdeal
    ∧ algebraic_KernelIdeal_ReferenceIdeal_pre_described (hKernelIdeal := hKernelIdeal) (hReferenceIdeal := hReferenceIdeal) (hPre_described := hPre_described)
    ∧ preserves_Output_OutputIdeal
    ∧ algebraic_OutputIdeal_OutputReferenceIdeal (hOutputIdeal := hOutputIdeal) (hOutputReferenceIdeal := hOutputReferenceIdeal)
-- ==== Pre_described.lean ====
abbrev S5 : Shape := ⟨1, ![5]⟩
abbrev S2560x1024 : Shape := ⟨2, ![2560, 1024]⟩
abbrev S2560x128 : Shape := ⟨2, ![2560, 128]⟩
abbrev S8x8193 : Shape := ⟨2, ![8, 8193]⟩
abbrev S5x8x64x8192 : Shape := ⟨4, ![5, 8, 64, 8192]⟩
abbrev S5x8x8192 : Shape := ⟨3, ![5, 8, 8192]⟩
abbrev S2560x8x16 : Shape := ⟨3, ![2560, 8, 16]⟩
abbrev S2560x8x1 : Shape := ⟨3, ![2560, 8, 1]⟩
abbrev S2560x8 : Shape := ⟨2, ![2560, 8]⟩
abbrev S2560x8x128 : Shape := ⟨3, ![2560, 8, 128]⟩
abbrev S_ : Shape := ⟨0, ![]⟩

class Facts : Prop where
  bitsLt_bf16_f32 : FTy.bits .bf16 < FTy.bits .f32
  shapeCasts_S2560x128_S2560x8x16 : S2560x128.ShapeCasts S2560x8x16
  slices_S2560x8x16_S2560x8x1_0_0_0 : S2560x8x16.Slices ![0, 0, 0] S2560x8x1
  shapeCasts_S2560x8x1_S2560x8 : S2560x8x1.ShapeCasts S2560x8
  slices_S2560x8x16_S2560x8x1_0_0_3 : S2560x8x16.Slices ![0, 0, 3] S2560x8x1
  slices_S2560x8x16_S2560x8x1_0_0_6 : S2560x8x16.Slices ![0, 0, 6] S2560x8x1
  shapeCasts_S2560x1024_S2560x8x128 : S2560x1024.ShapeCasts S2560x8x128
  reducesTo_S2560x8x128_S2560x8_d2 : S2560x8x128.ReducesTo [2] S2560x8
  h_S_ : 0 < S_.numel
  bcast_S_S2560x8x16 : S_.BroadcastsInDim S2560x8x16 (![] : Fin 0 → Fin S2560x8x16.rank)
  reducesTo_S2560x8x16_S_d0_1_2 : S2560x8x16.ReducesTo [0, 1, 2] S_
  bcast_S_S5x8x8192 : S_.BroadcastsInDim S5x8x8192 (![] : Fin 0 → Fin S5x8x8192.rank)
  reducesTo_S5x8x8192_S_d0_1_2 : S5x8x8192.ReducesTo [0, 1, 2] S_
  bcast_S_S5 : S_.BroadcastsInDim S5 (![] : Fin 0 → Fin S5.rank)
  reducesTo_S5_S_d0 : S5.ReducesTo [0] S_
  reducesTo_S2560x8_S_d0_1 : S2560x8.ReducesTo [0, 1] S_

variable [Facts]

def fn_part2 {F : FTy → Type} [FloatOps F] (main_arg1 : IVec S5 32) (main_v13 : IVec S2560x8 1) (main_v27 : IVec S_ 1) (main_v36 : IVec S5 1) : IVec S5 1 :=
  let main_c_9 : IVec S_ 32 := constantI S_ 32 1#32
  let main_v37 : IVec S5 32 := broadcastInDim S5 ![] bcast_S_S5 main_c_9
  let main_v38 : IVec S5 1 := cmpi .sge main_arg1 main_v37
  let main_v39 : IVec S5 1 := andi main_v36 main_v38
  let main_c_10 : IVec S_ 32 := constantI S_ 32 8192#32
  let main_v40 : IVec S5 32 := broadcastInDim S5 ![] bcast_S_S5 main_c_10
  let main_v41 : IVec S5 1 := cmpi .sle main_arg1 main_v40
  let main_v42 : IVec S5 1 := andi main_v39 main_v41
  let main_c_11 : IVec S_ 1 := constantI S_ 1 1#1
  let main_v43 : IVec S_ 1 := (fun x v => Host.reduce IntOp.andi x v reducesTo_S2560x8_S_d0_1 h_S_) main_v13 main_c_11
  let main_v44 : IVec S_ 1 := andi main_v43 main_v27
  let main_v45 : IVec S5 1 := broadcastInDim S5 ![] bcast_S_S5 main_v44
  let main_v46 : IVec S5 1 := andi main_v42 main_v45
  main_v46

def fn_part1 {F : FTy → Type} [FloatOps F] (main_arg0 : IVec S5 32) (main_arg1 : IVec S5 32) (main_arg11 : FVec F S5x8x8192 .f32) (main_v13 : IVec S2560x8 1) (main_v17 : IVec S_ 1) (main_v18 : FVec F S5x8x8192 .f32) (main_v19 : FVec F S5x8x8192 .f32) : IVec S5 1 :=
  let main_v20 : IVec S5x8x8192 1 := cmpf .olt main_v18 main_v19
  let main_c_2 : IVec S_ 1 := constantI S_ 1 1#1
  let main_v21 : IVec S_ 1 := (fun x v => Host.reduce IntOp.andi x v reducesTo_S5x8x8192_S_d0_1_2 h_S_) main_v20 main_c_2
  let main_v22 : IVec S_ 1 := andi main_v17 main_v21
  let main_v23 : FVec F S5x8x8192 .f32 := Host.absf main_arg11
  let main_cst_3 : FVec F S_ .f32 := constant S_ .f32 0x7F800000#32
  let main_v24 : FVec F S5x8x8192 .f32 := broadcastInDim S5x8x8192 ![] bcast_S_S5x8x8192 main_cst_3
  let main_v25 : IVec S5x8x8192 1 := cmpf .olt main_v23 main_v24
  let main_c_4 : IVec S_ 1 := constantI S_ 1 1#1
  let main_v26 : IVec S_ 1 := (fun x v => Host.reduce IntOp.andi x v reducesTo_S5x8x8192_S_d0_1_2 h_S_) main_v25 main_c_4
  let main_v27 : IVec S_ 1 := andi main_v22 main_v26
  let main_c_5 : IVec S_ 32 := constantI S_ 32 0#32
  let main_v28 : IVec S5 32 := broadcastInDim S5 ![] bcast_S_S5 main_c_5
  let main_v29 : IVec S5 1 := cmpi .sge main_arg0 main_v28
  let main_c_6 : IVec S_ 32 := constantI S_ 32 2560#32
  let main_v30 : IVec S5 32 := broadcastInDim S5 ![] bcast_S_S5 main_c_6
  let main_v31 : IVec S5 1 := cmpi .sle main_arg0 main_v30
  let main_v32 : IVec S5 1 := andi main_v29 main_v31
  let main_c_7 : IVec S_ 32 := constantI S_ 32 0#32
  let main_v33 : IVec S_ 32 := (fun x v => Host.reduce IntOp.addi x v reducesTo_S5_S_d0 h_S_) main_arg0 main_c_7
  let main_c_8 : IVec S_ 32 := constantI S_ 32 2560#32
  let main_v34 : IVec S_ 1 := cmpi .eq main_v33 main_c_8
  let main_v35 : IVec S5 1 := broadcastInDim S5 ![] bcast_S_S5 main_v34
  let main_v36 : IVec S5 1 := andi main_v32 main_v35
  fn_part2 (F := F) main_arg1 main_v13 main_v27 main_v36

def fn {F : FTy → Type} [FloatOps F] (main_arg0 : IVec S5 32) (main_arg1 : IVec S5 32) (main_arg2 : FVec F S2560x1024 .bf16) (main_arg3 : FVec F S2560x128 .bf16) (main_arg4 : FVec F S2560x1024 .f32) (main_arg5 : FVec F S8x8193 .f32) (main_arg6 : IVec S5x8x64x8192 8) (main_arg7 : IVec S5x8x64x8192 8) (main_arg8 : FVec F S5x8x8192 .f32) (main_arg9 : FVec F S5x8x8192 .f32) (main_arg10 : FVec F S5x8x8192 .f32) (main_arg11 : FVec F S5x8x8192 .f32) : IVec S5 1 :=
  let main_v0 : FVec F S2560x128 .f32 := (extf .f32 · bitsLt_bf16_f32) main_arg3
  let main_v1 : FVec F S2560x8x16 .f32 := shapeCast S2560x8x16 main_v0 shapeCasts_S2560x128_S2560x8x16
  let main_v2 : FVec F S2560x8x1 .f32 := (extractStridedSlice S2560x8x1 ![0, 0, 0] · slices_S2560x8x16_S2560x8x1_0_0_0) main_v1
  let main_v3 : FVec F S2560x8 .f32 := shapeCast S2560x8 main_v2 shapeCasts_S2560x8x1_S2560x8
  let main_v4 : FVec F S2560x8x1 .f32 := (extractStridedSlice S2560x8x1 ![0, 0, 3] · slices_S2560x8x16_S2560x8x1_0_0_3) main_v1
  let main_v5 : FVec F S2560x8 .f32 := shapeCast S2560x8 main_v4 shapeCasts_S2560x8x1_S2560x8
  let main_v6 : FVec F S2560x8 .f32 := addf main_v3 main_v5
  let main_v7 : FVec F S2560x8x1 .f32 := (extractStridedSlice S2560x8x1 ![0, 0, 6] · slices_S2560x8x16_S2560x8x1_0_0_6) main_v1
  let main_v8 : FVec F S2560x8 .f32 := shapeCast S2560x8 main_v7 shapeCasts_S2560x8x1_S2560x8
  let main_v9 : FVec F S2560x8 .f32 := addf main_v6 main_v8
  let main_v10 : FVec F S2560x1024 .f32 := (extf .f32 · bitsLt_bf16_f32) main_arg2
  let main_v11 : FVec F S2560x8x128 .f32 := shapeCast S2560x8x128 main_v10 shapeCasts_S2560x1024_S2560x8x128
  let main_cst : FVec F S_ .f32 := constant S_ .f32 0x00000000#32
  let main_v12 : FVec F S2560x8 .f32 := (fun x v => Host.reduceAdd x v reducesTo_S2560x8x128_S2560x8_d2 h_S_) main_v11 main_cst
  let main_v13 : IVec S2560x8 1 := cmpf .oeq main_v9 main_v12
  let main_v14 : FVec F S2560x8x16 .f32 := Host.absf main_v1
  let main_cst_0 : FVec F S_ .f32 := constant S_ .f32 0x7F800000#32
  let main_v15 : FVec F S2560x8x16 .f32 := broadcastInDim S2560x8x16 ![] bcast_S_S2560x8x16 main_cst_0
  let main_v16 : IVec S2560x8x16 1 := cmpf .olt main_v14 main_v15
  let main_c : IVec S_ 1 := constantI S_ 1 1#1
  let main_v17 : IVec S_ 1 := (fun x v => Host.reduce IntOp.andi x v reducesTo_S2560x8x16_S_d0_1_2 h_S_) main_v16 main_c
  let main_v18 : FVec F S5x8x8192 .f32 := Host.absf main_arg9
  let main_cst_1 : FVec F S_ .f32 := constant S_ .f32 0x7F800000#32
  let main_v19 : FVec F S5x8x8192 .f32 := broadcastInDim S5x8x8192 ![] bcast_S_S5x8x8192 main_cst_1
  fn_part1 (F := F) main_arg0 main_arg1 main_arg11 main_v13 main_v17 main_v18 main_v19
-- ==== Pre_ragged.lean ====
abbrev S5 : Shape := ⟨1, ![5]⟩
abbrev S2560x1024 : Shape := ⟨2, ![2560, 1024]⟩
abbrev S2560x128 : Shape := ⟨2, ![2560, 128]⟩
abbrev S8x8193 : Shape := ⟨2, ![8, 8193]⟩
abbrev S5x8x64x8192 : Shape := ⟨4, ![5, 8, 64, 8192]⟩
abbrev S5x8x8192 : Shape := ⟨3, ![5, 8, 8192]⟩
abbrev S_ : Shape := ⟨0, ![]⟩

class Facts : Prop where
  bcast_S_S5 : S_.BroadcastsInDim S5 (![] : Fin 0 → Fin S5.rank)
  reducesTo_S5_S_d0 : S5.ReducesTo [0] S_
  h_S_ : 0 < S_.numel

variable [Facts]

def fn {F : FTy → Type} [FloatOps F] (main_arg0 : IVec S5 32) (main_arg1 : IVec S5 32) (main_arg2 : FVec F S2560x1024 .bf16) (main_arg3 : FVec F S2560x128 .bf16) (main_arg4 : FVec F S2560x1024 .f32) (main_arg5 : FVec F S8x8193 .f32) (main_arg6 : IVec S5x8x64x8192 8) (main_arg7 : IVec S5x8x64x8192 8) (main_arg8 : FVec F S5x8x8192 .f32) (main_arg9 : FVec F S5x8x8192 .f32) (main_arg10 : FVec F S5x8x8192 .f32) (main_arg11 : FVec F S5x8x8192 .f32) : IVec S5 1 :=
  let main_c : IVec S_ 32 := constantI S_ 32 0#32
  let main_v0 : IVec S5 32 := broadcastInDim S5 ![] bcast_S_S5 main_c
  let main_v1 : IVec S5 1 := cmpi .sge main_arg0 main_v0
  let main_c_0 : IVec S_ 32 := constantI S_ 32 2560#32
  let main_v2 : IVec S5 32 := broadcastInDim S5 ![] bcast_S_S5 main_c_0
  let main_v3 : IVec S5 1 := cmpi .sle main_arg0 main_v2
  let main_v4 : IVec S5 1 := andi main_v1 main_v3
  let main_c_1 : IVec S_ 32 := constantI S_ 32 0#32
  let main_v5 : IVec S_ 32 := (fun x v => Host.reduce IntOp.addi x v reducesTo_S5_S_d0 h_S_) main_arg0 main_c_1
  let main_c_2 : IVec S_ 32 := constantI S_ 32 2560#32
  let main_v6 : IVec S_ 1 := cmpi .eq main_v5 main_c_2
  let main_v7 : IVec S5 1 := broadcastInDim S5 ![] bcast_S_S5 main_v6
  let main_v8 : IVec S5 1 := andi main_v4 main_v7
  let main_c_3 : IVec S_ 32 := constantI S_ 32 1#32
  let main_v9 : IVec S5 32 := broadcastInDim S5 ![] bcast_S_S5 main_c_3
  let main_v10 : IVec S5 1 := cmpi .sge main_arg1 main_v9
  let main_v11 : IVec S5 1 := andi main_v8 main_v10
  let main_c_4 : IVec S_ 32 := constantI S_ 32 8192#32
  let main_v12 : IVec S5 32 := broadcastInDim S5 ![] bcast_S_S5 main_c_4
  let main_v13 : IVec S5 1 := cmpi .sle main_arg1 main_v12
  let main_v14 : IVec S5 1 := andi main_v11 main_v13
  main_v14
-- ==== Kernel.lean ====
abbrev S5 : Shape := ⟨1, ![5]⟩
abbrev S2560x1024 : Shape := ⟨2, ![2560, 1024]⟩
abbrev S2560x128 : Shape := ⟨2, ![2560, 128]⟩
abbrev S8x8193 : Shape := ⟨2, ![8, 8193]⟩
abbrev S5x8x64x8192 : Shape := ⟨4, ![5, 8, 64, 8192]⟩
abbrev S5x8x8192 : Shape := ⟨3, ![5, 8, 8192]⟩
abbrev S1x1x64x8192 : Shape := ⟨4, ![1, 1, 64, 8192]⟩
abbrev S1x8x8192 : Shape := ⟨3, ![1, 8, 8192]⟩
abbrev S256x8192 : Shape := ⟨2, ![256, 8192]⟩
abbrev S8x8192 : Shape := ⟨2, ![8, 8192]⟩
abbrev S256x256 : Shape := ⟨2, ![256, 256]⟩
abbrev S1 : Shape := ⟨1, ![1]⟩
abbrev S1x8192 : Shape := ⟨2, ![1, 8192]⟩
abbrev S128x512 : Shape := ⟨2, ![128, 512]⟩
abbrev S1x512 : Shape := ⟨2, ![1, 512]⟩
abbrev S1x1x512 : Shape := ⟨3, ![1, 1, 512]⟩
abbrev S16x512 : Shape := ⟨2, ![16, 512]⟩
abbrev S1x1x64x512 : Shape := ⟨4, ![1, 1, 64, 512]⟩
abbrev S64x512 : Shape := ⟨2, ![64, 512]⟩
abbrev S64x1x512 : Shape := ⟨3, ![64, 1, 512]⟩
abbrev S64x2x512 : Shape := ⟨3, ![64, 2, 512]⟩
abbrev S256x128 : Shape := ⟨2, ![256, 128]⟩
abbrev S256x512 : Shape := ⟨2, ![256, 512]⟩
abbrev S256 : Shape := ⟨1, ![256]⟩
abbrev S256x1 : Shape := ⟨2, ![256, 1]⟩

abbrev nBuf : Space → Nat
  | .hbm => 13
  | .vmem => 24
  | .smem => 2
  | _ => 0

abbrev bufTy : (tb : Table) → Fin (tcTables nBuf tb) → BufTy
  | .hbm, ⟨0, _⟩ => ⟨S5, .i32⟩
  | .hbm, ⟨1, _⟩ => ⟨S5, .i32⟩
  | .hbm, ⟨2, _⟩ => ⟨S2560x1024, .bf16⟩
  | .hbm, ⟨3, _⟩ => ⟨S2560x128, .bf16⟩
  | .hbm, ⟨4, _⟩ => ⟨S2560x1024, .f32⟩
  | .hbm, ⟨5, _⟩ => ⟨S8x8193, .f32⟩
  | .hbm, ⟨6, _⟩ => ⟨S5x8x64x8192, .i8⟩
  | .hbm, ⟨7, _⟩ => ⟨S5x8x64x8192, .i8⟩
  | .hbm, ⟨8, _⟩ => ⟨S5x8x8192, .f32⟩
  | .hbm, ⟨9, _⟩ => ⟨S5x8x8192, .f32⟩
  | .hbm, ⟨10, _⟩ => ⟨S5x8x8192, .f32⟩
  | .hbm, ⟨11, _⟩ => ⟨S5x8x8192, .f32⟩
  | .hbm, ⟨12, _⟩ => ⟨S2560x1024, .f32⟩
  | .local _ .vmem, ⟨0, _⟩ => ⟨S2560x128, .bf16⟩
  | .local _ .vmem, ⟨1, _⟩ => ⟨S2560x128, .bf16⟩
  | .local _ .vmem, ⟨2, _⟩ => ⟨S2560x128, .bf16⟩
  | .local _ .vmem, ⟨3, _⟩ => ⟨S2560x128, .f32⟩
  | .local _ .vmem, ⟨4, _⟩ => ⟨S2560x128, .f32⟩
  | .local _ .vmem, ⟨5, _⟩ => ⟨S8x8193, .f32⟩
  | .local _ .vmem, ⟨6, _⟩ => ⟨S1x1x64x8192, .i8⟩
  | .local _ .vmem, ⟨7, _⟩ => ⟨S1x1x64x8192, .i8⟩
  | .local _ .vmem, ⟨8, _⟩ => ⟨S1x1x64x8192, .i8⟩
  | .local _ .vmem, ⟨9, _⟩ => ⟨S1x1x64x8192, .i8⟩
  | .local _ .vmem, ⟨10, _⟩ => ⟨S1x8x8192, .f32⟩
  | .local _ .vmem, ⟨11, _⟩ => ⟨S1x8x8192, .f32⟩
  | .local _ .vmem, ⟨12, _⟩ => ⟨S1x8x8192, .f32⟩
  | .local _ .vmem, ⟨13, _⟩ => ⟨S1x8x8192, .f32⟩
  | .local _ .vmem, ⟨14, _⟩ => ⟨S1x8x8192, .f32⟩
  | .local _ .vmem, ⟨15, _⟩ => ⟨S1x8x8192, .f32⟩
  | .local _ .vmem, ⟨16, _⟩ => ⟨S1x8x8192, .f32⟩
  | .local _ .vmem, ⟨17, _⟩ => ⟨S1x8x8192, .f32⟩
  | .local _ .vmem, ⟨18, _⟩ => ⟨S2560x128, .f32⟩
  | .local _ .vmem, ⟨19, _⟩ => ⟨S2560x128, .f32⟩
  | .local _ .vmem, ⟨20, _⟩ => ⟨S256x8192, .bf16⟩
  | .local _ .vmem, ⟨21, _⟩ => ⟨S256x8192, .bf16⟩
  | .local _ .vmem, ⟨22, _⟩ => ⟨S8x8192, .f32⟩
  | .local _ .vmem, ⟨23, _⟩ => ⟨S256x256, .f32⟩
  | .local _ .smem, ⟨0, _⟩ => ⟨S5, .i32⟩
  | .local _ .smem, ⟨1, _⟩ => ⟨S5, .i32⟩
  | _, _ => ⟨S5, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 5], ![false, false]⟩

def k0_off1 (i : grid0.Coords) : Fin 1 → Nat :=
  let arg1 : BitVec 32 := BitVec.ofNat 32 (i 1).val
  let v20 : Index := Scalar.indexCast arg1
  ![v20.toNat]
def k0_off2 (i : grid0.Coords) : Fin 2 → Nat :=
  let arg0 : BitVec 32 := BitVec.ofNat 32 (i 0).val
  let v32 : Index := Scalar.indexCast arg0
  let c0_9 : Index := 0#32
  ![v32.toNat, 0]
@[reducible] def k0_t1_loop (i : grid0.Coords) (v1 : BitVec 32) (v5 : BitVec 32) (v9 : BitVec 32) (v13 : BitVec 32) (v17 : BitVec 32) (v21 : BitVec 32) (v24 : BitVec 32) : Scf.Loop 32 :=
  let c0_i32_12 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v39 : BitVec 32 := Scalar.subi v28 c0_i32_12
  let c1_i32_14 : BitVec 32 := 1#32
  let v41 : BitVec 32 := Scalar.divsi v39 c1_i32_14
  let v42 : BitVec 32 := Scalar.muli v41 c1_i32_14
  let v43 : BitVec 32 := Scalar.addi c0_i32_12 v42
  let c1_i32_15 : BitVec 32 := 1#32
  ⟨c0_i32_12, v43, c1_i32_15⟩
def k0_cond1 (i : grid0.Coords) (v1 : BitVec 32) (v5 : BitVec 32) (v9 : BitVec 32) (v13 : BitVec 32) (v17 : BitVec 32) (v21 : BitVec 32) (v24 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let c0_i32_7 : BitVec 32 := 0#32
  let v29 : BitVec 1 := Scalar.cmpi .sgt v28 c0_i32_7
  let v30 : BitVec 32 := Scalar.extui v29
  let c0_i32_8 : BitVec 32 := 0#32
  let v31 : BitVec 1 := Scalar.cmpi .ne v30 c0_i32_8
  v31

def k0_mult1 (i : grid0.Coords) (v1 : BitVec 32) (v5 : BitVec 32) (v9 : BitVec 32) (v13 : BitVec 32) (v17 : BitVec 32) (v21 : BitVec 32) (v24 : BitVec 32) (k0_t1 : Fin (k0_t1_loop i v1 v5 v9 v13 v17 v21 v24).trips) : BitVec 32 :=
  let c0_i32_12 : BitVec 32 := 0#32
  let c1_i32_15 : BitVec 32 := 1#32
  let arg19 : BitVec 32 := Scf.iv c0_i32_12 c1_i32_15 k0_t1
  let c512_i32_29 : BitVec 32 := 512#32
  let v74 : BitVec 32 := Scalar.muli arg19 c512_i32_29
  v74
def k0_off3 (i : grid0.Coords) (v1 : BitVec 32) (v5 : BitVec 32) (v9 : BitVec 32) (v13 : BitVec 32) (v17 : BitVec 32) (v21 : BitVec 32) (v24 : BitVec 32) (k0_t1 : Fin (k0_t1_loop i v1 v5 v9 v13 v17 v21 v24).trips) : Fin 3 → Nat :=
  let c0_30 : Index := 0#32
  let arg0 : BitVec 32 := BitVec.ofNat 32 (i 0).val
  let v81 : Index := Scalar.indexCast arg0
  let c0_i32_12 : BitVec 32 := 0#32
  let c1_i32_15 : BitVec 32 := 1#32
  let arg19 : BitVec 32 := Scf.iv c0_i32_12 c1_i32_15 k0_t1
  let c512_i32_29 : BitVec 32 := 512#32
  let v74 : BitVec 32 := Scalar.muli arg19 c512_i32_29
  let v75 : BitVec 32 := v74
  let v82 : Index := Scalar.indexCast v75
  ![0, v81.toNat, v82.toNat]
def k0_off4 (i : grid0.Coords) (v1 : BitVec 32) (v5 : BitVec 32) (v9 : BitVec 32) (v13 : BitVec 32) (v17 : BitVec 32) (v21 : BitVec 32) (v24 : BitVec 32) (k0_t1 : Fin (k0_t1_loop i v1 v5 v9 v13 v17 v21 v24).trips) : Fin 2 → Nat :=
  let c0_33 : Index := 0#32
  let c0_i32_12 : BitVec 32 := 0#32
  let c1_i32_15 : BitVec 32 := 1#32
  let arg19 : BitVec 32 := Scf.iv c0_i32_12 c1_i32_15 k0_t1
  let c512_i32_29 : BitVec 32 := 512#32
  let v74 : BitVec 32 := Scalar.muli arg19 c512_i32_29
  let v75 : BitVec 32 := v74
  let v89 : Index := Scalar.indexCast v75
  ![0, v89.toNat]
def k0_off5 (i : grid0.Coords) (v1 : BitVec 32) (v5 : BitVec 32) (v9 : BitVec 32) (v13 : BitVec 32) (v17 : BitVec 32) (v21 : BitVec 32) (v24 : BitVec 32) (k0_t1 : Fin (k0_t1_loop i v1 v5 v9 v13 v17 v21 v24).trips) : Fin 2 → Nat :=
  let c2_36 : Index := 2#32
  let c0_i32_12 : BitVec 32 := 0#32
  let c1_i32_15 : BitVec 32 := 1#32
  let arg19 : BitVec 32 := Scf.iv c0_i32_12 c1_i32_15 k0_t1
  let c512_i32_29 : BitVec 32 := 512#32
  let v74 : BitVec 32 := Scalar.muli arg19 c512_i32_29
  let v75 : BitVec 32 := v74
  let v99 : Index := Scalar.indexCast v75
  ![2, v99.toNat]
def k0_off6 (i : grid0.Coords) (v1 : BitVec 32) (v5 : BitVec 32) (v9 : BitVec 32) (v13 : BitVec 32) (v17 : BitVec 32) (v21 : BitVec 32) (v24 : BitVec 32) (k0_t1 : Fin (k0_t1_loop i v1 v5 v9 v13 v17 v21 v24).trips) : Fin 4 → Nat :=
  let c0_52 : Index := 0#32
  let c0_53 : Index := 0#32
  let c0_54 : Index := 0#32
  let c0_i32_12 : BitVec 32 := 0#32
  let c1_i32_15 : BitVec 32 := 1#32
  let arg19 : BitVec 32 := Scf.iv c0_i32_12 c1_i32_15 k0_t1
  let c512_i32_29 : BitVec 32 := 512#32
  let v74 : BitVec 32 := Scalar.muli arg19 c512_i32_29
  let v75 : BitVec 32 := v74
  let v200 : Index := Scalar.indexCast v75
  ![0, 0, 0, v200.toNat]
def k0_off7 (i : grid0.Coords) (v1 : BitVec 32) (v5 : BitVec 32) (v9 : BitVec 32) (v13 : BitVec 32) (v17 : BitVec 32) (v21 : BitVec 32) (v24 : BitVec 32) (k0_t1 : Fin (k0_t1_loop i v1 v5 v9 v13 v17 v21 v24).trips) : Fin 2 → Nat :=
  let c0_56 : Index := 0#32
  let c0_i32_12 : BitVec 32 := 0#32
  let c1_i32_15 : BitVec 32 := 1#32
  let arg19 : BitVec 32 := Scf.iv c0_i32_12 c1_i32_15 k0_t1
  let c512_i32_29 : BitVec 32 := 512#32
  let v74 : BitVec 32 := Scalar.muli arg19 c512_i32_29
  let v75 : BitVec 32 := v74
  let v213 : Index := Scalar.indexCast v75
  ![0, v213.toNat]
def k0_off8 (i : grid0.Coords) (v1 : BitVec 32) (v5 : BitVec 32) (v9 : BitVec 32) (v13 : BitVec 32) (v17 : BitVec 32) (v21 : BitVec 32) (v24 : BitVec 32) (k0_t1 : Fin (k0_t1_loop i v1 v5 v9 v13 v17 v21 v24).trips) : Fin 2 → Nat :=
  let c128 : Index := 128#32
  let c0_i32_12 : BitVec 32 := 0#32
  let c1_i32_15 : BitVec 32 := 1#32
  let arg19 : BitVec 32 := Scf.iv c0_i32_12 c1_i32_15 k0_t1
  let c512_i32_29 : BitVec 32 := 512#32
  let v74 : BitVec 32 := Scalar.muli arg19 c512_i32_29
  let v75 : BitVec 32 := v74
  let v217 : Index := Scalar.indexCast v75
  ![128, v217.toNat]
def k0_mult2 (i : grid0.Coords) : BitVec 32 :=
  let c128_i32 : BitVec 32 := 128#32
  let arg0 : BitVec 32 := BitVec.ofNat 32 (i 0).val
  let c16_i32_57 : BitVec 32 := 16#32
  let v222 : BitVec 32 := Scalar.muli arg0 c16_i32_57
  let v223 : BitVec 32 := Scalar.addi c128_i32 v222
  v223
def k0_off9 (i : grid0.Coords) (v1 : BitVec 32) (v5 : BitVec 32) (v9 : BitVec 32) (v13 : BitVec 32) (v17 : BitVec 32) (v21 : BitVec 32) (v24 : BitVec 32) (k0_t1 : Fin (k0_t1_loop i v1 v5 v9 v13 v17 v21 v24).trips) : Fin 2 → Nat :=
  let c128_i32 : BitVec 32 := 128#32
  let arg0 : BitVec 32 := BitVec.ofNat 32 (i 0).val
  let c16_i32_57 : BitVec 32 := 16#32
  let v222 : BitVec 32 := Scalar.muli arg0 c16_i32_57
  let v223 : BitVec 32 := Scalar.addi c128_i32 v222
  let v224 : BitVec 32 := v223
  let v225 : Index := Scalar.indexCast v224
  let c0_i32_12 : BitVec 32 := 0#32
  let c1_i32_15 : BitVec 32 := 1#32
  let arg19 : BitVec 32 := Scf.iv c0_i32_12 c1_i32_15 k0_t1
  let c512_i32_29 : BitVec 32 := 512#32
  let v74 : BitVec 32 := Scalar.muli arg19 c512_i32_29
  let v75 : BitVec 32 := v74
  let v226 : Index := Scalar.indexCast v75
  ![v225.toNat, v226.toNat]
def k0_off10 (i : grid0.Coords) (v1 : BitVec 32) (v5 : BitVec 32) (v9 : BitVec 32) (v13 : BitVec 32) (v17 : BitVec 32) (v21 : BitVec 32) (v24 : BitVec 32) (k0_t1 : Fin (k0_t1_loop i v1 v5 v9 v13 v17 v21 v24).trips) : Fin 2 → Nat :=
  let c128_65 : Index := 128#32
  let c0_i32_12 : BitVec 32 := 0#32
  let c1_i32_15 : BitVec 32 := 1#32
  let arg19 : BitVec 32 := Scf.iv c0_i32_12 c1_i32_15 k0_t1
  let c512_i32_29 : BitVec 32 := 512#32
  let v74 : BitVec 32 := Scalar.muli arg19 c512_i32_29
  let v75 : BitVec 32 := v74
  let v252 : Index := Scalar.indexCast v75
  ![128, v252.toNat]
@[reducible] def k0_t2_loop (i : grid0.Coords) (v1 : BitVec 32) (v5 : BitVec 32) (v9 : BitVec 32) (v13 : BitVec 32) (v17 : BitVec 32) (v21 : BitVec 32) (v24 : BitVec 32) : Scf.Loop 32 :=
  let c0_i32_12 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v39 : BitVec 32 := Scalar.subi v28 c0_i32_12
  let c1_i32_14 : BitVec 32 := 1#32
  let v41 : BitVec 32 := Scalar.divsi v39 c1_i32_14
  let v42 : BitVec 32 := Scalar.muli v41 c1_i32_14
  let v43 : BitVec 32 := Scalar.addi c0_i32_12 v42
  let v40 : BitVec 32 := Scalar.addi c0_i32_12 v39
  let c1_i32_16 : BitVec 32 := 1#32
  ⟨v43, v40, c1_i32_16⟩
def k0_mult3 (i : grid0.Coords) (v1 : BitVec 32) (v5 : BitVec 32) (v9 : BitVec 32) (v13 : BitVec 32) (v17 : BitVec 32) (v21 : BitVec 32) (v24 : BitVec 32) (k0_t2 : Fin (k0_t2_loop i v1 v5 v9 v13 v17 v21 v24).trips) : BitVec 32 :=
  let c0_i32_12 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v39 : BitVec 32 := Scalar.subi v28 c0_i32_12
  let c1_i32_14 : BitVec 32 := 1#32
  let v41 : BitVec 32 := Scalar.divsi v39 c1_i32_14
  let v42 : BitVec 32 := Scalar.muli v41 c1_i32_14
  let v43 : BitVec 32 := Scalar.addi c0_i32_12 v42
  let c1_i32_16 : BitVec 32 := 1#32
  let arg19 : BitVec 32 := Scf.iv v43 c1_i32_16 k0_t2
  let c512_i32_29 : BitVec 32 := 512#32
  let v74 : BitVec 32 := Scalar.muli arg19 c512_i32_29
  v74
def k0_off11 (i : grid0.Coords) (v1 : BitVec 32) (v5 : BitVec 32) (v9 : BitVec 32) (v13 : BitVec 32) (v17 : BitVec 32) (v21 : BitVec 32) (v24 : BitVec 32) (k0_t2 : Fin (k0_t2_loop i v1 v5 v9 v13 v17 v21 v24).trips) : Fin 3 → Nat :=
  let c0_30 : Index := 0#32
  let arg0 : BitVec 32 := BitVec.ofNat 32 (i 0).val
  let v81 : Index := Scalar.indexCast arg0
  let c0_i32_12 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v39 : BitVec 32 := Scalar.subi v28 c0_i32_12
  let c1_i32_14 : BitVec 32 := 1#32
  let v41 : BitVec 32 := Scalar.divsi v39 c1_i32_14
  let v42 : BitVec 32 := Scalar.muli v41 c1_i32_14
  let v43 : BitVec 32 := Scalar.addi c0_i32_12 v42
  let c1_i32_16 : BitVec 32 := 1#32
  let arg19 : BitVec 32 := Scf.iv v43 c1_i32_16 k0_t2
  let c512_i32_29 : BitVec 32 := 512#32
  let v74 : BitVec 32 := Scalar.muli arg19 c512_i32_29
  let v75 : BitVec 32 := v74
  let v82 : Index := Scalar.indexCast v75
  ![0, v81.toNat, v82.toNat]
def k0_off12 (i : grid0.Coords) (v1 : BitVec 32) (v5 : BitVec 32) (v9 : BitVec 32) (v13 : BitVec 32) (v17 : BitVec 32) (v21 : BitVec 32) (v24 : BitVec 32) (k0_t2 : Fin (k0_t2_loop i v1 v5 v9 v13 v17 v21 v24).trips) : Fin 2 → Nat :=
  let c0_33 : Index := 0#32
  let c0_i32_12 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v39 : BitVec 32 := Scalar.subi v28 c0_i32_12
  let c1_i32_14 : BitVec 32 := 1#32
  let v41 : BitVec 32 := Scalar.divsi v39 c1_i32_14
  let v42 : BitVec 32 := Scalar.muli v41 c1_i32_14
  let v43 : BitVec 32 := Scalar.addi c0_i32_12 v42
  let c1_i32_16 : BitVec 32 := 1#32
  let arg19 : BitVec 32 := Scf.iv v43 c1_i32_16 k0_t2
  let c512_i32_29 : BitVec 32 := 512#32
  let v74 : BitVec 32 := Scalar.muli arg19 c512_i32_29
  let v75 : BitVec 32 := v74
  let v89 : Index := Scalar.indexCast v75
  ![0, v89.toNat]
def k0_off13 (i : grid0.Coords) (v1 : BitVec 32) (v5 : BitVec 32) (v9 : BitVec 32) (v13 : BitVec 32) (v17 : BitVec 32) (v21 : BitVec 32) (v24 : BitVec 32) (k0_t2 : Fin (k0_t2_loop i v1 v5 v9 v13 v17 v21 v24).trips) : Fin 2 → Nat :=
  let c2_36 : Index := 2#32
  let c0_i32_12 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v39 : BitVec 32 := Scalar.subi v28 c0_i32_12
  let c1_i32_14 : BitVec 32 := 1#32
  let v41 : BitVec 32 := Scalar.divsi v39 c1_i32_14
  let v42 : BitVec 32 := Scalar.muli v41 c1_i32_14
  let v43 : BitVec 32 := Scalar.addi c0_i32_12 v42
  let c1_i32_16 : BitVec 32 := 1#32
  let arg19 : BitVec 32 := Scf.iv v43 c1_i32_16 k0_t2
  let c512_i32_29 : BitVec 32 := 512#32
  let v74 : BitVec 32 := Scalar.muli arg19 c512_i32_29
  let v75 : BitVec 32 := v74
  let v99 : Index := Scalar.indexCast v75
  ![2, v99.toNat]
def k0_off14 (i : grid0.Coords) (v1 : BitVec 32) (v5 : BitVec 32) (v9 : BitVec 32) (v13 : BitVec 32) (v17 : BitVec 32) (v21 : BitVec 32) (v24 : BitVec 32) (k0_t2 : Fin (k0_t2_loop i v1 v5 v9 v13 v17 v21 v24).trips) : Fin 4 → Nat :=
  let c0_52 : Index := 0#32
  let c0_53 : Index := 0#32
  let c0_54 : Index := 0#32
  let c0_i32_12 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v39 : BitVec 32 := Scalar.subi v28 c0_i32_12
  let c1_i32_14 : BitVec 32 := 1#32
  let v41 : BitVec 32 := Scalar.divsi v39 c1_i32_14
  let v42 : BitVec 32 := Scalar.muli v41 c1_i32_14
  let v43 : BitVec 32 := Scalar.addi c0_i32_12 v42
  let c1_i32_16 : BitVec 32 := 1#32
  let arg19 : BitVec 32 := Scf.iv v43 c1_i32_16 k0_t2
  let c512_i32_29 : BitVec 32 := 512#32
  let v74 : BitVec 32 := Scalar.muli arg19 c512_i32_29
  let v75 : BitVec 32 := v74
  let v200 : Index := Scalar.indexCast v75
  ![0, 0, 0, v200.toNat]
def k0_off15 (i : grid0.Coords) (v1 : BitVec 32) (v5 : BitVec 32) (v9 : BitVec 32) (v13 : BitVec 32) (v17 : BitVec 32) (v21 : BitVec 32) (v24 : BitVec 32) (k0_t2 : Fin (k0_t2_loop i v1 v5 v9 v13 v17 v21 v24).trips) : Fin 2 → Nat :=
  let c0_56 : Index := 0#32
  let c0_i32_12 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v39 : BitVec 32 := Scalar.subi v28 c0_i32_12
  let c1_i32_14 : BitVec 32 := 1#32
  let v41 : BitVec 32 := Scalar.divsi v39 c1_i32_14
  let v42 : BitVec 32 := Scalar.muli v41 c1_i32_14
  let v43 : BitVec 32 := Scalar.addi c0_i32_12 v42
  let c1_i32_16 : BitVec 32 := 1#32
  let arg19 : BitVec 32 := Scf.iv v43 c1_i32_16 k0_t2
  let c512_i32_29 : BitVec 32 := 512#32
  let v74 : BitVec 32 := Scalar.muli arg19 c512_i32_29
  let v75 : BitVec 32 := v74
  let v213 : Index := Scalar.indexCast v75
  ![0, v213.toNat]
def k0_off16 (i : grid0.Coords) (v1 : BitVec 32) (v5 : BitVec 32) (v9 : BitVec 32) (v13 : BitVec 32) (v17 : BitVec 32) (v21 : BitVec 32) (v24 : BitVec 32) (k0_t2 : Fin (k0_t2_loop i v1 v5 v9 v13 v17 v21 v24).trips) : Fin 2 → Nat :=
  let c128 : Index := 128#32
  let c0_i32_12 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v39 : BitVec 32 := Scalar.subi v28 c0_i32_12
  let c1_i32_14 : BitVec 32 := 1#32
  let v41 : BitVec 32 := Scalar.divsi v39 c1_i32_14
  let v42 : BitVec 32 := Scalar.muli v41 c1_i32_14
  let v43 : BitVec 32 := Scalar.addi c0_i32_12 v42
  let c1_i32_16 : BitVec 32 := 1#32
  let arg19 : BitVec 32 := Scf.iv v43 c1_i32_16 k0_t2
  let c512_i32_29 : BitVec 32 := 512#32
  let v74 : BitVec 32 := Scalar.muli arg19 c512_i32_29
  let v75 : BitVec 32 := v74
  let v217 : Index := Scalar.indexCast v75
  ![128, v217.toNat]
def k0_mult4 (i : grid0.Coords) : BitVec 32 :=
  let c128_i32 : BitVec 32 := 128#32
  let arg0 : BitVec 32 := BitVec.ofNat 32 (i 0).val
  let c16_i32_57 : BitVec 32 := 16#32
  let v222 : BitVec 32 := Scalar.muli arg0 c16_i32_57
  let v223 : BitVec 32 := Scalar.addi c128_i32 v222
  v223
def k0_off17 (i : grid0.Coords) (v1 : BitVec 32) (v5 : BitVec 32) (v9 : BitVec 32) (v13 : BitVec 32) (v17 : BitVec 32) (v21 : BitVec 32) (v24 : BitVec 32) (k0_t2 : Fin (k0_t2_loop i v1 v5 v9 v13 v17 v21 v24).trips) : Fin 2 → Nat :=
  let c128_i32 : BitVec 32 := 128#32
  let arg0 : BitVec 32 := BitVec.ofNat 32 (i 0).val
  let c16_i32_57 : BitVec 32 := 16#32
  let v222 : BitVec 32 := Scalar.muli arg0 c16_i32_57
  let v223 : BitVec 32 := Scalar.addi c128_i32 v222
  let v224 : BitVec 32 := v223
  let v225 : Index := Scalar.indexCast v224
  let c0_i32_12 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v39 : BitVec 32 := Scalar.subi v28 c0_i32_12
  let c1_i32_14 : BitVec 32 := 1#32
  let v41 : BitVec 32 := Scalar.divsi v39 c1_i32_14
  let v42 : BitVec 32 := Scalar.muli v41 c1_i32_14
  let v43 : BitVec 32 := Scalar.addi c0_i32_12 v42
  let c1_i32_16 : BitVec 32 := 1#32
  let arg19 : BitVec 32 := Scf.iv v43 c1_i32_16 k0_t2
  let c512_i32_29 : BitVec 32 := 512#32
  let v74 : BitVec 32 := Scalar.muli arg19 c512_i32_29
  let v75 : BitVec 32 := v74
  let v226 : Index := Scalar.indexCast v75
  ![v225.toNat, v226.toNat]
def k0_off18 (i : grid0.Coords) (v1 : BitVec 32) (v5 : BitVec 32) (v9 : BitVec 32) (v13 : BitVec 32) (v17 : BitVec 32) (v21 : BitVec 32) (v24 : BitVec 32) (k0_t2 : Fin (k0_t2_loop i v1 v5 v9 v13 v17 v21 v24).trips) : Fin 2 → Nat :=
  let c128_65 : Index := 128#32
  let c0_i32_12 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v39 : BitVec 32 := Scalar.subi v28 c0_i32_12
  let c1_i32_14 : BitVec 32 := 1#32
  let v41 : BitVec 32 := Scalar.divsi v39 c1_i32_14
  let v42 : BitVec 32 := Scalar.muli v41 c1_i32_14
  let v43 : BitVec 32 := Scalar.addi c0_i32_12 v42
  let c1_i32_16 : BitVec 32 := 1#32
  let arg19 : BitVec 32 := Scf.iv v43 c1_i32_16 k0_t2
  let c512_i32_29 : BitVec 32 := 512#32
  let v74 : BitVec 32 := Scalar.muli arg19 c512_i32_29
  let v75 : BitVec 32 := v74
  let v252 : Index := Scalar.indexCast v75
  ![128, v252.toNat]
@[reducible] def k0_t3_loop (i : grid0.Coords) (v1 : BitVec 32) (v5 : BitVec 32) (v9 : BitVec 32) (v13 : BitVec 32) (v17 : BitVec 32) (v21 : BitVec 32) : Scf.Loop 32 :=
  let c0_i32_24 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let c0_i32_17 : BitVec 32 := 0#32
  let v47 : BitVec 1 := Scalar.cmpi .sgt v19 c0_i32_17
  let v48 : BitVec 32 := Scalar.extui v47
  let c0_i32_18 : BitVec 32 := 0#32
  let v49 : BitVec 1 := Scalar.cmpi .slt v19 c0_i32_18
  let v50 : BitVec 32 := Scalar.extui v49
  let v51 : BitVec 32 := Scalar.subi v48 v50
  let c16_i32 : BitVec 32 := 16#32
  let c0_i32_19 : BitVec 32 := 0#32
  let v52 : BitVec 1 := Scalar.cmpi .sgt c16_i32 c0_i32_19
  let v53 : BitVec 32 := Scalar.extui v52
  let c0_i32_20 : BitVec 32 := 0#32
  let v54 : BitVec 1 := Scalar.cmpi .slt c16_i32 c0_i32_20
  let v55 : BitVec 32 := Scalar.extui v54
  let v56 : BitVec 32 := Scalar.subi v53 v55
  let v57 : BitVec 1 := Scalar.cmpi .ne v51 v56
  let v58 : BitVec 32 := Scalar.remsi v19 c16_i32
  let c0_i32_21 : BitVec 32 := 0#32
  let v59 : BitVec 1 := Scalar.cmpi .ne v58 c0_i32_21
  let v60 : BitVec 1 := Scalar.andi v57 v59
  let v46 : BitVec 32 := Scalar.divsi v19 c16_i32
  let c1_i32_22 : BitVec 32 := 1#32
  let v61 : BitVec 32 := Scalar.subi v46 c1_i32_22
  let v62 : BitVec 32 := Scalar.select v60 v61 v46
  let c16_i32_23 : BitVec 32 := 16#32
  let v63 : BitVec 32 := Scalar.muli v62 c16_i32_23
  let v64 : BitVec 32 := Scalar.subi v22 v63
  let c255_i32 : BitVec 32 := 255#32
  let v65 : BitVec 32 := Scalar.addi v64 c255_i32
  let c256_i32 : BitVec 32 := 256#32
  let v66 : BitVec 32 := Scalar.divsi v65 c256_i32
  let v67 : BitVec 32 := Scalar.subi v66 c0_i32_24
  let c1_i32_26 : BitVec 32 := 1#32
  let v69 : BitVec 32 := Scalar.divsi v67 c1_i32_26
  let v70 : BitVec 32 := Scalar.muli v69 c1_i32_26
  let v71 : BitVec 32 := Scalar.addi c0_i32_24 v70
  let c1_i32_27 : BitVec 32 := 1#32
  ⟨c0_i32_24, v71, c1_i32_27⟩
def k0_mult5 (i : grid0.Coords) (v1 : BitVec 32) (v5 : BitVec 32) (v9 : BitVec 32) (v13 : BitVec 32) (v17 : BitVec 32) (v21 : BitVec 32) (k0_t3 : Fin (k0_t3_loop i v1 v5 v9 v13 v17 v21).trips) : BitVec 32 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let c0_i32_17 : BitVec 32 := 0#32
  let v47 : BitVec 1 := Scalar.cmpi .sgt v19 c0_i32_17
  let v48 : BitVec 32 := Scalar.extui v47
  let c0_i32_18 : BitVec 32 := 0#32
  let v49 : BitVec 1 := Scalar.cmpi .slt v19 c0_i32_18
  let v50 : BitVec 32 := Scalar.extui v49
  let v51 : BitVec 32 := Scalar.subi v48 v50
  let c16_i32 : BitVec 32 := 16#32
  let c0_i32_19 : BitVec 32 := 0#32
  let v52 : BitVec 1 := Scalar.cmpi .sgt c16_i32 c0_i32_19
  let v53 : BitVec 32 := Scalar.extui v52
  let c0_i32_20 : BitVec 32 := 0#32
  let v54 : BitVec 1 := Scalar.cmpi .slt c16_i32 c0_i32_20
  let v55 : BitVec 32 := Scalar.extui v54
  let v56 : BitVec 32 := Scalar.subi v53 v55
  let v57 : BitVec 1 := Scalar.cmpi .ne v51 v56
  let v58 : BitVec 32 := Scalar.remsi v19 c16_i32
  let c0_i32_21 : BitVec 32 := 0#32
  let v59 : BitVec 1 := Scalar.cmpi .ne v58 c0_i32_21
  let v60 : BitVec 1 := Scalar.andi v57 v59
  let v46 : BitVec 32 := Scalar.divsi v19 c16_i32
  let c1_i32_22 : BitVec 32 := 1#32
  let v61 : BitVec 32 := Scalar.subi v46 c1_i32_22
  let v62 : BitVec 32 := Scalar.select v60 v61 v46
  let c16_i32_23 : BitVec 32 := 16#32
  let v63 : BitVec 32 := Scalar.muli v62 c16_i32_23
  let c0_i32_24 : BitVec 32 := 0#32
  let c1_i32_27 : BitVec 32 := 1#32
  let arg19 : BitVec 32 := Scf.iv c0_i32_24 c1_i32_27 k0_t3
  let c256_i32_29 : BitVec 32 := 256#32
  let v74 : BitVec 32 := Scalar.muli arg19 c256_i32_29
  let v75 : BitVec 32 := Scalar.addi v63 v74
  let c2304_i32 : BitVec 32 := 2304#32
  let v76 : BitVec 32 := Scalar.minsi v75 c2304_i32
  v76
@[reducible] def k0_t4_loop (i : grid0.Coords) (v1 : BitVec 32) (v5 : BitVec 32) (v9 : BitVec 32) (v13 : BitVec 32) (v17 : BitVec 32) (v21 : BitVec 32) (v24 : BitVec 32) : Scf.Loop 32 :=
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_36 : BitVec 32 := 1#32
  ⟨c0_i32_33, v86, c1_i32_36⟩
def k0_mult6 (i : grid0.Coords) (v1 : BitVec 32) (v5 : BitVec 32) (v9 : BitVec 32) (v13 : BitVec 32) (v17 : BitVec 32) (v21 : BitVec 32) (v24 : BitVec 32) (k0_t4 : Fin (k0_t4_loop i v1 v5 v9 v13 v17 v21 v24).trips) : BitVec 32 :=
  let c0_i32_33 : BitVec 32 := 0#32
  let c1_i32_36 : BitVec 32 := 1#32
  let arg21 : BitVec 32 := Scf.iv c0_i32_33 c1_i32_36 k0_t4
  let c512_i32_47 : BitVec 32 := 512#32
  let v116 : BitVec 32 := Scalar.muli arg21 c512_i32_47
  v116
def k0_off19 (i : grid0.Coords) (v1 : BitVec 32) (v5 : BitVec 32) (v9 : BitVec 32) (v13 : BitVec 32) (v17 : BitVec 32) (v21 : BitVec 32) (k0_t3 : Fin (k0_t3_loop i v1 v5 v9 v13 v17 v21).trips) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let c0_i32_17 : BitVec 32 := 0#32
  let v47 : BitVec 1 := Scalar.cmpi .sgt v19 c0_i32_17
  let v48 : BitVec 32 := Scalar.extui v47
  let c0_i32_18 : BitVec 32 := 0#32
  let v49 : BitVec 1 := Scalar.cmpi .slt v19 c0_i32_18
  let v50 : BitVec 32 := Scalar.extui v49
  let v51 : BitVec 32 := Scalar.subi v48 v50
  let c16_i32 : BitVec 32 := 16#32
  let c0_i32_19 : BitVec 32 := 0#32
  let v52 : BitVec 1 := Scalar.cmpi .sgt c16_i32 c0_i32_19
  let v53 : BitVec 32 := Scalar.extui v52
  let c0_i32_20 : BitVec 32 := 0#32
  let v54 : BitVec 1 := Scalar.cmpi .slt c16_i32 c0_i32_20
  let v55 : BitVec 32 := Scalar.extui v54
  let v56 : BitVec 32 := Scalar.subi v53 v55
  let v57 : BitVec 1 := Scalar.cmpi .ne v51 v56
  let v58 : BitVec 32 := Scalar.remsi v19 c16_i32
  let c0_i32_21 : BitVec 32 := 0#32
  let v59 : BitVec 1 := Scalar.cmpi .ne v58 c0_i32_21
  let v60 : BitVec 1 := Scalar.andi v57 v59
  let v46 : BitVec 32 := Scalar.divsi v19 c16_i32
  let c1_i32_22 : BitVec 32 := 1#32
  let v61 : BitVec 32 := Scalar.subi v46 c1_i32_22
  let v62 : BitVec 32 := Scalar.select v60 v61 v46
  let c16_i32_23 : BitVec 32 := 16#32
  let v63 : BitVec 32 := Scalar.muli v62 c16_i32_23
  let c0_i32_24 : BitVec 32 := 0#32
  let c1_i32_27 : BitVec 32 := 1#32
  let arg19 : BitVec 32 := Scf.iv c0_i32_24 c1_i32_27 k0_t3
  let c256_i32_29 : BitVec 32 := 256#32
  let v74 : BitVec 32 := Scalar.muli arg19 c256_i32_29
  let v75 : BitVec 32 := Scalar.addi v63 v74
  let c2304_i32 : BitVec 32 := 2304#32
  let v76 : BitVec 32 := Scalar.minsi v75 c2304_i32
  let v77 : BitVec 32 := v76
  let v118 : Index := Scalar.indexCast v77
  let c0_48 : Index := 0#32
  ![v118.toNat, 0]
def k0_off20 (i : grid0.Coords) (v1 : BitVec 32) (v5 : BitVec 32) (v9 : BitVec 32) (v13 : BitVec 32) (v17 : BitVec 32) (v21 : BitVec 32) (v24 : BitVec 32) (k0_t4 : Fin (k0_t4_loop i v1 v5 v9 v13 v17 v21 v24).trips) : Fin 2 → Nat :=
  let c0_50 : Index := 0#32
  let c0_i32_33 : BitVec 32 := 0#32
  let c1_i32_36 : BitVec 32 := 1#32
  let arg21 : BitVec 32 := Scf.iv c0_i32_33 c1_i32_36 k0_t4
  let c512_i32_47 : BitVec 32 := 512#32
  let v116 : BitVec 32 := Scalar.muli arg21 c512_i32_47
  let v117 : BitVec 32 := v116
  let v123 : Index := Scalar.indexCast v117
  ![0, v123.toNat]
def k0_off21 (i : grid0.Coords) (v1 : BitVec 32) (v5 : BitVec 32) (v9 : BitVec 32) (v13 : BitVec 32) (v17 : BitVec 32) (v21 : BitVec 32) (v24 : BitVec 32) (k0_t4 : Fin (k0_t4_loop i v1 v5 v9 v13 v17 v21 v24).trips) : Fin 2 → Nat :=
  let c0_52 : Index := 0#32
  let c0_i32_33 : BitVec 32 := 0#32
  let c1_i32_36 : BitVec 32 := 1#32
  let arg21 : BitVec 32 := Scf.iv c0_i32_33 c1_i32_36 k0_t4
  let c512_i32_47 : BitVec 32 := 512#32
  let v116 : BitVec 32 := Scalar.muli arg21 c512_i32_47
  let v117 : BitVec 32 := v116
  let v126 : Index := Scalar.indexCast v117
  ![0, v126.toNat]
def k0_off22 (i : grid0.Coords) (v1 : BitVec 32) (v5 : BitVec 32) (v9 : BitVec 32) (v13 : BitVec 32) (v17 : BitVec 32) (v21 : BitVec 32) (v24 : BitVec 32) (k0_t4 : Fin (k0_t4_loop i v1 v5 v9 v13 v17 v21 v24).trips) : Fin 2 → Nat :=
  let c1_53 : Index := 1#32
  let c0_i32_33 : BitVec 32 := 0#32
  let c1_i32_36 : BitVec 32 := 1#32
  let arg21 : BitVec 32 := Scf.iv c0_i32_33 c1_i32_36 k0_t4
  let c512_i32_47 : BitVec 32 := 512#32
  let v116 : BitVec 32 := Scalar.muli arg21 c512_i32_47
  let v117 : BitVec 32 := v116
  let v130 : Index := Scalar.indexCast v117
  ![1, v130.toNat]
def k0_off23 (i : grid0.Coords) (v1 : BitVec 32) (v5 : BitVec 32) (v9 : BitVec 32) (v13 : BitVec 32) (v17 : BitVec 32) (v21 : BitVec 32) (v24 : BitVec 32) (k0_t4 : Fin (k0_t4_loop i v1 v5 v9 v13 v17 v21 v24).trips) : Fin 2 → Nat :=
  let c2_54 : Index := 2#32
  let c0_i32_33 : BitVec 32 := 0#32
  let c1_i32_36 : BitVec 32 := 1#32
  let arg21 : BitVec 32 := Scf.iv c0_i32_33 c1_i32_36 k0_t4
  let c512_i32_47 : BitVec 32 := 512#32
  let v116 : BitVec 32 := Scalar.muli arg21 c512_i32_47
  let v117 : BitVec 32 := v116
  let v136 : Index := Scalar.indexCast v117
  ![2, v136.toNat]
@[reducible] def k0_t5_loop (i : grid0.Coords) (v1 : BitVec 32) (v5 : BitVec 32) (v9 : BitVec 32) (v13 : BitVec 32) (v17 : BitVec 32) (v21 : BitVec 32) (v24 : BitVec 32) : Scf.Loop 32 :=
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let v83 : BitVec 32 := Scalar.addi c0_i32_33 v82
  let c1_i32_37 : BitVec 32 := 1#32
  ⟨v86, v83, c1_i32_37⟩
def k0_mult7 (i : grid0.Coords) (v1 : BitVec 32) (v5 : BitVec 32) (v9 : BitVec 32) (v13 : BitVec 32) (v17 : BitVec 32) (v21 : BitVec 32) (v24 : BitVec 32) (k0_t5 : Fin (k0_t5_loop i v1 v5 v9 v13 v17 v21 v24).trips) : BitVec 32 :=
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_37 : BitVec 32 := 1#32
  let arg21 : BitVec 32 := Scf.iv v86 c1_i32_37 k0_t5
  let c512_i32_47 : BitVec 32 := 512#32
  let v116 : BitVec 32 := Scalar.muli arg21 c512_i32_47
  v116
def k0_off24 (i : grid0.Coords) (v1 : BitVec 32) (v5 : BitVec 32) (v9 : BitVec 32) (v13 : BitVec 32) (v17 : BitVec 32) (v21 : BitVec 32) (k0_t3 : Fin (k0_t3_loop i v1 v5 v9 v13 v17 v21).trips) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let c0_i32_17 : BitVec 32 := 0#32
  let v47 : BitVec 1 := Scalar.cmpi .sgt v19 c0_i32_17
  let v48 : BitVec 32 := Scalar.extui v47
  let c0_i32_18 : BitVec 32 := 0#32
  let v49 : BitVec 1 := Scalar.cmpi .slt v19 c0_i32_18
  let v50 : BitVec 32 := Scalar.extui v49
  let v51 : BitVec 32 := Scalar.subi v48 v50
  let c16_i32 : BitVec 32 := 16#32
  let c0_i32_19 : BitVec 32 := 0#32
  let v52 : BitVec 1 := Scalar.cmpi .sgt c16_i32 c0_i32_19
  let v53 : BitVec 32 := Scalar.extui v52
  let c0_i32_20 : BitVec 32 := 0#32
  let v54 : BitVec 1 := Scalar.cmpi .slt c16_i32 c0_i32_20
  let v55 : BitVec 32 := Scalar.extui v54
  let v56 : BitVec 32 := Scalar.subi v53 v55
  let v57 : BitVec 1 := Scalar.cmpi .ne v51 v56
  let v58 : BitVec 32 := Scalar.remsi v19 c16_i32
  let c0_i32_21 : BitVec 32 := 0#32
  let v59 : BitVec 1 := Scalar.cmpi .ne v58 c0_i32_21
  let v60 : BitVec 1 := Scalar.andi v57 v59
  let v46 : BitVec 32 := Scalar.divsi v19 c16_i32
  let c1_i32_22 : BitVec 32 := 1#32
  let v61 : BitVec 32 := Scalar.subi v46 c1_i32_22
  let v62 : BitVec 32 := Scalar.select v60 v61 v46
  let c16_i32_23 : BitVec 32 := 16#32
  let v63 : BitVec 32 := Scalar.muli v62 c16_i32_23
  let c0_i32_24 : BitVec 32 := 0#32
  let c1_i32_27 : BitVec 32 := 1#32
  let arg19 : BitVec 32 := Scf.iv c0_i32_24 c1_i32_27 k0_t3
  let c256_i32_29 : BitVec 32 := 256#32
  let v74 : BitVec 32 := Scalar.muli arg19 c256_i32_29
  let v75 : BitVec 32 := Scalar.addi v63 v74
  let c2304_i32 : BitVec 32 := 2304#32
  let v76 : BitVec 32 := Scalar.minsi v75 c2304_i32
  let v77 : BitVec 32 := v76
  let v118 : Index := Scalar.indexCast v77
  let c0_48 : Index := 0#32
  ![v118.toNat, 0]
def k0_off25 (i : grid0.Coords) (v1 : BitVec 32) (v5 : BitVec 32) (v9 : BitVec 32) (v13 : BitVec 32) (v17 : BitVec 32) (v21 : BitVec 32) (v24 : BitVec 32) (k0_t5 : Fin (k0_t5_loop i v1 v5 v9 v13 v17 v21 v24).trips) : Fin 2 → Nat :=
  let c0_50 : Index := 0#32
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_37 : BitVec 32 := 1#32
  let arg21 : BitVec 32 := Scf.iv v86 c1_i32_37 k0_t5
  let c512_i32_47 : BitVec 32 := 512#32
  let v116 : BitVec 32 := Scalar.muli arg21 c512_i32_47
  let v117 : BitVec 32 := v116
  let v123 : Index := Scalar.indexCast v117
  ![0, v123.toNat]
def k0_off26 (i : grid0.Coords) (v1 : BitVec 32) (v5 : BitVec 32) (v9 : BitVec 32) (v13 : BitVec 32) (v17 : BitVec 32) (v21 : BitVec 32) (v24 : BitVec 32) (k0_t5 : Fin (k0_t5_loop i v1 v5 v9 v13 v17 v21 v24).trips) : Fin 2 → Nat :=
  let c0_52 : Index := 0#32
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_37 : BitVec 32 := 1#32
  let arg21 : BitVec 32 := Scf.iv v86 c1_i32_37 k0_t5
  let c512_i32_47 : BitVec 32 := 512#32
  let v116 : BitVec 32 := Scalar.muli arg21 c512_i32_47
  let v117 : BitVec 32 := v116
  let v126 : Index := Scalar.indexCast v117
  ![0, v126.toNat]
def k0_off27 (i : grid0.Coords) (v1 : BitVec 32) (v5 : BitVec 32) (v9 : BitVec 32) (v13 : BitVec 32) (v17 : BitVec 32) (v21 : BitVec 32) (v24 : BitVec 32) (k0_t5 : Fin (k0_t5_loop i v1 v5 v9 v13 v17 v21 v24).trips) : Fin 2 → Nat :=
  let c1_53 : Index := 1#32
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_37 : BitVec 32 := 1#32
  let arg21 : BitVec 32 := Scf.iv v86 c1_i32_37 k0_t5
  let c512_i32_47 : BitVec 32 := 512#32
  let v116 : BitVec 32 := Scalar.muli arg21 c512_i32_47
  let v117 : BitVec 32 := v116
  let v130 : Index := Scalar.indexCast v117
  ![1, v130.toNat]
def k0_off28 (i : grid0.Coords) (v1 : BitVec 32) (v5 : BitVec 32) (v9 : BitVec 32) (v13 : BitVec 32) (v17 : BitVec 32) (v21 : BitVec 32) (v24 : BitVec 32) (k0_t5 : Fin (k0_t5_loop i v1 v5 v9 v13 v17 v21 v24).trips) : Fin 2 → Nat :=
  let c2_54 : Index := 2#32
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_37 : BitVec 32 := 1#32
  let arg21 : BitVec 32 := Scf.iv v86 c1_i32_37 k0_t5
  let c512_i32_47 : BitVec 32 := 512#32
  let v116 : BitVec 32 := Scalar.muli arg21 c512_i32_47
  let v117 : BitVec 32 := v116
  let v136 : Index := Scalar.indexCast v117
  ![2, v136.toNat]
def k0_off29 (i : grid0.Coords) (v1 : BitVec 32) (v5 : BitVec 32) (v9 : BitVec 32) (v13 : BitVec 32) (v17 : BitVec 32) (v21 : BitVec 32) (k0_t3 : Fin (k0_t3_loop i v1 v5 v9 v13 v17 v21).trips) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let c0_i32_17 : BitVec 32 := 0#32
  let v47 : BitVec 1 := Scalar.cmpi .sgt v19 c0_i32_17
  let v48 : BitVec 32 := Scalar.extui v47
  let c0_i32_18 : BitVec 32 := 0#32
  let v49 : BitVec 1 := Scalar.cmpi .slt v19 c0_i32_18
  let v50 : BitVec 32 := Scalar.extui v49
  let v51 : BitVec 32 := Scalar.subi v48 v50
  let c16_i32 : BitVec 32 := 16#32
  let c0_i32_19 : BitVec 32 := 0#32
  let v52 : BitVec 1 := Scalar.cmpi .sgt c16_i32 c0_i32_19
  let v53 : BitVec 32 := Scalar.extui v52
  let c0_i32_20 : BitVec 32 := 0#32
  let v54 : BitVec 1 := Scalar.cmpi .slt c16_i32 c0_i32_20
  let v55 : BitVec 32 := Scalar.extui v54
  let v56 : BitVec 32 := Scalar.subi v53 v55
  let v57 : BitVec 1 := Scalar.cmpi .ne v51 v56
  let v58 : BitVec 32 := Scalar.remsi v19 c16_i32
  let c0_i32_21 : BitVec 32 := 0#32
  let v59 : BitVec 1 := Scalar.cmpi .ne v58 c0_i32_21
  let v60 : BitVec 1 := Scalar.andi v57 v59
  let v46 : BitVec 32 := Scalar.divsi v19 c16_i32
  let c1_i32_22 : BitVec 32 := 1#32
  let v61 : BitVec 32 := Scalar.subi v46 c1_i32_22
  let v62 : BitVec 32 := Scalar.select v60 v61 v46
  let c16_i32_23 : BitVec 32 := 16#32
  let v63 : BitVec 32 := Scalar.muli v62 c16_i32_23
  let c0_i32_24 : BitVec 32 := 0#32
  let c1_i32_27 : BitVec 32 := 1#32
  let arg19 : BitVec 32 := Scf.iv c0_i32_24 c1_i32_27 k0_t3
  let c256_i32_29 : BitVec 32 := 256#32
  let v74 : BitVec 32 := Scalar.muli arg19 c256_i32_29
  let v75 : BitVec 32 := Scalar.addi v63 v74
  let c2304_i32 : BitVec 32 := 2304#32
  let v76 : BitVec 32 := Scalar.minsi v75 c2304_i32
  let v77 : BitVec 32 := v76
  let v95 : Index := Scalar.indexCast v77
  let c0_42 : Index := 0#32
  ![v95.toNat, 0]
@[reducible] def k0_t6_loop (i : grid0.Coords) (v1 : BitVec 32) (v5 : BitVec 32) (v9 : BitVec 32) (v13 : BitVec 32) (v17 : BitVec 32) (v21 : BitVec 32) : Scf.Loop 32 :=
  let c0_i32_24 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let c0_i32_17 : BitVec 32 := 0#32
  let v47 : BitVec 1 := Scalar.cmpi .sgt v19 c0_i32_17
  let v48 : BitVec 32 := Scalar.extui v47
  let c0_i32_18 : BitVec 32 := 0#32
  let v49 : BitVec 1 := Scalar.cmpi .slt v19 c0_i32_18
  let v50 : BitVec 32 := Scalar.extui v49
  let v51 : BitVec 32 := Scalar.subi v48 v50
  let c16_i32 : BitVec 32 := 16#32
  let c0_i32_19 : BitVec 32 := 0#32
  let v52 : BitVec 1 := Scalar.cmpi .sgt c16_i32 c0_i32_19
  let v53 : BitVec 32 := Scalar.extui v52
  let c0_i32_20 : BitVec 32 := 0#32
  let v54 : BitVec 1 := Scalar.cmpi .slt c16_i32 c0_i32_20
  let v55 : BitVec 32 := Scalar.extui v54
  let v56 : BitVec 32 := Scalar.subi v53 v55
  let v57 : BitVec 1 := Scalar.cmpi .ne v51 v56
  let v58 : BitVec 32 := Scalar.remsi v19 c16_i32
  let c0_i32_21 : BitVec 32 := 0#32
  let v59 : BitVec 1 := Scalar.cmpi .ne v58 c0_i32_21
  let v60 : BitVec 1 := Scalar.andi v57 v59
  let v46 : BitVec 32 := Scalar.divsi v19 c16_i32
  let c1_i32_22 : BitVec 32 := 1#32
  let v61 : BitVec 32 := Scalar.subi v46 c1_i32_22
  let v62 : BitVec 32 := Scalar.select v60 v61 v46
  let c16_i32_23 : BitVec 32 := 16#32
  let v63 : BitVec 32 := Scalar.muli v62 c16_i32_23
  let v64 : BitVec 32 := Scalar.subi v22 v63
  let c255_i32 : BitVec 32 := 255#32
  let v65 : BitVec 32 := Scalar.addi v64 c255_i32
  let c256_i32 : BitVec 32 := 256#32
  let v66 : BitVec 32 := Scalar.divsi v65 c256_i32
  let v67 : BitVec 32 := Scalar.subi v66 c0_i32_24
  let c1_i32_26 : BitVec 32 := 1#32
  let v69 : BitVec 32 := Scalar.divsi v67 c1_i32_26
  let v70 : BitVec 32 := Scalar.muli v69 c1_i32_26
  let v71 : BitVec 32 := Scalar.addi c0_i32_24 v70
  let v68 : BitVec 32 := Scalar.addi c0_i32_24 v67
  let c1_i32_28 : BitVec 32 := 1#32
  ⟨v71, v68, c1_i32_28⟩
def k0_mult8 (i : grid0.Coords) (v1 : BitVec 32) (v5 : BitVec 32) (v9 : BitVec 32) (v13 : BitVec 32) (v17 : BitVec 32) (v21 : BitVec 32) (k0_t6 : Fin (k0_t6_loop i v1 v5 v9 v13 v17 v21).trips) : BitVec 32 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let c0_i32_17 : BitVec 32 := 0#32
  let v47 : BitVec 1 := Scalar.cmpi .sgt v19 c0_i32_17
  let v48 : BitVec 32 := Scalar.extui v47
  let c0_i32_18 : BitVec 32 := 0#32
  let v49 : BitVec 1 := Scalar.cmpi .slt v19 c0_i32_18
  let v50 : BitVec 32 := Scalar.extui v49
  let v51 : BitVec 32 := Scalar.subi v48 v50
  let c16_i32 : BitVec 32 := 16#32
  let c0_i32_19 : BitVec 32 := 0#32
  let v52 : BitVec 1 := Scalar.cmpi .sgt c16_i32 c0_i32_19
  let v53 : BitVec 32 := Scalar.extui v52
  let c0_i32_20 : BitVec 32 := 0#32
  let v54 : BitVec 1 := Scalar.cmpi .slt c16_i32 c0_i32_20
  let v55 : BitVec 32 := Scalar.extui v54
  let v56 : BitVec 32 := Scalar.subi v53 v55
  let v57 : BitVec 1 := Scalar.cmpi .ne v51 v56
  let v58 : BitVec 32 := Scalar.remsi v19 c16_i32
  let c0_i32_21 : BitVec 32 := 0#32
  let v59 : BitVec 1 := Scalar.cmpi .ne v58 c0_i32_21
  let v60 : BitVec 1 := Scalar.andi v57 v59
  let v46 : BitVec 32 := Scalar.divsi v19 c16_i32
  let c1_i32_22 : BitVec 32 := 1#32
  let v61 : BitVec 32 := Scalar.subi v46 c1_i32_22
  let v62 : BitVec 32 := Scalar.select v60 v61 v46
  let c16_i32_23 : BitVec 32 := 16#32
  let v63 : BitVec 32 := Scalar.muli v62 c16_i32_23
  let c0_i32_24 : BitVec 32 := 0#32
  let v22 : BitVec 32 := Scalar.addi v19 v21
  let v64 : BitVec 32 := Scalar.subi v22 v63
  let c255_i32 : BitVec 32 := 255#32
  let v65 : BitVec 32 := Scalar.addi v64 c255_i32
  let c256_i32 : BitVec 32 := 256#32
  let v66 : BitVec 32 := Scalar.divsi v65 c256_i32
  let v67 : BitVec 32 := Scalar.subi v66 c0_i32_24
  let c1_i32_26 : BitVec 32 := 1#32
  let v69 : BitVec 32 := Scalar.divsi v67 c1_i32_26
  let v70 : BitVec 32 := Scalar.muli v69 c1_i32_26
  let v71 : BitVec 32 := Scalar.addi c0_i32_24 v70
  let c1_i32_28 : BitVec 32 := 1#32
  let arg19 : BitVec 32 := Scf.iv v71 c1_i32_28 k0_t6
  let c256_i32_29 : BitVec 32 := 256#32
  let v74 : BitVec 32 := Scalar.muli arg19 c256_i32_29
  let v75 : BitVec 32 := Scalar.addi v63 v74
  let c2304_i32 : BitVec 32 := 2304#32
  let v76 : BitVec 32 := Scalar.minsi v75 c2304_i32
  v76
@[reducible] def k0_t7_loop (i : grid0.Coords) (v1 : BitVec 32) (v5 : BitVec 32) (v9 : BitVec 32) (v13 : BitVec 32) (v17 : BitVec 32) (v21 : BitVec 32) (v24 : BitVec 32) : Scf.Loop 32 :=
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_36 : BitVec 32 := 1#32
  ⟨c0_i32_33, v86, c1_i32_36⟩
def k0_mult9 (i : grid0.Coords) (v1 : BitVec 32) (v5 : BitVec 32) (v9 : BitVec 32) (v13 : BitVec 32) (v17 : BitVec 32) (v21 : BitVec 32) (v24 : BitVec 32) (k0_t7 : Fin (k0_t7_loop i v1 v5 v9 v13 v17 v21 v24).trips) : BitVec 32 :=
  let c0_i32_33 : BitVec 32 := 0#32
  let c1_i32_36 : BitVec 32 := 1#32
  let arg21 : BitVec 32 := Scf.iv c0_i32_33 c1_i32_36 k0_t7
  let c512_i32_47 : BitVec 32 := 512#32
  let v116 : BitVec 32 := Scalar.muli arg21 c512_i32_47
  v116
def k0_off30 (i : grid0.Coords) (v1 : BitVec 32) (v5 : BitVec 32) (v9 : BitVec 32) (v13 : BitVec 32) (v17 : BitVec 32) (v21 : BitVec 32) (k0_t6 : Fin (k0_t6_loop i v1 v5 v9 v13 v17 v21).trips) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let c0_i32_17 : BitVec 32 := 0#32
  let v47 : BitVec 1 := Scalar.cmpi .sgt v19 c0_i32_17
  let v48 : BitVec 32 := Scalar.extui v47
  let c0_i32_18 : BitVec 32 := 0#32
  let v49 : BitVec 1 := Scalar.cmpi .slt v19 c0_i32_18
  let v50 : BitVec 32 := Scalar.extui v49
  let v51 : BitVec 32 := Scalar.subi v48 v50
  let c16_i32 : BitVec 32 := 16#32
  let c0_i32_19 : BitVec 32 := 0#32
  let v52 : BitVec 1 := Scalar.cmpi .sgt c16_i32 c0_i32_19
  let v53 : BitVec 32 := Scalar.extui v52
  let c0_i32_20 : BitVec 32 := 0#32
  let v54 : BitVec 1 := Scalar.cmpi .slt c16_i32 c0_i32_20
  let v55 : BitVec 32 := Scalar.extui v54
  let v56 : BitVec 32 := Scalar.subi v53 v55
  let v57 : BitVec 1 := Scalar.cmpi .ne v51 v56
  let v58 : BitVec 32 := Scalar.remsi v19 c16_i32
  let c0_i32_21 : BitVec 32 := 0#32
  let v59 : BitVec 1 := Scalar.cmpi .ne v58 c0_i32_21
  let v60 : BitVec 1 := Scalar.andi v57 v59
  let v46 : BitVec 32 := Scalar.divsi v19 c16_i32
  let c1_i32_22 : BitVec 32 := 1#32
  let v61 : BitVec 32 := Scalar.subi v46 c1_i32_22
  let v62 : BitVec 32 := Scalar.select v60 v61 v46
  let c16_i32_23 : BitVec 32 := 16#32
  let v63 : BitVec 32 := Scalar.muli v62 c16_i32_23
  let c0_i32_24 : BitVec 32 := 0#32
  let v22 : BitVec 32 := Scalar.addi v19 v21
  let v64 : BitVec 32 := Scalar.subi v22 v63
  let c255_i32 : BitVec 32 := 255#32
  let v65 : BitVec 32 := Scalar.addi v64 c255_i32
  let c256_i32 : BitVec 32 := 256#32
  let v66 : BitVec 32 := Scalar.divsi v65 c256_i32
  let v67 : BitVec 32 := Scalar.subi v66 c0_i32_24
  let c1_i32_26 : BitVec 32 := 1#32
  let v69 : BitVec 32 := Scalar.divsi v67 c1_i32_26
  let v70 : BitVec 32 := Scalar.muli v69 c1_i32_26
  let v71 : BitVec 32 := Scalar.addi c0_i32_24 v70
  let c1_i32_28 : BitVec 32 := 1#32
  let arg19 : BitVec 32 := Scf.iv v71 c1_i32_28 k0_t6
  let c256_i32_29 : BitVec 32 := 256#32
  let v74 : BitVec 32 := Scalar.muli arg19 c256_i32_29
  let v75 : BitVec 32 := Scalar.addi v63 v74
  let c2304_i32 : BitVec 32 := 2304#32
  let v76 : BitVec 32 := Scalar.minsi v75 c2304_i32
  let v77 : BitVec 32 := v76
  let v118 : Index := Scalar.indexCast v77
  let c0_48 : Index := 0#32
  ![v118.toNat, 0]
def k0_off31 (i : grid0.Coords) (v1 : BitVec 32) (v5 : BitVec 32) (v9 : BitVec 32) (v13 : BitVec 32) (v17 : BitVec 32) (v21 : BitVec 32) (v24 : BitVec 32) (k0_t7 : Fin (k0_t7_loop i v1 v5 v9 v13 v17 v21 v24).trips) : Fin 2 → Nat :=
  let c0_50 : Index := 0#32
  let c0_i32_33 : BitVec 32 := 0#32
  let c1_i32_36 : BitVec 32 := 1#32
  let arg21 : BitVec 32 := Scf.iv c0_i32_33 c1_i32_36 k0_t7
  let c512_i32_47 : BitVec 32 := 512#32
  let v116 : BitVec 32 := Scalar.muli arg21 c512_i32_47
  let v117 : BitVec 32 := v116
  let v123 : Index := Scalar.indexCast v117
  ![0, v123.toNat]
def k0_off32 (i : grid0.Coords) (v1 : BitVec 32) (v5 : BitVec 32) (v9 : BitVec 32) (v13 : BitVec 32) (v17 : BitVec 32) (v21 : BitVec 32) (v24 : BitVec 32) (k0_t7 : Fin (k0_t7_loop i v1 v5 v9 v13 v17 v21 v24).trips) : Fin 2 → Nat :=
  let c0_52 : Index := 0#32
  let c0_i32_33 : BitVec 32 := 0#32
  let c1_i32_36 : BitVec 32 := 1#32
  let arg21 : BitVec 32 := Scf.iv c0_i32_33 c1_i32_36 k0_t7
  let c512_i32_47 : BitVec 32 := 512#32
  let v116 : BitVec 32 := Scalar.muli arg21 c512_i32_47
  let v117 : BitVec 32 := v116
  let v126 : Index := Scalar.indexCast v117
  ![0, v126.toNat]
def k0_off33 (i : grid0.Coords) (v1 : BitVec 32) (v5 : BitVec 32) (v9 : BitVec 32) (v13 : BitVec 32) (v17 : BitVec 32) (v21 : BitVec 32) (v24 : BitVec 32) (k0_t7 : Fin (k0_t7_loop i v1 v5 v9 v13 v17 v21 v24).trips) : Fin 2 → Nat :=
  let c1_53 : Index := 1#32
  let c0_i32_33 : BitVec 32 := 0#32
  let c1_i32_36 : BitVec 32 := 1#32
  let arg21 : BitVec 32 := Scf.iv c0_i32_33 c1_i32_36 k0_t7
  let c512_i32_47 : BitVec 32 := 512#32
  let v116 : BitVec 32 := Scalar.muli arg21 c512_i32_47
  let v117 : BitVec 32 := v116
  let v130 : Index := Scalar.indexCast v117
  ![1, v130.toNat]
def k0_off34 (i : grid0.Coords) (v1 : BitVec 32) (v5 : BitVec 32) (v9 : BitVec 32) (v13 : BitVec 32) (v17 : BitVec 32) (v21 : BitVec 32) (v24 : BitVec 32) (k0_t7 : Fin (k0_t7_loop i v1 v5 v9 v13 v17 v21 v24).trips) : Fin 2 → Nat :=
  let c2_54 : Index := 2#32
  let c0_i32_33 : BitVec 32 := 0#32
  let c1_i32_36 : BitVec 32 := 1#32
  let arg21 : BitVec 32 := Scf.iv c0_i32_33 c1_i32_36 k0_t7
  let c512_i32_47 : BitVec 32 := 512#32
  let v116 : BitVec 32 := Scalar.muli arg21 c512_i32_47
  let v117 : BitVec 32 := v116
  let v136 : Index := Scalar.indexCast v117
  ![2, v136.toNat]
@[reducible] def k0_t8_loop (i : grid0.Coords) (v1 : BitVec 32) (v5 : BitVec 32) (v9 : BitVec 32) (v13 : BitVec 32) (v17 : BitVec 32) (v21 : BitVec 32) (v24 : BitVec 32) : Scf.Loop 32 :=
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let v83 : BitVec 32 := Scalar.addi c0_i32_33 v82
  let c1_i32_37 : BitVec 32 := 1#32
  ⟨v86, v83, c1_i32_37⟩
def k0_mult10 (i : grid0.Coords) (v1 : BitVec 32) (v5 : BitVec 32) (v9 : BitVec 32) (v13 : BitVec 32) (v17 : BitVec 32) (v21 : BitVec 32) (v24 : BitVec 32) (k0_t8 : Fin (k0_t8_loop i v1 v5 v9 v13 v17 v21 v24).trips) : BitVec 32 :=
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_37 : BitVec 32 := 1#32
  let arg21 : BitVec 32 := Scf.iv v86 c1_i32_37 k0_t8
  let c512_i32_47 : BitVec 32 := 512#32
  let v116 : BitVec 32 := Scalar.muli arg21 c512_i32_47
  v116
def k0_off35 (i : grid0.Coords) (v1 : BitVec 32) (v5 : BitVec 32) (v9 : BitVec 32) (v13 : BitVec 32) (v17 : BitVec 32) (v21 : BitVec 32) (k0_t6 : Fin (k0_t6_loop i v1 v5 v9 v13 v17 v21).trips) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let c0_i32_17 : BitVec 32 := 0#32
  let v47 : BitVec 1 := Scalar.cmpi .sgt v19 c0_i32_17
  let v48 : BitVec 32 := Scalar.extui v47
  let c0_i32_18 : BitVec 32 := 0#32
  let v49 : BitVec 1 := Scalar.cmpi .slt v19 c0_i32_18
  let v50 : BitVec 32 := Scalar.extui v49
  let v51 : BitVec 32 := Scalar.subi v48 v50
  let c16_i32 : BitVec 32 := 16#32
  let c0_i32_19 : BitVec 32 := 0#32
  let v52 : BitVec 1 := Scalar.cmpi .sgt c16_i32 c0_i32_19
  let v53 : BitVec 32 := Scalar.extui v52
  let c0_i32_20 : BitVec 32 := 0#32
  let v54 : BitVec 1 := Scalar.cmpi .slt c16_i32 c0_i32_20
  let v55 : BitVec 32 := Scalar.extui v54
  let v56 : BitVec 32 := Scalar.subi v53 v55
  let v57 : BitVec 1 := Scalar.cmpi .ne v51 v56
  let v58 : BitVec 32 := Scalar.remsi v19 c16_i32
  let c0_i32_21 : BitVec 32 := 0#32
  let v59 : BitVec 1 := Scalar.cmpi .ne v58 c0_i32_21
  let v60 : BitVec 1 := Scalar.andi v57 v59
  let v46 : BitVec 32 := Scalar.divsi v19 c16_i32
  let c1_i32_22 : BitVec 32 := 1#32
  let v61 : BitVec 32 := Scalar.subi v46 c1_i32_22
  let v62 : BitVec 32 := Scalar.select v60 v61 v46
  let c16_i32_23 : BitVec 32 := 16#32
  let v63 : BitVec 32 := Scalar.muli v62 c16_i32_23
  let c0_i32_24 : BitVec 32 := 0#32
  let v22 : BitVec 32 := Scalar.addi v19 v21
  let v64 : BitVec 32 := Scalar.subi v22 v63
  let c255_i32 : BitVec 32 := 255#32
  let v65 : BitVec 32 := Scalar.addi v64 c255_i32
  let c256_i32 : BitVec 32 := 256#32
  let v66 : BitVec 32 := Scalar.divsi v65 c256_i32
  let v67 : BitVec 32 := Scalar.subi v66 c0_i32_24
  let c1_i32_26 : BitVec 32 := 1#32
  let v69 : BitVec 32 := Scalar.divsi v67 c1_i32_26
  let v70 : BitVec 32 := Scalar.muli v69 c1_i32_26
  let v71 : BitVec 32 := Scalar.addi c0_i32_24 v70
  let c1_i32_28 : BitVec 32 := 1#32
  let arg19 : BitVec 32 := Scf.iv v71 c1_i32_28 k0_t6
  let c256_i32_29 : BitVec 32 := 256#32
  let v74 : BitVec 32 := Scalar.muli arg19 c256_i32_29
  let v75 : BitVec 32 := Scalar.addi v63 v74
  let c2304_i32 : BitVec 32 := 2304#32
  let v76 : BitVec 32 := Scalar.minsi v75 c2304_i32
  let v77 : BitVec 32 := v76
  let v118 : Index := Scalar.indexCast v77
  let c0_48 : Index := 0#32
  ![v118.toNat, 0]
def k0_off36 (i : grid0.Coords) (v1 : BitVec 32) (v5 : BitVec 32) (v9 : BitVec 32) (v13 : BitVec 32) (v17 : BitVec 32) (v21 : BitVec 32) (v24 : BitVec 32) (k0_t8 : Fin (k0_t8_loop i v1 v5 v9 v13 v17 v21 v24).trips) : Fin 2 → Nat :=
  let c0_50 : Index := 0#32
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_37 : BitVec 32 := 1#32
  let arg21 : BitVec 32 := Scf.iv v86 c1_i32_37 k0_t8
  let c512_i32_47 : BitVec 32 := 512#32
  let v116 : BitVec 32 := Scalar.muli arg21 c512_i32_47
  let v117 : BitVec 32 := v116
  let v123 : Index := Scalar.indexCast v117
  ![0, v123.toNat]
def k0_off37 (i : grid0.Coords) (v1 : BitVec 32) (v5 : BitVec 32) (v9 : BitVec 32) (v13 : BitVec 32) (v17 : BitVec 32) (v21 : BitVec 32) (v24 : BitVec 32) (k0_t8 : Fin (k0_t8_loop i v1 v5 v9 v13 v17 v21 v24).trips) : Fin 2 → Nat :=
  let c0_52 : Index := 0#32
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_37 : BitVec 32 := 1#32
  let arg21 : BitVec 32 := Scf.iv v86 c1_i32_37 k0_t8
  let c512_i32_47 : BitVec 32 := 512#32
  let v116 : BitVec 32 := Scalar.muli arg21 c512_i32_47
  let v117 : BitVec 32 := v116
  let v126 : Index := Scalar.indexCast v117
  ![0, v126.toNat]
def k0_off38 (i : grid0.Coords) (v1 : BitVec 32) (v5 : BitVec 32) (v9 : BitVec 32) (v13 : BitVec 32) (v17 : BitVec 32) (v21 : BitVec 32) (v24 : BitVec 32) (k0_t8 : Fin (k0_t8_loop i v1 v5 v9 v13 v17 v21 v24).trips) : Fin 2 → Nat :=
  let c1_53 : Index := 1#32
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_37 : BitVec 32 := 1#32
  let arg21 : BitVec 32 := Scf.iv v86 c1_i32_37 k0_t8
  let c512_i32_47 : BitVec 32 := 512#32
  let v116 : BitVec 32 := Scalar.muli arg21 c512_i32_47
  let v117 : BitVec 32 := v116
  let v130 : Index := Scalar.indexCast v117
  ![1, v130.toNat]
def k0_off39 (i : grid0.Coords) (v1 : BitVec 32) (v5 : BitVec 32) (v9 : BitVec 32) (v13 : BitVec 32) (v17 : BitVec 32) (v21 : BitVec 32) (v24 : BitVec 32) (k0_t8 : Fin (k0_t8_loop i v1 v5 v9 v13 v17 v21 v24).trips) : Fin 2 → Nat :=
  let c2_54 : Index := 2#32
  let c0_i32_33 : BitVec 32 := 0#32
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let v22 : BitVec 32 := Scalar.addi v19 v21
  let v25 : BitVec 1 := Scalar.cmpi .sgt v22 v19
  let c511_i32 : BitVec 32 := 511#32
  let v26 : BitVec 32 := Scalar.addi v24 c511_i32
  let c512_i32 : BitVec 32 := 512#32
  let v27 : BitVec 32 := Scalar.divsi v26 c512_i32
  let c0_i32_6 : BitVec 32 := 0#32
  let v28 : BitVec 32 := Scalar.select v25 v27 c0_i32_6
  let v82 : BitVec 32 := Scalar.subi v28 c0_i32_33
  let c1_i32_35 : BitVec 32 := 1#32
  let v84 : BitVec 32 := Scalar.divsi v82 c1_i32_35
  let v85 : BitVec 32 := Scalar.muli v84 c1_i32_35
  let v86 : BitVec 32 := Scalar.addi c0_i32_33 v85
  let c1_i32_37 : BitVec 32 := 1#32
  let arg21 : BitVec 32 := Scf.iv v86 c1_i32_37 k0_t8
  let c512_i32_47 : BitVec 32 := 512#32
  let v116 : BitVec 32 := Scalar.muli arg21 c512_i32_47
  let v117 : BitVec 32 := v116
  let v136 : Index := Scalar.indexCast v117
  ![2, v136.toNat]
def k0_off40 (i : grid0.Coords) (v1 : BitVec 32) (v5 : BitVec 32) (v9 : BitVec 32) (v13 : BitVec 32) (v17 : BitVec 32) (v21 : BitVec 32) (k0_t6 : Fin (k0_t6_loop i v1 v5 v9 v13 v17 v21).trips) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c4_i32 : BitVec 32 := 4#32
  let v16 : BitVec 1 := Scalar.cmpi .sgt arg1 c4_i32
  let c0_i32_5 : BitVec 32 := 0#32
  let v18 : BitVec 32 := Scalar.select v16 v17 c0_i32_5
  let v19 : BitVec 32 := Scalar.addi v15 v18
  let c0_i32_17 : BitVec 32 := 0#32
  let v47 : BitVec 1 := Scalar.cmpi .sgt v19 c0_i32_17
  let v48 : BitVec 32 := Scalar.extui v47
  let c0_i32_18 : BitVec 32 := 0#32
  let v49 : BitVec 1 := Scalar.cmpi .slt v19 c0_i32_18
  let v50 : BitVec 32 := Scalar.extui v49
  let v51 : BitVec 32 := Scalar.subi v48 v50
  let c16_i32 : BitVec 32 := 16#32
  let c0_i32_19 : BitVec 32 := 0#32
  let v52 : BitVec 1 := Scalar.cmpi .sgt c16_i32 c0_i32_19
  let v53 : BitVec 32 := Scalar.extui v52
  let c0_i32_20 : BitVec 32 := 0#32
  let v54 : BitVec 1 := Scalar.cmpi .slt c16_i32 c0_i32_20
  let v55 : BitVec 32 := Scalar.extui v54
  let v56 : BitVec 32 := Scalar.subi v53 v55
  let v57 : BitVec 1 := Scalar.cmpi .ne v51 v56
  let v58 : BitVec 32 := Scalar.remsi v19 c16_i32
  let c0_i32_21 : BitVec 32 := 0#32
  let v59 : BitVec 1 := Scalar.cmpi .ne v58 c0_i32_21
  let v60 : BitVec 1 := Scalar.andi v57 v59
  let v46 : BitVec 32 := Scalar.divsi v19 c16_i32
  let c1_i32_22 : BitVec 32 := 1#32
  let v61 : BitVec 32 := Scalar.subi v46 c1_i32_22
  let v62 : BitVec 32 := Scalar.select v60 v61 v46
  let c16_i32_23 : BitVec 32 := 16#32
  let v63 : BitVec 32 := Scalar.muli v62 c16_i32_23
  let c0_i32_24 : BitVec 32 := 0#32
  let v22 : BitVec 32 := Scalar.addi v19 v21
  let v64 : BitVec 32 := Scalar.subi v22 v63
  let c255_i32 : BitVec 32 := 255#32
  let v65 : BitVec 32 := Scalar.addi v64 c255_i32
  let c256_i32 : BitVec 32 := 256#32
  let v66 : BitVec 32 := Scalar.divsi v65 c256_i32
  let v67 : BitVec 32 := Scalar.subi v66 c0_i32_24
  let c1_i32_26 : BitVec 32 := 1#32
  let v69 : BitVec 32 := Scalar.divsi v67 c1_i32_26
  let v70 : BitVec 32 := Scalar.muli v69 c1_i32_26
  let v71 : BitVec 32 := Scalar.addi c0_i32_24 v70
  let c1_i32_28 : BitVec 32 := 1#32
  let arg19 : BitVec 32 := Scf.iv v71 c1_i32_28 k0_t6
  let c256_i32_29 : BitVec 32 := 256#32
  let v74 : BitVec 32 := Scalar.muli arg19 c256_i32_29
  let v75 : BitVec 32 := Scalar.addi v63 v74
  let c2304_i32 : BitVec 32 := 2304#32
  let v76 : BitVec 32 := Scalar.minsi v75 c2304_i32
  let v77 : BitVec 32 := v76
  let v95 : Index := Scalar.indexCast v77
  let c0_42 : Index := 0#32
  ![v95.toNat, 0]

def k0_chk1_0 (i : grid0.Coords) (v1 : BitVec 32) (v5 : BitVec 32) (v9 : BitVec 32) (v13 : BitVec 32) (v17 : BitVec 32) (v21 : BitVec 32) (v24 : BitVec 32) : Prop :=
  (∀ (k0_h1 : k0_cond1 i v1 v5 v9 v13 v17 v21 v24 = 1#1), (k0_t1_loop i v1 v5 v9 v13 v17 v21 v24).OK) ∧
  (∀ k0_t1 : Fin (k0_t1_loop i v1 v5 v9 v13 v17 v21 v24).trips, ∀ (k0_h1 : k0_cond1 i v1 v5 v9 v13 v17 v21 v24 = 1#1), 512 ∣ (k0_mult1 i v1 v5 v9 v13 v17 v21 v24 k0_t1).toNat) ∧
  (∀ k0_t1 : Fin (k0_t1_loop i v1 v5 v9 v13 v17 v21 v24).trips, ∀ (k0_h1 : k0_cond1 i v1 v5 v9 v13 v17 v21 v24 = 1#1), ∀ a, (k0_off3 i v1 v5 v9 v13 v17 v21 v24 k0_t1) a + S1x1x512.size a ≤ S1x8x8192.size a) ∧
  (∀ k0_t1 : Fin (k0_t1_loop i v1 v5 v9 v13 v17 v21 v24).trips, ∀ (k0_h1 : k0_cond1 i v1 v5 v9 v13 v17 v21 v24 = 1#1), ∀ a, (k0_off4 i v1 v5 v9 v13 v17 v21 v24 k0_t1) a + S1x512.size a ≤ S8x8192.size a) ∧
  (∀ k0_t1 : Fin (k0_t1_loop i v1 v5 v9 v13 v17 v21 v24).trips, ∀ (k0_h1 : k0_cond1 i v1 v5 v9 v13 v17 v21 v24 = 1#1), ∀ a, (k0_off5 i v1 v5 v9 v13 v17 v21 v24 k0_t1) a + S1x512.size a ≤ S8x8192.size a) ∧
  (∀ k0_t1 : Fin (k0_t1_loop i v1 v5 v9 v13 v17 v21 v24).trips, ∀ (k0_h1 : k0_cond1 i v1 v5 v9 v13 v17 v21 v24 = 1#1), ∀ a, (k0_off6 i v1 v5 v9 v13 v17 v21 v24 k0_t1) a + S1x1x64x512.size a ≤ S1x1x64x8192.size a) ∧
  (∀ k0_t1 : Fin (k0_t1_loop i v1 v5 v9 v13 v17 v21 v24).trips, ∀ (k0_h1 : k0_cond1 i v1 v5 v9 v13 v17 v21 v24 = 1#1), ∀ a, (k0_off7 i v1 v5 v9 v13 v17 v21 v24 k0_t1) a + S128x512.size a ≤ S256x8192.size a) ∧
  (∀ k0_t1 : Fin (k0_t1_loop i v1 v5 v9 v13 v17 v21 v24).trips, ∀ (k0_h1 : k0_cond1 i v1 v5 v9 v13 v17 v21 v24 = 1#1), ∀ (hinb : ∀ a, (k0_off7 i v1 v5 v9 v13 v17 v21 v24 k0_t1) a + S128x512.size a ≤ S256x8192.size a), (Rect.unit (s := S256x8192) (k0_off7 i v1 v5 v9 v13 v17 v21 v24 k0_t1) S128x512.size hinb).PackedRows (EltTy.packing .bf16)) ∧
  (∀ k0_t1 : Fin (k0_t1_loop i v1 v5 v9 v13 v17 v21 v24).trips, ∀ (k0_h1 : k0_cond1 i v1 v5 v9 v13 v17 v21 v24 = 1#1), ∀ a, (k0_off8 i v1 v5 v9 v13 v17 v21 v24 k0_t1) a + S128x512.size a ≤ S256x8192.size a) ∧
  (∀ k0_t1 : Fin (k0_t1_loop i v1 v5 v9 v13 v17 v21 v24).trips, ∀ (k0_h1 : k0_cond1 i v1 v5 v9 v13 v17 v21 v24 = 1#1), ∀ (hinb : ∀ a, (k0_off8 i v1 v5 v9 v13 v17 v21 v24 k0_t1) a + S128x512.size a ≤ S256x8192.size a), (Rect.unit (s := S256x8192) (k0_off8 i v1 v5 v9 v13 v17 v21 v24 k0_t1) S128x512.size hinb).PackedRows (EltTy.packing .bf16)) ∧
  (∀ k0_t1 : Fin (k0_t1_loop i v1 v5 v9 v13 v17 v21 v24).trips, ∀ (k0_h1 : k0_cond1 i v1 v5 v9 v13 v17 v21 v24 = 1#1), ∀ a, (k0_off9 i v1 v5 v9 v13 v17 v21 v24 k0_t1) a + S16x512.size a ≤ S256x8192.size a) ∧
  (∀ k0_t1 : Fin (k0_t1_loop i v1 v5 v9 v13 v17 v21 v24).trips, ∀ (k0_h1 : k0_cond1 i v1 v5 v9 v13 v17 v21 v24 = 1#1), ∀ (hinb : ∀ a, (k0_off9 i v1 v5 v9 v13 v17 v21 v24 k0_t1) a + S16x512.size a ≤ S256x8192.size a), (Rect.unit (s := S256x8192) (k0_off9 i v1 v5 v9 v13 v17 v21 v24 k0_t1) S16x512.size hinb).PackedRows (EltTy.packing .bf16)) ∧
  (∀ k0_t1 : Fin (k0_t1_loop i v1 v5 v9 v13 v17 v21 v24).trips, ∀ (k0_h1 : k0_cond1 i v1 v5 v9 v13 v17 v21 v24 = 1#1), ∀ a, (k0_off10 i v1 v5 v9 v13 v17 v21 v24 k0_t1) a + S16x512.size a ≤ S256x8192.size a) ∧
  (∀ k0_t1 : Fin (k0_t1_loop i v1 v5 v9 v13 v17 v21 v24).trips, ∀ (k0_h1 : k0_cond1 i v1 v5 v9 v13 v17 v21 v24 = 1#1), ∀ (hinb : ∀ a, (k0_off10 i v1 v5 v9 v13 v17 v21 v24 k0_t1) a + S16x512.size a ≤ S256x8192.size a), (Rect.unit (s := S256x8192) (k0_off10 i v1 v5 v9 v13 v17 v21 v24 k0_t1) S16x512.size hinb).PackedRows (EltTy.packing .bf16)) ∧
  (∀ (k0_h1 : k0_cond1 i v1 v5 v9 v13 v17 v21 v24 = 1#1), (k0_t2_loop i v1 v5 v9 v13 v17 v21 v24).OK) ∧
  (∀ k0_t2 : Fin (k0_t2_loop i v1 v5 v9 v13 v17 v21 v24).trips, ∀ (k0_h1 : k0_cond1 i v1 v5 v9 v13 v17 v21 v24 = 1#1), 512 ∣ (k0_mult3 i v1 v5 v9 v13 v17 v21 v24 k0_t2).toNat) ∧
  (∀ k0_t2 : Fin (k0_t2_loop i v1 v5 v9 v13 v17 v21 v24).trips, ∀ (k0_h1 : k0_cond1 i v1 v5 v9 v13 v17 v21 v24 = 1#1), ∀ a, (k0_off11 i v1 v5 v9 v13 v17 v21 v24 k0_t2) a + S1x1x512.size a ≤ S1x8x8192.size a) ∧
  (∀ k0_t2 : Fin (k0_t2_loop i v1 v5 v9 v13 v17 v21 v24).trips, ∀ (k0_h1 : k0_cond1 i v1 v5 v9 v13 v17 v21 v24 = 1#1), ∀ a, (k0_off12 i v1 v5 v9 v13 v17 v21 v24 k0_t2) a + S1x512.size a ≤ S8x8192.size a) ∧
  (∀ k0_t2 : Fin (k0_t2_loop i v1 v5 v9 v13 v17 v21 v24).trips, ∀ (k0_h1 : k0_cond1 i v1 v5 v9 v13 v17 v21 v24 = 1#1), ∀ a, (k0_off13 i v1 v5 v9 v13 v17 v21 v24 k0_t2) a + S1x512.size a ≤ S8x8192.size a) ∧
  (∀ k0_t2 : Fin (k0_t2_loop i v1 v5 v9 v13 v17 v21 v24).trips, ∀ (k0_h1 : k0_cond1 i v1 v5 v9 v13 v17 v21 v24 = 1#1), ∀ a, (k0_off14 i v1 v5 v9 v13 v17 v21 v24 k0_t2) a + S1x1x64x512.size a ≤ S1x1x64x8192.size a) ∧
  (∀ k0_t2 : Fin (k0_t2_loop i v1 v5 v9 v13 v17 v21 v24).trips, ∀ (k0_h1 : k0_cond1 i v1 v5 v9 v13 v17 v21 v24 = 1#1), ∀ a, (k0_off15 i v1 v5 v9 v13 v17 v21 v24 k0_t2) a + S128x512.size a ≤ S256x8192.size a) ∧
  (∀ k0_t2 : Fin (k0_t2_loop i v1 v5 v9 v13 v17 v21 v24).trips, ∀ (k0_h1 : k0_cond1 i v1 v5 v9 v13 v17 v21 v24 = 1#1), ∀ (hinb : ∀ a, (k0_off15 i v1 v5 v9 v13 v17 v21 v24 k0_t2) a + S128x512.size a ≤ S256x8192.size a), (Rect.unit (s := S256x8192) (k0_off15 i v1 v5 v9 v13 v17 v21 v24 k0_t2) S128x512.size hinb).PackedRows (EltTy.packing .bf16)) ∧
  (∀ k0_t2 : Fin (k0_t2_loop i v1 v5 v9 v13 v17 v21 v24).trips, ∀ (k0_h1 : k0_cond1 i v1 v5 v9 v13 v17 v21 v24 = 1#1), ∀ a, (k0_off16 i v1 v5 v9 v13 v17 v21 v24 k0_t2) a + S128x512.size a ≤ S256x8192.size a) ∧
  (∀ k0_t2 : Fin (k0_t2_loop i v1 v5 v9 v13 v17 v21 v24).trips, ∀ (k0_h1 : k0_cond1 i v1 v5 v9 v13 v17 v21 v24 = 1#1), ∀ (hinb : ∀ a, (k0_off16 i v1 v5 v9 v13 v17 v21 v24 k0_t2) a + S128x512.size a ≤ S256x8192.size a), (Rect.unit (s := S256x8192) (k0_off16 i v1 v5 v9 v13 v17 v21 v24 k0_t2) S128x512.size hinb).PackedRows (EltTy.packing .bf16)) ∧
  (∀ k0_t2 : Fin (k0_t2_loop i v1 v5 v9 v13 v17 v21 v24).trips, ∀ (k0_h1 : k0_cond1 i v1 v5 v9 v13 v17 v21 v24 = 1#1), ∀ a, (k0_off17 i v1 v5 v9 v13 v17 v21 v24 k0_t2) a + S16x512.size a ≤ S256x8192.size a) ∧
  (∀ k0_t2 : Fin (k0_t2_loop i v1 v5 v9 v13 v17 v21 v24).trips, ∀ (k0_h1 : k0_cond1 i v1 v5 v9 v13 v17 v21 v24 = 1#1), ∀ (hinb : ∀ a, (k0_off17 i v1 v5 v9 v13 v17 v21 v24 k0_t2) a + S16x512.size a ≤ S256x8192.size a), (Rect.unit (s := S256x8192) (k0_off17 i v1 v5 v9 v13 v17 v21 v24 k0_t2) S16x512.size hinb).PackedRows (EltTy.packing .bf16)) ∧
  (∀ k0_t2 : Fin (k0_t2_loop i v1 v5 v9 v13 v17 v21 v24).trips, ∀ (k0_h1 : k0_cond1 i v1 v5 v9 v13 v17 v21 v24 = 1#1), ∀ a, (k0_off18 i v1 v5 v9 v13 v17 v21 v24 k0_t2) a + S16x512.size a ≤ S256x8192.size a) ∧
  (∀ k0_t2 : Fin (k0_t2_loop i v1 v5 v9 v13 v17 v21 v24).trips, ∀ (k0_h1 : k0_cond1 i v1 v5 v9 v13 v17 v21 v24 = 1#1), ∀ (hinb : ∀ a, (k0_off18 i v1 v5 v9 v13 v17 v21 v24 k0_t2) a + S16x512.size a ≤ S256x8192.size a), (Rect.unit (s := S256x8192) (k0_off18 i v1 v5 v9 v13 v17 v21 v24 k0_t2) S16x512.size hinb).PackedRows (EltTy.packing .bf16)) ∧
  (∀ (k0_h1 : k0_cond1 i v1 v5 v9 v13 v17 v21 v24 = 1#1), (k0_t3_loop i v1 v5 v9 v13 v17 v21).OK) ∧
  (∀ k0_t3 : Fin (k0_t3_loop i v1 v5 v9 v13 v17 v21).trips, ∀ (k0_h1 : k0_cond1 i v1 v5 v9 v13 v17 v21 v24 = 1#1), 16 ∣ (k0_mult5 i v1 v5 v9 v13 v17 v21 k0_t3).toNat) ∧
  (∀ k0_t3 : Fin (k0_t3_loop i v1 v5 v9 v13 v17 v21).trips, ∀ (k0_h1 : k0_cond1 i v1 v5 v9 v13 v17 v21 v24 = 1#1), (k0_t4_loop i v1 v5 v9 v13 v17 v21 v24).OK) ∧
  (∀ (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), 512 ∣ (k0_mult6 i v1 v5 v9 v13 v17 v21 v24 k0_t4).toNat)
def k0_chk1_1 (i : grid0.Coords) (v1 : BitVec 32) (v5 : BitVec 32) (v9 : BitVec 32) (v13 : BitVec 32) (v17 : BitVec 32) (v21 : BitVec 32) (v24 : BitVec 32) : Prop :=
  (∀ (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), ∀ a, (k0_off19 i v1 v5 v9 v13 v17 v21 k0_t3) a + S256x128.size a ≤ S2560x128.size a) ∧
  (∀ (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), ∀ a, (k0_off20 i v1 v5 v9 v13 v17 v21 v24 k0_t4) a + S256x512.size a ≤ S256x8192.size a) ∧
  (∀ (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), ∀ a, (k0_off21 i v1 v5 v9 v13 v17 v21 v24 k0_t4) a + S1x512.size a ≤ S8x8192.size a) ∧
  (∀ (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), ∀ a, (k0_off22 i v1 v5 v9 v13 v17 v21 v24 k0_t4) a + S1x512.size a ≤ S8x8192.size a) ∧
  (∀ (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), ∀ a, (k0_off23 i v1 v5 v9 v13 v17 v21 v24 k0_t4) a + S1x512.size a ≤ S8x8192.size a) ∧
  (∀ k0_t3 : Fin (k0_t3_loop i v1 v5 v9 v13 v17 v21).trips, ∀ (k0_h1 : k0_cond1 i v1 v5 v9 v13 v17 v21 v24 = 1#1), (k0_t5_loop i v1 v5 v9 v13 v17 v21 v24).OK) ∧
  (∀ (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), 512 ∣ (k0_mult7 i v1 v5 v9 v13 v17 v21 v24 k0_t5).toNat) ∧
  (∀ (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), ∀ a, (k0_off24 i v1 v5 v9 v13 v17 v21 k0_t3) a + S256x128.size a ≤ S2560x128.size a) ∧
  (∀ (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), ∀ a, (k0_off25 i v1 v5 v9 v13 v17 v21 v24 k0_t5) a + S256x512.size a ≤ S256x8192.size a) ∧
  (∀ (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), ∀ a, (k0_off26 i v1 v5 v9 v13 v17 v21 v24 k0_t5) a + S1x512.size a ≤ S8x8192.size a) ∧
  (∀ (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), ∀ a, (k0_off27 i v1 v5 v9 v13 v17 v21 v24 k0_t5) a + S1x512.size a ≤ S8x8192.size a) ∧
  (∀ (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), ∀ a, (k0_off28 i v1 v5 v9 v13 v17 v21 v24 k0_t5) a + S1x512.size a ≤ S8x8192.size a) ∧
  (∀ k0_t3 : Fin (k0_t3_loop i v1 v5 v9 v13 v17 v21).trips, ∀ (k0_h1 : k0_cond1 i v1 v5 v9 v13 v17 v21 v24 = 1#1), ∀ a, (k0_off29 i v1 v5 v9 v13 v17 v21 k0_t3) a + S256x128.size a ≤ S2560x128.size a) ∧
  (∀ (k0_h1 : k0_cond1 i v1 v5 v9 v13 v17 v21 v24 = 1#1), (k0_t6_loop i v1 v5 v9 v13 v17 v21).OK) ∧
  (∀ k0_t6 : Fin (k0_t6_loop i v1 v5 v9 v13 v17 v21).trips, ∀ (k0_h1 : k0_cond1 i v1 v5 v9 v13 v17 v21 v24 = 1#1), 16 ∣ (k0_mult8 i v1 v5 v9 v13 v17 v21 k0_t6).toNat) ∧
  (∀ k0_t6 : Fin (k0_t6_loop i v1 v5 v9 v13 v17 v21).trips, ∀ (k0_h1 : k0_cond1 i v1 v5 v9 v13 v17 v21 v24 = 1#1), (k0_t7_loop i v1 v5 v9 v13 v17 v21 v24).OK) ∧
  (∀ (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), 512 ∣ (k0_mult9 i v1 v5 v9 v13 v17 v21 v24 k0_t7).toNat) ∧
  (∀ (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), ∀ a, (k0_off30 i v1 v5 v9 v13 v17 v21 k0_t6) a + S256x128.size a ≤ S2560x128.size a) ∧
  (∀ (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), ∀ a, (k0_off31 i v1 v5 v9 v13 v17 v21 v24 k0_t7) a + S256x512.size a ≤ S256x8192.size a) ∧
  (∀ (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), ∀ a, (k0_off32 i v1 v5 v9 v13 v17 v21 v24 k0_t7) a + S1x512.size a ≤ S8x8192.size a) ∧
  (∀ (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), ∀ a, (k0_off33 i v1 v5 v9 v13 v17 v21 v24 k0_t7) a + S1x512.size a ≤ S8x8192.size a) ∧
  (∀ (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), ∀ a, (k0_off34 i v1 v5 v9 v13 v17 v21 v24 k0_t7) a + S1x512.size a ≤ S8x8192.size a) ∧
  (∀ k0_t6 : Fin (k0_t6_loop i v1 v5 v9 v13 v17 v21).trips, ∀ (k0_h1 : k0_cond1 i v1 v5 v9 v13 v17 v21 v24 = 1#1), (k0_t8_loop i v1 v5 v9 v13 v17 v21 v24).OK) ∧
  (∀ (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), 512 ∣ (k0_mult10 i v1 v5 v9 v13 v17 v21 v24 k0_t8).toNat) ∧
  (∀ (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), ∀ a, (k0_off35 i v1 v5 v9 v13 v17 v21 k0_t6) a + S256x128.size a ≤ S2560x128.size a) ∧
  (∀ (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), ∀ a, (k0_off36 i v1 v5 v9 v13 v17 v21 v24 k0_t8) a + S256x512.size a ≤ S256x8192.size a) ∧
  (∀ (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), ∀ a, (k0_off37 i v1 v5 v9 v13 v17 v21 v24 k0_t8) a + S1x512.size a ≤ S8x8192.size a) ∧
  (∀ (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), ∀ a, (k0_off38 i v1 v5 v9 v13 v17 v21 v24 k0_t8) a + S1x512.size a ≤ S8x8192.size a) ∧
  (∀ (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), ∀ a, (k0_off39 i v1 v5 v9 v13 v17 v21 v24 k0_t8) a + S1x512.size a ≤ S8x8192.size a) ∧
  (∀ k0_t6 : Fin (k0_t6_loop i v1 v5 v9 v13 v17 v21).trips, ∀ (k0_h1 : k0_cond1 i v1 v5 v9 v13 v17 v21 v24 = 1#1), ∀ a, (k0_off40 i v1 v5 v9 v13 v17 v21 k0_t6) a + S256x128.size a ≤ S2560x128.size a)
def k0_chk1 (i : grid0.Coords) (v1 : BitVec 32) (v5 : BitVec 32) (v9 : BitVec 32) (v13 : BitVec 32) (v17 : BitVec 32) (v21 : BitVec 32) (v24 : BitVec 32) : Prop :=
  k0_chk1_0 i v1 v5 v9 v13 v17 v21 v24 ∧
  k0_chk1_1 i v1 v5 v9 v13 v17 v21 v24
theorem k0_t1_ok : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24), ∀ (k0_h1 : k0_cond1 i v1 v5 v9 v13 v17 v21 v24 = 1#1), (k0_t1_loop i v1 v5 v9 v13 v17 v21 v24).OK := fun i v1 v5 v9 v13 v17 v21 v24 k0_hw1 k0_h1 => k0_hw1.1.1 k0_h1
theorem k0_mult1_dvd : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), 512 ∣ (k0_mult1 i v1 v5 v9 v13 v17 v21 v24 k0_t1).toNat := fun i v1 v5 v9 v13 v17 v21 v24 k0_hw1 k0_t1 k0_h1 => k0_hw1.1.2.1 k0_t1 k0_h1
theorem k0_off3_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), ∀ a, (k0_off3 i v1 v5 v9 v13 v17 v21 v24 k0_t1) a + S1x1x512.size a ≤ S1x8x8192.size a := fun i v1 v5 v9 v13 v17 v21 v24 k0_hw1 k0_t1 k0_h1 => k0_hw1.1.2.2.1 k0_t1 k0_h1
theorem k0_off4_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), ∀ a, (k0_off4 i v1 v5 v9 v13 v17 v21 v24 k0_t1) a + S1x512.size a ≤ S8x8192.size a := fun i v1 v5 v9 v13 v17 v21 v24 k0_hw1 k0_t1 k0_h1 => k0_hw1.1.2.2.2.1 k0_t1 k0_h1
theorem k0_off5_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), ∀ a, (k0_off5 i v1 v5 v9 v13 v17 v21 v24 k0_t1) a + S1x512.size a ≤ S8x8192.size a := fun i v1 v5 v9 v13 v17 v21 v24 k0_hw1 k0_t1 k0_h1 => k0_hw1.1.2.2.2.2.1 k0_t1 k0_h1
theorem k0_off6_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), ∀ a, (k0_off6 i v1 v5 v9 v13 v17 v21 v24 k0_t1) a + S1x1x64x512.size a ≤ S1x1x64x8192.size a := fun i v1 v5 v9 v13 v17 v21 v24 k0_hw1 k0_t1 k0_h1 => k0_hw1.1.2.2.2.2.2.1 k0_t1 k0_h1
theorem k0_off7_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), ∀ a, (k0_off7 i v1 v5 v9 v13 v17 v21 v24 k0_t1) a + S128x512.size a ≤ S256x8192.size a := fun i v1 v5 v9 v13 v17 v21 v24 k0_hw1 k0_t1 k0_h1 => k0_hw1.1.2.2.2.2.2.2.1 k0_t1 k0_h1
theorem k0_off7_packedbf16 : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), (Rect.unit (s := S256x8192) (k0_off7 i v1 v5 v9 v13 v17 v21 v24 k0_t1) S128x512.size (k0_off7_inb i v1 v5 v9 v13 v17 v21 v24 k0_hw1 k0_t1 k0_h1)).PackedRows (EltTy.packing .bf16) := fun i v1 v5 v9 v13 v17 v21 v24 k0_hw1 k0_t1 k0_h1 => k0_hw1.1.2.2.2.2.2.2.2.1 k0_t1 k0_h1 (k0_off7_inb i v1 v5 v9 v13 v17 v21 v24 k0_hw1 k0_t1 k0_h1)
theorem k0_off8_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), ∀ a, (k0_off8 i v1 v5 v9 v13 v17 v21 v24 k0_t1) a + S128x512.size a ≤ S256x8192.size a := fun i v1 v5 v9 v13 v17 v21 v24 k0_hw1 k0_t1 k0_h1 => k0_hw1.1.2.2.2.2.2.2.2.2.1 k0_t1 k0_h1
theorem k0_off8_packedbf16 : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), (Rect.unit (s := S256x8192) (k0_off8 i v1 v5 v9 v13 v17 v21 v24 k0_t1) S128x512.size (k0_off8_inb i v1 v5 v9 v13 v17 v21 v24 k0_hw1 k0_t1 k0_h1)).PackedRows (EltTy.packing .bf16) := fun i v1 v5 v9 v13 v17 v21 v24 k0_hw1 k0_t1 k0_h1 => k0_hw1.1.2.2.2.2.2.2.2.2.2.1 k0_t1 k0_h1 (k0_off8_inb i v1 v5 v9 v13 v17 v21 v24 k0_hw1 k0_t1 k0_h1)
theorem k0_off9_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), ∀ a, (k0_off9 i v1 v5 v9 v13 v17 v21 v24 k0_t1) a + S16x512.size a ≤ S256x8192.size a := fun i v1 v5 v9 v13 v17 v21 v24 k0_hw1 k0_t1 k0_h1 => k0_hw1.1.2.2.2.2.2.2.2.2.2.2.1 k0_t1 k0_h1
theorem k0_off9_packedbf16 : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), (Rect.unit (s := S256x8192) (k0_off9 i v1 v5 v9 v13 v17 v21 v24 k0_t1) S16x512.size (k0_off9_inb i v1 v5 v9 v13 v17 v21 v24 k0_hw1 k0_t1 k0_h1)).PackedRows (EltTy.packing .bf16) := fun i v1 v5 v9 v13 v17 v21 v24 k0_hw1 k0_t1 k0_h1 => k0_hw1.1.2.2.2.2.2.2.2.2.2.2.2.1 k0_t1 k0_h1 (k0_off9_inb i v1 v5 v9 v13 v17 v21 v24 k0_hw1 k0_t1 k0_h1)
theorem k0_off10_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), ∀ a, (k0_off10 i v1 v5 v9 v13 v17 v21 v24 k0_t1) a + S16x512.size a ≤ S256x8192.size a := fun i v1 v5 v9 v13 v17 v21 v24 k0_hw1 k0_t1 k0_h1 => k0_hw1.1.2.2.2.2.2.2.2.2.2.2.2.2.1 k0_t1 k0_h1
theorem k0_off10_packedbf16 : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t1 : Fin (k0_t1_loop i v1 v5 v9 v13 v17 v21 v24).trips), ∀ (k0_h1 : k0_cond1 i v1 v5 v9 v13 v17 v21 v24 = 1#1), (Rect.unit (s := S256x8192) (k0_off10 i v1 v5 v9 v13 v17 v21 v24 k0_t1) S16x512.size (k0_off10_inb i v1 v5 v9 v13 v17 v21 v24 k0_hw1 k0_t1 k0_h1)).PackedRows (EltTy.packing .bf16) := fun i v1 v5 v9 v13 v17 v21 v24 k0_hw1 k0_t1 k0_h1 => k0_hw1.1.2.2.2.2.2.2.2.2.2.2.2.2.2.1 k0_t1 k0_h1 (k0_off10_inb i v1 v5 v9 v13 v17 v21 v24 k0_hw1 k0_t1 k0_h1)
theorem k0_t2_ok : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24), ∀ (k0_h1 : k0_cond1 i v1 v5 v9 v13 v17 v21 v24 = 1#1), (k0_t2_loop i v1 v5 v9 v13 v17 v21 v24).OK := fun i v1 v5 v9 v13 v17 v21 v24 k0_hw1 k0_h1 => k0_hw1.1.2.2.2.2.2.2.2.2.2.2.2.2.2.2.1 k0_h1
theorem k0_mult3_dvd : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), 512 ∣ (k0_mult3 i v1 v5 v9 v13 v17 v21 v24 k0_t2).toNat := fun i v1 v5 v9 v13 v17 v21 v24 k0_hw1 k0_t2 k0_h1 => k0_hw1.1.2.2.2.2.2.2.2.2.2.2.2.2.2.2.2.1 k0_t2 k0_h1
theorem k0_off11_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), ∀ a, (k0_off11 i v1 v5 v9 v13 v17 v21 v24 k0_t2) a + S1x1x512.size a ≤ S1x8x8192.size a := fun i v1 v5 v9 v13 v17 v21 v24 k0_hw1 k0_t2 k0_h1 => k0_hw1.1.2.2.2.2.2.2.2.2.2.2.2.2.2.2.2.2.1 k0_t2 k0_h1
theorem k0_off12_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), ∀ a, (k0_off12 i v1 v5 v9 v13 v17 v21 v24 k0_t2) a + S1x512.size a ≤ S8x8192.size a := fun i v1 v5 v9 v13 v17 v21 v24 k0_hw1 k0_t2 k0_h1 => k0_hw1.1.2.2.2.2.2.2.2.2.2.2.2.2.2.2.2.2.2.1 k0_t2 k0_h1
theorem k0_off13_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), ∀ a, (k0_off13 i v1 v5 v9 v13 v17 v21 v24 k0_t2) a + S1x512.size a ≤ S8x8192.size a := fun i v1 v5 v9 v13 v17 v21 v24 k0_hw1 k0_t2 k0_h1 => k0_hw1.1.2.2.2.2.2.2.2.2.2.2.2.2.2.2.2.2.2.2.1 k0_t2 k0_h1
theorem k0_off14_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), ∀ a, (k0_off14 i v1 v5 v9 v13 v17 v21 v24 k0_t2) a + S1x1x64x512.size a ≤ S1x1x64x8192.size a := fun i v1 v5 v9 v13 v17 v21 v24 k0_hw1 k0_t2 k0_h1 => k0_hw1.1.2.2.2.2.2.2.2.2.2.2.2.2.2.2.2.2.2.2.2.1 k0_t2 k0_h1
theorem k0_off15_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), ∀ a, (k0_off15 i v1 v5 v9 v13 v17 v21 v24 k0_t2) a + S128x512.size a ≤ S256x8192.size a := fun i v1 v5 v9 v13 v17 v21 v24 k0_hw1 k0_t2 k0_h1 => k0_hw1.1.2.2.2.2.2.2.2.2.2.2.2.2.2.2.2.2.2.2.2.2.1 k0_t2 k0_h1
theorem k0_off15_packedbf16 : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), (Rect.unit (s := S256x8192) (k0_off15 i v1 v5 v9 v13 v17 v21 v24 k0_t2) S128x512.size (k0_off15_inb i v1 v5 v9 v13 v17 v21 v24 k0_hw1 k0_t2 k0_h1)).PackedRows (EltTy.packing .bf16) := fun i v1 v5 v9 v13 v17 v21 v24 k0_hw1 k0_t2 k0_h1 => k0_hw1.1.2.2.2.2.2.2.2.2.2.2.2.2.2.2.2.2.2.2.2.2.2.1 k0_t2 k0_h1 (k0_off15_inb i v1 v5 v9 v13 v17 v21 v24 k0_hw1 k0_t2 k0_h1)
theorem k0_off16_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), ∀ a, (k0_off16 i v1 v5 v9 v13 v17 v21 v24 k0_t2) a + S128x512.size a ≤ S256x8192.size a := fun i v1 v5 v9 v13 v17 v21 v24 k0_hw1 k0_t2 k0_h1 => k0_hw1.1.2.2.2.2.2.2.2.2.2.2.2.2.2.2.2.2.2.2.2.2.2.2.1 k0_t2 k0_h1
theorem k0_off16_packedbf16 : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), (Rect.unit (s := S256x8192) (k0_off16 i v1 v5 v9 v13 v17 v21 v24 k0_t2) S128x512.size (k0_off16_inb i v1 v5 v9 v13 v17 v21 v24 k0_hw1 k0_t2 k0_h1)).PackedRows (EltTy.packing .bf16) := fun i v1 v5 v9 v13 v17 v21 v24 k0_hw1 k0_t2 k0_h1 => k0_hw1.1.2.2.2.2.2.2.2.2.2.2.2.2.2.2.2.2.2.2.2.2.2.2.2.1 k0_t2 k0_h1 (k0_off16_inb i v1 v5 v9 v13 v17 v21 v24 k0_hw1 k0_t2 k0_h1)
theorem k0_off17_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), ∀ a, (k0_off17 i v1 v5 v9 v13 v17 v21 v24 k0_t2) a + S16x512.size a ≤ S256x8192.size a := fun i v1 v5 v9 v13 v17 v21 v24 k0_hw1 k0_t2 k0_h1 => k0_hw1.1.2.2.2.2.2.2.2.2.2.2.2.2.2.2.2.2.2.2.2.2.2.2.2.2.1 k0_t2 k0_h1
theorem k0_off17_packedbf16 : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), (Rect.unit (s := S256x8192) (k0_off17 i v1 v5 v9 v13 v17 v21 v24 k0_t2) S16x512.size (k0_off17_inb i v1 v5 v9 v13 v17 v21 v24 k0_hw1 k0_t2 k0_h1)).PackedRows (EltTy.packing .bf16) := fun i v1 v5 v9 v13 v17 v21 v24 k0_hw1 k0_t2 k0_h1 => k0_hw1.1.2.2.2.2.2.2.2.2.2.2.2.2.2.2.2.2.2.2.2.2.2.2.2.2.2.1 k0_t2 k0_h1 (k0_off17_inb i v1 v5 v9 v13 v17 v21 v24 k0_hw1 k0_t2 k0_h1)
theorem k0_off18_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), ∀ a, (k0_off18 i v1 v5 v9 v13 v17 v21 v24 k0_t2) a + S16x512.size a ≤ S256x8192.size a := fun i v1 v5 v9 v13 v17 v21 v24 k0_hw1 k0_t2 k0_h1 => k0_hw1.1.2.2.2.2.2.2.2.2.2.2.2.2.2.2.2.2.2.2.2.2.2.2.2.2.2.2.1 k0_t2 k0_h1
theorem k0_off18_packedbf16 : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t2 : Fin (k0_t2_loop i v1 v5 v9 v13 v17 v21 v24).trips), ∀ (k0_h1 : k0_cond1 i v1 v5 v9 v13 v17 v21 v24 = 1#1), (Rect.unit (s := S256x8192) (k0_off18 i v1 v5 v9 v13 v17 v21 v24 k0_t2) S16x512.size (k0_off18_inb i v1 v5 v9 v13 v17 v21 v24 k0_hw1 k0_t2 k0_h1)).PackedRows (EltTy.packing .bf16) := fun i v1 v5 v9 v13 v17 v21 v24 k0_hw1 k0_t2 k0_h1 => k0_hw1.1.2.2.2.2.2.2.2.2.2.2.2.2.2.2.2.2.2.2.2.2.2.2.2.2.2.2.2.1 k0_t2 k0_h1 (k0_off18_inb i v1 v5 v9 v13 v17 v21 v24 k0_hw1 k0_t2 k0_h1)
theorem k0_t3_ok : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24), ∀ (k0_h1 : k0_cond1 i v1 v5 v9 v13 v17 v21 v24 = 1#1), (k0_t3_loop i v1 v5 v9 v13 v17 v21).OK := fun i v1 v5 v9 v13 v17 v21 v24 k0_hw1 k0_h1 => k0_hw1.1.2.2.2.2.2.2.2.2.2.2.2.2.2.2.2.2.2.2.2.2.2.2.2.2.2.2.2.2.1 k0_h1
theorem k0_mult5_dvd : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips), ∀ (k0_h1 : k0_cond1 i v1 v5 v9 v13 v17 v21 v24 = 1#1), 16 ∣ (k0_mult5 i v1 v5 v9 v13 v17 v21 k0_t3).toNat := fun i v1 v5 v9 v13 v17 v21 v24 k0_hw1 k0_t3 k0_h1 => k0_hw1.1.2.2.2.2.2.2.2.2.2.2.2.2.2.2.2.2.2.2.2.2.2.2.2.2.2.2.2.2.2.1 k0_t3 k0_h1
theorem k0_t4_ok : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips), ∀ (k0_h1 : k0_cond1 i v1 v5 v9 v13 v17 v21 v24 = 1#1), (k0_t4_loop i v1 v5 v9 v13 v17 v21 v24).OK := fun i v1 v5 v9 v13 v17 v21 v24 k0_hw1 k0_t3 k0_h1 => k0_hw1.1.2.2.2.2.2.2.2.2.2.2.2.2.2.2.2.2.2.2.2.2.2.2.2.2.2.2.2.2.2.2.1 k0_t3 k0_h1
theorem k0_mult6_dvd : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), 512 ∣ (k0_mult6 i v1 v5 v9 v13 v17 v21 v24 k0_t4).toNat := fun i v1 v5 v9 v13 v17 v21 v24 k0_hw1 k0_t3 k0_t4 k0_h1 => k0_hw1.1.2.2.2.2.2.2.2.2.2.2.2.2.2.2.2.2.2.2.2.2.2.2.2.2.2.2.2.2.2.2.2 k0_t3 k0_t4 k0_h1
theorem k0_off19_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), ∀ a, (k0_off19 i v1 v5 v9 v13 v17 v21 k0_t3) a + S256x128.size a ≤ S2560x128.size a := fun i v1 v5 v9 v13 v17 v21 v24 k0_hw1 k0_t3 k0_t4 k0_h1 => k0_hw1.2.1 k0_t3 k0_t4 k0_h1
theorem k0_off20_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), ∀ a, (k0_off20 i v1 v5 v9 v13 v17 v21 v24 k0_t4) a + S256x512.size a ≤ S256x8192.size a := fun i v1 v5 v9 v13 v17 v21 v24 k0_hw1 k0_t3 k0_t4 k0_h1 => k0_hw1.2.2.1 k0_t3 k0_t4 k0_h1
theorem k0_off21_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), ∀ a, (k0_off21 i v1 v5 v9 v13 v17 v21 v24 k0_t4) a + S1x512.size a ≤ S8x8192.size a := fun i v1 v5 v9 v13 v17 v21 v24 k0_hw1 k0_t3 k0_t4 k0_h1 => k0_hw1.2.2.2.1 k0_t3 k0_t4 k0_h1
theorem k0_off22_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), ∀ a, (k0_off22 i v1 v5 v9 v13 v17 v21 v24 k0_t4) a + S1x512.size a ≤ S8x8192.size a := fun i v1 v5 v9 v13 v17 v21 v24 k0_hw1 k0_t3 k0_t4 k0_h1 => k0_hw1.2.2.2.2.1 k0_t3 k0_t4 k0_h1
theorem k0_off23_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t4 : Fin (k0_t4_loop i v1 v5 v9 v13 v17 v21 v24).trips), ∀ (k0_h1 : k0_cond1 i v1 v5 v9 v13 v17 v21 v24 = 1#1), ∀ a, (k0_off23 i v1 v5 v9 v13 v17 v21 v24 k0_t4) a + S1x512.size a ≤ S8x8192.size a := fun i v1 v5 v9 v13 v17 v21 v24 k0_hw1 k0_t3 k0_t4 k0_h1 => k0_hw1.2.2.2.2.2.1 k0_t3 k0_t4 k0_h1
theorem k0_t5_ok : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips), ∀ (k0_h1 : k0_cond1 i v1 v5 v9 v13 v17 v21 v24 = 1#1), (k0_t5_loop i v1 v5 v9 v13 v17 v21 v24).OK := fun i v1 v5 v9 v13 v17 v21 v24 k0_hw1 k0_t3 k0_h1 => k0_hw1.2.2.2.2.2.2.1 k0_t3 k0_h1
theorem k0_mult7_dvd : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), 512 ∣ (k0_mult7 i v1 v5 v9 v13 v17 v21 v24 k0_t5).toNat := fun i v1 v5 v9 v13 v17 v21 v24 k0_hw1 k0_t3 k0_t5 k0_h1 => k0_hw1.2.2.2.2.2.2.2.1 k0_t3 k0_t5 k0_h1
theorem k0_off24_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), ∀ a, (k0_off24 i v1 v5 v9 v13 v17 v21 k0_t3) a + S256x128.size a ≤ S2560x128.size a := fun i v1 v5 v9 v13 v17 v21 v24 k0_hw1 k0_t3 k0_t5 k0_h1 => k0_hw1.2.2.2.2.2.2.2.2.1 k0_t3 k0_t5 k0_h1
theorem k0_off25_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), ∀ a, (k0_off25 i v1 v5 v9 v13 v17 v21 v24 k0_t5) a + S256x512.size a ≤ S256x8192.size a := fun i v1 v5 v9 v13 v17 v21 v24 k0_hw1 k0_t3 k0_t5 k0_h1 => k0_hw1.2.2.2.2.2.2.2.2.2.1 k0_t3 k0_t5 k0_h1
theorem k0_off26_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), ∀ a, (k0_off26 i v1 v5 v9 v13 v17 v21 v24 k0_t5) a + S1x512.size a ≤ S8x8192.size a := fun i v1 v5 v9 v13 v17 v21 v24 k0_hw1 k0_t3 k0_t5 k0_h1 => k0_hw1.2.2.2.2.2.2.2.2.2.2.1 k0_t3 k0_t5 k0_h1
theorem k0_off27_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), ∀ a, (k0_off27 i v1 v5 v9 v13 v17 v21 v24 k0_t5) a + S1x512.size a ≤ S8x8192.size a := fun i v1 v5 v9 v13 v17 v21 v24 k0_hw1 k0_t3 k0_t5 k0_h1 => k0_hw1.2.2.2.2.2.2.2.2.2.2.2.1 k0_t3 k0_t5 k0_h1
theorem k0_off28_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips) (k0_t5 : Fin (k0_t5_loop i v1 v5 v9 v13 v17 v21 v24).trips), ∀ (k0_h1 : k0_cond1 i v1 v5 v9 v13 v17 v21 v24 = 1#1), ∀ a, (k0_off28 i v1 v5 v9 v13 v17 v21 v24 k0_t5) a + S1x512.size a ≤ S8x8192.size a := fun i v1 v5 v9 v13 v17 v21 v24 k0_hw1 k0_t3 k0_t5 k0_h1 => k0_hw1.2.2.2.2.2.2.2.2.2.2.2.2.1 k0_t3 k0_t5 k0_h1
theorem k0_off29_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t3 : Fin (k0_t3_loop i v1 v5 v9 v13 v17 v21).trips), ∀ (k0_h1 : k0_cond1 i v1 v5 v9 v13 v17 v21 v24 = 1#1), ∀ a, (k0_off29 i v1 v5 v9 v13 v17 v21 k0_t3) a + S256x128.size a ≤ S2560x128.size a := fun i v1 v5 v9 v13 v17 v21 v24 k0_hw1 k0_t3 k0_h1 => k0_hw1.2.2.2.2.2.2.2.2.2.2.2.2.2.1 k0_t3 k0_h1
theorem k0_t6_ok : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24), ∀ (k0_h1 : k0_cond1 i v1 v5 v9 v13 v17 v21 v24 = 1#1), (k0_t6_loop i v1 v5 v9 v13 v17 v21).OK := fun i v1 v5 v9 v13 v17 v21 v24 k0_hw1 k0_h1 => k0_hw1.2.2.2.2.2.2.2.2.2.2.2.2.2.2.1 k0_h1
theorem k0_mult8_dvd : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips), ∀ (k0_h1 : k0_cond1 i v1 v5 v9 v13 v17 v21 v24 = 1#1), 16 ∣ (k0_mult8 i v1 v5 v9 v13 v17 v21 k0_t6).toNat := fun i v1 v5 v9 v13 v17 v21 v24 k0_hw1 k0_t6 k0_h1 => k0_hw1.2.2.2.2.2.2.2.2.2.2.2.2.2.2.2.1 k0_t6 k0_h1
theorem k0_t7_ok : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips), ∀ (k0_h1 : k0_cond1 i v1 v5 v9 v13 v17 v21 v24 = 1#1), (k0_t7_loop i v1 v5 v9 v13 v17 v21 v24).OK := fun i v1 v5 v9 v13 v17 v21 v24 k0_hw1 k0_t6 k0_h1 => k0_hw1.2.2.2.2.2.2.2.2.2.2.2.2.2.2.2.2.1 k0_t6 k0_h1
theorem k0_mult9_dvd : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), 512 ∣ (k0_mult9 i v1 v5 v9 v13 v17 v21 v24 k0_t7).toNat := fun i v1 v5 v9 v13 v17 v21 v24 k0_hw1 k0_t6 k0_t7 k0_h1 => k0_hw1.2.2.2.2.2.2.2.2.2.2.2.2.2.2.2.2.2.1 k0_t6 k0_t7 k0_h1
theorem k0_off30_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), ∀ a, (k0_off30 i v1 v5 v9 v13 v17 v21 k0_t6) a + S256x128.size a ≤ S2560x128.size a := fun i v1 v5 v9 v13 v17 v21 v24 k0_hw1 k0_t6 k0_t7 k0_h1 => k0_hw1.2.2.2.2.2.2.2.2.2.2.2.2.2.2.2.2.2.2.1 k0_t6 k0_t7 k0_h1
theorem k0_off31_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), ∀ a, (k0_off31 i v1 v5 v9 v13 v17 v21 v24 k0_t7) a + S256x512.size a ≤ S256x8192.size a := fun i v1 v5 v9 v13 v17 v21 v24 k0_hw1 k0_t6 k0_t7 k0_h1 => k0_hw1.2.2.2.2.2.2.2.2.2.2.2.2.2.2.2.2.2.2.2.1 k0_t6 k0_t7 k0_h1
theorem k0_off32_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), ∀ a, (k0_off32 i v1 v5 v9 v13 v17 v21 v24 k0_t7) a + S1x512.size a ≤ S8x8192.size a := fun i v1 v5 v9 v13 v17 v21 v24 k0_hw1 k0_t6 k0_t7 k0_h1 => k0_hw1.2.2.2.2.2.2.2.2.2.2.2.2.2.2.2.2.2.2.2.2.1 k0_t6 k0_t7 k0_h1
theorem k0_off33_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), ∀ a, (k0_off33 i v1 v5 v9 v13 v17 v21 v24 k0_t7) a + S1x512.size a ≤ S8x8192.size a := fun i v1 v5 v9 v13 v17 v21 v24 k0_hw1 k0_t6 k0_t7 k0_h1 => k0_hw1.2.2.2.2.2.2.2.2.2.2.2.2.2.2.2.2.2.2.2.2.2.1 k0_t6 k0_t7 k0_h1
theorem k0_off34_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t7 : Fin (k0_t7_loop i v1 v5 v9 v13 v17 v21 v24).trips), ∀ (k0_h1 : k0_cond1 i v1 v5 v9 v13 v17 v21 v24 = 1#1), ∀ a, (k0_off34 i v1 v5 v9 v13 v17 v21 v24 k0_t7) a + S1x512.size a ≤ S8x8192.size a := fun i v1 v5 v9 v13 v17 v21 v24 k0_hw1 k0_t6 k0_t7 k0_h1 => k0_hw1.2.2.2.2.2.2.2.2.2.2.2.2.2.2.2.2.2.2.2.2.2.2.1 k0_t6 k0_t7 k0_h1
theorem k0_t8_ok : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips), ∀ (k0_h1 : k0_cond1 i v1 v5 v9 v13 v17 v21 v24 = 1#1), (k0_t8_loop i v1 v5 v9 v13 v17 v21 v24).OK := fun i v1 v5 v9 v13 v17 v21 v24 k0_hw1 k0_t6 k0_h1 => k0_hw1.2.2.2.2.2.2.2.2.2.2.2.2.2.2.2.2.2.2.2.2.2.2.2.1 k0_t6 k0_h1
theorem k0_mult10_dvd : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), 512 ∣ (k0_mult10 i v1 v5 v9 v13 v17 v21 v24 k0_t8).toNat := fun i v1 v5 v9 v13 v17 v21 v24 k0_hw1 k0_t6 k0_t8 k0_h1 => k0_hw1.2.2.2.2.2.2.2.2.2.2.2.2.2.2.2.2.2.2.2.2.2.2.2.2.1 k0_t6 k0_t8 k0_h1
theorem k0_off35_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), ∀ a, (k0_off35 i v1 v5 v9 v13 v17 v21 k0_t6) a + S256x128.size a ≤ S2560x128.size a := fun i v1 v5 v9 v13 v17 v21 v24 k0_hw1 k0_t6 k0_t8 k0_h1 => k0_hw1.2.2.2.2.2.2.2.2.2.2.2.2.2.2.2.2.2.2.2.2.2.2.2.2.2.1 k0_t6 k0_t8 k0_h1
theorem k0_off36_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), ∀ a, (k0_off36 i v1 v5 v9 v13 v17 v21 v24 k0_t8) a + S256x512.size a ≤ S256x8192.size a := fun i v1 v5 v9 v13 v17 v21 v24 k0_hw1 k0_t6 k0_t8 k0_h1 => k0_hw1.2.2.2.2.2.2.2.2.2.2.2.2.2.2.2.2.2.2.2.2.2.2.2.2.2.2.1 k0_t6 k0_t8 k0_h1
theorem k0_off37_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), ∀ a, (k0_off37 i v1 v5 v9 v13 v17 v21 v24 k0_t8) a + S1x512.size a ≤ S8x8192.size a := fun i v1 v5 v9 v13 v17 v21 v24 k0_hw1 k0_t6 k0_t8 k0_h1 => k0_hw1.2.2.2.2.2.2.2.2.2.2.2.2.2.2.2.2.2.2.2.2.2.2.2.2.2.2.2.1 k0_t6 k0_t8 k0_h1
theorem k0_off38_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), ∀ a, (k0_off38 i v1 v5 v9 v13 v17 v21 v24 k0_t8) a + S1x512.size a ≤ S8x8192.size a := fun i v1 v5 v9 v13 v17 v21 v24 k0_hw1 k0_t6 k0_t8 k0_h1 => k0_hw1.2.2.2.2.2.2.2.2.2.2.2.2.2.2.2.2.2.2.2.2.2.2.2.2.2.2.2.2.1 k0_t6 k0_t8 k0_h1
theorem k0_off39_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips) (k0_t8 : Fin (k0_t8_loop i v1 v5 v9 v13 v17 v21 v24).trips), ∀ (k0_h1 : k0_cond1 i v1 v5 v9 v13 v17 v21 v24 = 1#1), ∀ a, (k0_off39 i v1 v5 v9 v13 v17 v21 v24 k0_t8) a + S1x512.size a ≤ S8x8192.size a := fun i v1 v5 v9 v13 v17 v21 v24 k0_hw1 k0_t6 k0_t8 k0_h1 => k0_hw1.2.2.2.2.2.2.2.2.2.2.2.2.2.2.2.2.2.2.2.2.2.2.2.2.2.2.2.2.2.1 k0_t6 k0_t8 k0_h1
theorem k0_off40_inb : ∀ (i : grid0.Coords) (v1 : BitVec 32) (v5 : BitVec 32) (v9 : BitVec 32) (v13 : BitVec 32) (v17 : BitVec 32) (v21 : BitVec 32) (v24 : BitVec 32) (k0_hw1 : k0_chk1 i v1 v5 v9 v13 v17 v21 v24) (k0_t6 : Fin (k0_t6_loop i v1 v5 v9 v13 v17 v21).trips), ∀ (k0_h1 : k0_cond1 i v1 v5 v9 v13 v17 v21 v24 = 1#1), ∀ a, (k0_off40 i v1 v5 v9 v13 v17 v21 k0_t6) a + S256x128.size a ≤ S2560x128.size a := fun i v1 v5 v9 v13 v17 v21 v24 k0_hw1 k0_t6 k0_h1 => k0_hw1.2.2.2.2.2.2.2.2.2.2.2.2.2.2.2.2.2.2.2.2.2.2.2.2.2.2.2.2.2.2 k0_t6 k0_h1

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S5 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S5 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2560x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2560x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x8193 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x64x8192 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x64x8192 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x8x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x8x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x8x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S2560x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S5 : Shape := ⟨1, ![5]⟩
abbrev S2560x1024 : Shape := ⟨2, ![2560, 1024]⟩
abbrev S2560x128 : Shape := ⟨2, ![2560, 128]⟩
abbrev S8x8193 : Shape := ⟨2, ![8, 8193]⟩
abbrev S5x8x64x8192 : Shape := ⟨4, ![5, 8, 64, 8192]⟩
abbrev S5x8x8192 : Shape := ⟨3, ![5, 8, 8192]⟩
abbrev S2560x8x128 : Shape := ⟨3, ![2560, 8, 128]⟩
abbrev S_ : Shape := ⟨0, ![]⟩
abbrev S2560x8 : Shape := ⟨2, ![2560, 8]⟩
abbrev S5x8x64x1x8192 : Shape := ⟨5, ![5, 8, 64, 1, 8192]⟩
abbrev S5x8x64x2x8192 : Shape := ⟨5, ![5, 8, 64, 2, 8192]⟩
abbrev S5x8x128x8192 : Shape := ⟨4, ![5, 8, 128, 8192]⟩
abbrev S8192 : Shape := ⟨1, ![8192]⟩
abbrev S1x8192 : Shape := ⟨2, ![1, 8192]⟩
abbrev S5x1 : Shape := ⟨2, ![5, 1]⟩
abbrev S5x8192 : Shape := ⟨2, ![5, 8192]⟩
abbrev S8193x8 : Shape := ⟨2, ![8193, 8]⟩
abbrev S40960 : Shape := ⟨1, ![40960]⟩
abbrev S40960x1 : Shape := ⟨2, ![40960, 1]⟩
abbrev S40960x8 : Shape := ⟨2, ![40960, 8]⟩
abbrev S5x8192x8 : Shape := ⟨3, ![5, 8192, 8]⟩
abbrev S8x5x8192x2560 : Shape := ⟨4, ![8, 5, 8192, 2560]⟩
abbrev S5x8x2560x8192 : Shape := ⟨4, ![5, 8, 2560, 8192]⟩
abbrev S8x2560 : Shape := ⟨2, ![8, 2560]⟩
abbrev S1x8x2560x1 : Shape := ⟨4, ![1, 8, 2560, 1]⟩
abbrev S5x8x1x8192 : Shape := ⟨4, ![5, 8, 1, 8192]⟩
abbrev S5x1x1x8192 : Shape := ⟨4, ![5, 1, 1, 8192]⟩
abbrev S5x8x2560x128 : Shape := ⟨4, ![5, 8, 2560, 128]⟩
abbrev S5x8x2560 : Shape := ⟨3, ![5, 8, 2560]⟩
abbrev S5x8x2560x1 : Shape := ⟨4, ![5, 8, 2560, 1]⟩
abbrev S8x2560x128 : Shape := ⟨3, ![8, 2560, 128]⟩
abbrev S1x8x2560x128 : Shape := ⟨4, ![1, 8, 2560, 128]⟩
abbrev S5x1x1x1 : Shape := ⟨4, ![5, 1, 1, 1]⟩
abbrev S2560 : Shape := ⟨1, ![2560]⟩
abbrev S1x2560 : Shape := ⟨2, ![1, 2560]⟩
abbrev S5x2560 : Shape := ⟨2, ![5, 2560]⟩
abbrev S5x1x2560x1 : Shape := ⟨4, ![5, 1, 2560, 1]⟩

abbrev nBuf : Space → Nat
  | .hbm => 149
  | .vmem => 0
  | .smem => 0
  | _ => 0

abbrev hbmTy0_0 (i : Nat) : BufTy := match i % 128 with
  | 0 => ⟨S5, .i32⟩
  | 1 => ⟨S5, .i32⟩
  | 2 => ⟨S2560x1024, .bf16⟩
  | 3 => ⟨S2560x128, .bf16⟩
  | 4 => ⟨S2560x1024, .f32⟩
  | 5 => ⟨S8x8193, .f32⟩
  | 6 => ⟨S5x8x64x8192, .i8⟩
  | 7 => ⟨S5x8x64x8192, .i8⟩
  | 8 => ⟨S5x8x8192, .f32⟩
  | 9 => ⟨S5x8x8192, .f32⟩
  | 10 => ⟨S5x8x8192, .f32⟩
  | 11 => ⟨S5x8x8192, .f32⟩
  | 12 => ⟨S2560x8x128, .bf16⟩
  | 13 => ⟨S2560x8x128, .f32⟩
  | 14 => ⟨S_, .f32⟩
  | 15 => ⟨S2560x8, .f32⟩
  | 16 => ⟨S5x8x64x8192, .i32⟩
  | 17 => ⟨S_, .i32⟩
  | 18 => ⟨S5x8x64x8192, .i32⟩
  | 19 => ⟨S5x8x64x8192, .i32⟩
  | 20 => ⟨S_, .i32⟩
  | 21 => ⟨S5x8x64x8192, .i32⟩
  | 22 => ⟨S5x8x64x8192, .i32⟩
  | 23 => ⟨S5x8x64x1x8192, .i32⟩
  | 24 => ⟨S5x8x64x1x8192, .i32⟩
  | 25 => ⟨S5x8x64x2x8192, .i32⟩
  | 26 => ⟨S5x8x128x8192, .i32⟩
  | 27 => ⟨S5x8x128x8192, .bf16⟩
  | 28 => ⟨S5x8x64x8192, .i32⟩
  | 29 => ⟨S_, .i32⟩
  | 30 => ⟨S5x8x64x8192, .i32⟩
  | 31 => ⟨S5x8x64x8192, .i32⟩
  | 32 => ⟨S_, .i32⟩
  | 33 => ⟨S5x8x64x8192, .i32⟩
  | 34 => ⟨S5x8x64x8192, .i32⟩
  | 35 => ⟨S5x8x64x1x8192, .i32⟩
  | 36 => ⟨S5x8x64x1x8192, .i32⟩
  | 37 => ⟨S5x8x64x2x8192, .i32⟩
  | 38 => ⟨S5x8x128x8192, .i32⟩
  | 39 => ⟨S5x8x128x8192, .bf16⟩
  | 40 => ⟨S8192, .i32⟩
  | 41 => ⟨S1x8192, .i32⟩
  | 42 => ⟨S5x1, .i32⟩
  | 43 => ⟨S5x8192, .i32⟩
  | 44 => ⟨S5x8192, .i32⟩
  | 45 => ⟨S5x8192, .i1⟩
  | 46 => ⟨S5x8192, .i32⟩
  | 47 => ⟨S5x8192, .i32⟩
  | 48 => ⟨S5x8192, .i32⟩
  | 49 => ⟨S_, .i32⟩
  | 50 => ⟨S5x8192, .i32⟩
  | 51 => ⟨S5x8192, .i32⟩
  | 52 => ⟨S5x8192, .i32⟩
  | 53 => ⟨S5x8192, .i32⟩
  | 54 => ⟨S5x8192, .i32⟩
  | 55 => ⟨S5x8192, .i32⟩
  | 56 => ⟨S8193x8, .f32⟩
  | 57 => ⟨S40960, .i32⟩
  | 58 => ⟨S40960x1, .i32⟩
  | 59 => ⟨S40960x8, .f32⟩
  | 60 => ⟨S5x8192x8, .f32⟩
  | 61 => ⟨S5x8x8192, .f32⟩
  | 62 => ⟨S8x5x8192x2560, .f32⟩
  | 63 => ⟨S5x8x2560x8192, .f32⟩
  | 64 => ⟨S8x2560, .f32⟩
  | 65 => ⟨S1x8x2560x1, .f32⟩
  | 66 => ⟨S5x8x1x8192, .f32⟩
  | 67 => ⟨S5x8x2560x8192, .f32⟩
  | 68 => ⟨S5x8x2560x8192, .f32⟩
  | 69 => ⟨S5x8x2560x8192, .f32⟩
  | 70 => ⟨S5x8x1x8192, .f32⟩
  | 71 => ⟨S_, .f32⟩
  | 72 => ⟨S5x8x1x8192, .f32⟩
  | 73 => ⟨S5x8x1x8192, .f32⟩
  | 74 => ⟨S5x8x2560x8192, .f32⟩
  | 75 => ⟨S5x8x2560x8192, .f32⟩
  | 76 => ⟨S5x8x2560x8192, .f32⟩
  | 77 => ⟨S5x8x1x8192, .f32⟩
  | 78 => ⟨S5x8x2560x8192, .f32⟩
  | 79 => ⟨S5x8x2560x8192, .f32⟩
  | 80 => ⟨S5x8192, .i32⟩
  | 81 => ⟨S5x8192, .i32⟩
  | 82 => ⟨S5x8192, .i1⟩
  | 83 => ⟨S5x1x1x8192, .i1⟩
  | 84 => ⟨S5x8x2560x8192, .f32⟩
  | 85 => ⟨S5x8x2560x8192, .f32⟩
  | 86 => ⟨S_, .f32⟩
  | 87 => ⟨S5x8x2560x8192, .f32⟩
  | 88 => ⟨S5x8x2560x8192, .f32⟩
  | 89 => ⟨S_, .f32⟩
  | 90 => ⟨S5x8x2560x8192, .f32⟩
  | 91 => ⟨S5x8x2560x8192, .f32⟩
  | 92 => ⟨S5x8x2560x8192, .f32⟩
  | 93 => ⟨S_, .f32⟩
  | 94 => ⟨S_, .f32⟩
  | 95 => ⟨S5x8x2560x8192, .i1⟩
  | 96 => ⟨S5x8x2560x8192, .f32⟩
  | 97 => ⟨S5x8x2560x8192, .f32⟩
  | 98 => ⟨S5x8x1x8192, .f32⟩
  | 99 => ⟨S5x8x2560x8192, .f32⟩
  | 100 => ⟨S5x8x2560x8192, .f32⟩
  | 101 => ⟨S5x8x2560x8192, .bf16⟩
  | 102 => ⟨S5x8x2560x128, .f32⟩
  | 103 => ⟨S5x8x2560x8192, .f32⟩
  | 104 => ⟨S5x8x1x8192, .f32⟩
  | 105 => ⟨S5x8x2560x8192, .f32⟩
  | 106 => ⟨S5x8x2560x8192, .f32⟩
  | 107 => ⟨S_, .f32⟩
  | 108 => ⟨S5x8x2560, .f32⟩
  | 109 => ⟨S5x8x2560x1, .f32⟩
  | 110 => ⟨S5x8x2560x128, .f32⟩
  | 111 => ⟨S5x8x2560x128, .f32⟩
  | 112 => ⟨S2560x8x128, .f32⟩
  | 113 => ⟨S8x2560x128, .f32⟩
  | 114 => ⟨S1x8x2560x128, .f32⟩
  | 115 => ⟨S5x8x2560x128, .f32⟩
  | 116 => ⟨S5x8x2560x128, .f32⟩
  | 117 => ⟨S_, .i32⟩
  | 118 => ⟨S5, .i32⟩
  | 119 => ⟨S5, .i32⟩
  | 120 => ⟨S5, .f32⟩
  | 121 => ⟨S5x1x1x1, .f32⟩
  | 122 => ⟨S5x8x2560x128, .f32⟩
  | 123 => ⟨S5x8x2560x128, .f32⟩
  | 124 => ⟨S2560, .i32⟩
  | 125 => ⟨S1x2560, .i32⟩
  | 126 => ⟨S_, .i32⟩
  | 127 => ⟨S_, .i32⟩
  | _ => ⟨S5, .i32⟩

abbrev hbmTy0_1 (i : Nat) : BufTy := match i % 128 with
  | 0 => ⟨S5, .i32⟩
  | 1 => ⟨S5x1, .i32⟩
  | 2 => ⟨S5x1, .i32⟩
  | 3 => ⟨S5x1, .i32⟩
  | 4 => ⟨S5x2560, .i32⟩
  | 5 => ⟨S5x2560, .i32⟩
  | 6 => ⟨S5x2560, .i1⟩
  | 7 => ⟨S5x2560, .i32⟩
  | 8 => ⟨S5x2560, .i32⟩
  | 9 => ⟨S5x2560, .i1⟩
  | 10 => ⟨S5x2560, .i1⟩
  | 11 => ⟨S5x1x2560x1, .i1⟩
  | 12 => ⟨S_, .f32⟩
  | 13 => ⟨S_, .f32⟩
  | 14 => ⟨S5x8x2560x128, .i1⟩
  | 15 => ⟨S5x8x2560x128, .f32⟩
  | 16 => ⟨S5x8x2560x128, .f32⟩
  | 17 => ⟨S_, .f32⟩
  | 18 => ⟨S8x2560x128, .f32⟩
  | 19 => ⟨S2560x8x128, .f32⟩
  | 20 => ⟨S2560x1024, .f32⟩
  | _ => ⟨S5, .i32⟩

abbrev hbmTy (i : Nat) : BufTy := match i / 128 with
  | 0 => hbmTy0_0 i
  | 1 => hbmTy0_1 i
  | _ => ⟨S5, .i32⟩

abbrev bufTy : (tb : Table) → Fin (tcTables nBuf tb) → BufTy
  | .hbm, ⟨i, _⟩ => hbmTy i
  | _, _ => ⟨S5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_1 : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_4 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_5 : Ref sig .tc := ⟨.hbm, 86, rfl⟩
abbrev main_v67 : Ref sig .tc := ⟨.hbm, 87, rfl⟩
abbrev main_v68 : Ref sig .tc := ⟨.hbm, 88, rfl⟩
abbrev main_cst_6 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_7 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_8 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_9 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_call2_call0_c : Ref sig .tc := ⟨.hbm, 126, rfl⟩
abbrev main_call2_call0_v0 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_10 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_v111 : Ref sig .tc := ⟨.hbm, 144, rfl⟩
abbrev main_cst_11 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩

abbrev nD : Nat := 1
abbrev τ : Topo := Topo.v7x

variable {F : FTy → Type} [FloatOps F]
-- ==== Output.lean ====
abbrev S2560x1024 : Shape := ⟨2, ![2560, 1024]⟩
abbrev S1x1024 : Shape := ⟨2, ![1, 1024]⟩
abbrev S1024x1024 : Shape := ⟨2, ![1024, 1024]⟩
abbrev S16x1024 : Shape := ⟨2, ![16, 1024]⟩
abbrev S16x1 : Shape := ⟨2, ![16, 1]⟩
abbrev S16x2560 : Shape := ⟨2, ![16, 2560]⟩
abbrev S1x2560 : Shape := ⟨2, ![1, 2560]⟩
abbrev S256x1024 : Shape := ⟨2, ![256, 1024]⟩
abbrev S16x256 : Shape := ⟨2, ![16, 256]⟩
abbrev S1x256 : Shape := ⟨2, ![1, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩

abbrev nBuf : Space → Nat
  | .hbm => 17
  | .vmem => 26
  | .smem => 0
  | _ => 0

abbrev bufTy : (tb : Table) → Fin (tcTables nBuf tb) → BufTy
  | .hbm, ⟨0, _⟩ => ⟨S2560x1024, .f32⟩
  | .hbm, ⟨1, _⟩ => ⟨S2560x1024, .f32⟩
  | .hbm, ⟨2, _⟩ => ⟨S2560x1024, .bf16⟩
  | .hbm, ⟨3, _⟩ => ⟨S1x1024, .f32⟩
  | .hbm, ⟨4, _⟩ => ⟨S1x1024, .f32⟩
  | .hbm, ⟨5, _⟩ => ⟨S1024x1024, .fp8e4m3⟩
  | .hbm, ⟨6, _⟩ => ⟨S1x1024, .f32⟩
  | .hbm, ⟨7, _⟩ => ⟨S1x1024, .f32⟩
  | .hbm, ⟨8, _⟩ => ⟨S16x1024, .fp8e4m3⟩
  | .hbm, ⟨9, _⟩ => ⟨S16x1, .f32⟩
  | .hbm, ⟨10, _⟩ => ⟨S16x1, .f32⟩
  | .hbm, ⟨11, _⟩ => ⟨S2560x1024, .bf16⟩
  | .hbm, ⟨12, _⟩ => ⟨S16x2560, .f32⟩
  | .hbm, ⟨13, _⟩ => ⟨S2560x1024, .fp8e4m3⟩
  | .hbm, ⟨14, _⟩ => ⟨S1x2560, .f32⟩
  | .hbm, ⟨15, _⟩ => ⟨S2560x1024, .fp8e4m3⟩
  | .hbm, ⟨16, _⟩ => ⟨S1x2560, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .fp8e4m3⟩
  | .local _ .vmem, ⟨9, _⟩ => ⟨S1x1024, .f32⟩
  | .local _ .vmem, ⟨10, _⟩ => ⟨S1x1024, .f32⟩
  | .local _ .vmem, ⟨11, _⟩ => ⟨S16x1024, .fp8e4m3⟩
  | .local _ .vmem, ⟨12, _⟩ => ⟨S16x1, .f32⟩
  | .local _ .vmem, ⟨13, _⟩ => ⟨S16x1, .f32⟩
  | .local _ .vmem, ⟨14, _⟩ => ⟨S256x1024, .bf16⟩
  | .local _ .vmem, ⟨15, _⟩ => ⟨S256x1024, .bf16⟩
  | .local _ .vmem, ⟨16, _⟩ => ⟨S16x256, .f32⟩
  | .local _ .vmem, ⟨17, _⟩ => ⟨S16x256, .f32⟩
  | .local _ .vmem, ⟨18, _⟩ => ⟨S256x1024, .fp8e4m3⟩
  | .local _ .vmem, ⟨19, _⟩ => ⟨S256x1024, .fp8e4m3⟩
  | .local _ .vmem, ⟨20, _⟩ => ⟨S1x256, .f32⟩
  | .local _ .vmem, ⟨21, _⟩ => ⟨S1x256, .f32⟩
  | .local _ .vmem, ⟨22, _⟩ => ⟨S256x1024, .fp8e4m3⟩
  | .local _ .vmem, ⟨23, _⟩ => ⟨S256x1024, .fp8e4m3⟩
  | .local _ .vmem, ⟨24, _⟩ => ⟨S1x256, .f32⟩
  | .local _ .vmem, ⟨25, _⟩ => ⟨S1x256, .f32⟩
  | _, _ => ⟨S2560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== OutputReferenceIdeal.lean ====
abbrev S2560x1024 : Shape := ⟨2, ![2560, 1024]⟩
abbrev S1x1024 : Shape := ⟨2, ![1, 1024]⟩
abbrev S1024x1024 : Shape := ⟨2, ![1024, 1024]⟩
abbrev S16x1024 : Shape := ⟨2, ![16, 1024]⟩
abbrev S16x1 : Shape := ⟨2, ![16, 1]⟩
abbrev S16x2560 : Shape := ⟨2, ![16, 2560]⟩
abbrev S1x2560 : Shape := ⟨2, ![1, 2560]⟩
abbrev S2560 : Shape := ⟨1, ![2560]⟩
abbrev S2560x1 : Shape := ⟨2, ![2560, 1]⟩
abbrev S2560x16 : Shape := ⟨2, ![2560, 16]⟩
abbrev S1x16 : Shape := ⟨2, ![1, 16]⟩

abbrev nBuf : Space → Nat
  | .hbm => 17
  | .vmem => 17
  | .smem => 0
  | _ => 0

abbrev bufTy : (tb : Table) → Fin (tcTables nBuf tb) → BufTy
  | .hbm, ⟨0, _⟩ => ⟨S2560x1024, .f32⟩
  | .hbm, ⟨1, _⟩ => ⟨S2560x1024, .f32⟩
  | .hbm, ⟨2, _⟩ => ⟨S2560x1024, .bf16⟩
  | .hbm, ⟨3, _⟩ => ⟨S1x1024, .f32⟩
  | .hbm, ⟨4, _⟩ => ⟨S1x1024, .f32⟩
  | .hbm, ⟨5, _⟩ => ⟨S1024x1024, .fp8e4m3⟩
  | .hbm, ⟨6, _⟩ => ⟨S1x1024, .f32⟩
  | .hbm, ⟨7, _⟩ => ⟨S1x1024, .f32⟩
  | .hbm, ⟨8, _⟩ => ⟨S16x1024, .fp8e4m3⟩
  | .hbm, ⟨9, _⟩ => ⟨S16x1, .f32⟩
  | .hbm, ⟨10, _⟩ => ⟨S16x1, .f32⟩
  | .hbm, ⟨11, _⟩ => ⟨S2560x1024, .bf16⟩
  | .hbm, ⟨12, _⟩ => ⟨S16x2560, .f32⟩
  | .hbm, ⟨13, _⟩ => ⟨S2560x1024, .fp8e4m3⟩
  | .hbm, ⟨14, _⟩ => ⟨S1x2560, .f32⟩
  | .hbm, ⟨15, _⟩ => ⟨S2560x1024, .fp8e4m3⟩
  | .hbm, ⟨16, _⟩ => ⟨S1x2560, .f32⟩
  | .local _ .vmem, ⟨0, _⟩ => ⟨S2560x1024, .f32⟩
  | .local _ .vmem, ⟨1, _⟩ => ⟨S2560x1024, .f32⟩
  | .local _ .vmem, ⟨2, _⟩ => ⟨S2560x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .fp8e4m3⟩
  | .local _ .vmem, ⟨6, _⟩ => ⟨S1x1024, .f32⟩
  | .local _ .vmem, ⟨7, _⟩ => ⟨S1x1024, .f32⟩
  | .local _ .vmem, ⟨8, _⟩ => ⟨S16x1024, .fp8e4m3⟩
  | .local _ .vmem, ⟨9, _⟩ => ⟨S16x1, .f32⟩
  | .local _ .vmem, ⟨10, _⟩ => ⟨S16x1, .f32⟩
  | .local _ .vmem, ⟨11, _⟩ => ⟨S2560x1024, .bf16⟩
  | .local _ .vmem, ⟨12, _⟩ => ⟨S16x2560, .f32⟩
  | .local _ .vmem, ⟨13, _⟩ => ⟨S2560x1024, .fp8e4m3⟩
  | .local _ .vmem, ⟨14, _⟩ => ⟨S1x2560, .f32⟩
  | .local _ .vmem, ⟨15, _⟩ => ⟨S2560x1024, .fp8e4m3⟩
  | .local _ .vmem, ⟨16, _⟩ => ⟨S1x2560, .f32⟩
  | _, _ => ⟨S2560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S2560x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2560x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x2560 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2560x1024 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x2560 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2560x1024 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x2560 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Words.lean ====
/-
  The kernel's index words, read as natural numbers.

  Five candidate counts split 2560 rows; user `u` owns the rows from `first n u` up to (but not including)
  `first n u + n u`. This module evaluates the 32-bit expressions the kernel computes from the counts (the first row, the
  number of history tiles, the first row rounded down to sixteen, the number of row tiles and their positions) as
  natural numbers, so that every later module speaks of numbers and not of words.
-/
module

public import Idealize.ShloMosaic.Lib.Affine
public import Idealize.ShloMosaic.Lib.LoopRemainder

@[expose] public section

namespace Cert.Words

open Idealize.ShloMosaic Idealize.ShloMosaic.Affine

/-- The five words are the words of five numbers that sum to 2560. -/
structure Ragged (w : Fin 5 → BitVec 32) (n : Fin 5 → ℕ) : Prop where
  word : ∀ u, w u = BitVec.ofNat 32 (n u)
  sum : n 0 + n 1 + n 2 + n 3 + n 4 = 2560

/-- The first row of user `u`. -/
def first (n : Fin 5 → ℕ) (u : ℕ) : ℕ :=
  (if 0 < u then n 0 else 0) + (if 1 < u then n 1 else 0) + (if 2 < u then n 2 else 0) + (if 3 < u then n 3 else 0)
    + (if 4 < u then n 4 else 0)

/-- The kernel's word for the first row of user `u`. -/
def startW (w : Fin 5 → BitVec 32) (u : ℕ) : BitVec 32 :=
  Scalar.addi (Scalar.addi (Scalar.addi (Scalar.addi (Scalar.addi 0#32
    (Scalar.select (Scalar.cmpi .sgt (BitVec.ofNat 32 u) 0#32) (w 0) 0#32))
    (Scalar.select (Scalar.cmpi .sgt (BitVec.ofNat 32 u) 1#32) (w 1) 0#32))
    (Scalar.select (Scalar.cmpi .sgt (BitVec.ofNat 32 u) 2#32) (w 2) 0#32))
    (Scalar.select (Scalar.cmpi .sgt (BitVec.ofNat 32 u) 3#32) (w 3) 0#32))
    (Scalar.select (Scalar.cmpi .sgt (BitVec.ofNat 32 u) 4#32) (w 4) 0#32)

/-- The kernel's word for the number of 512-position tiles of the history (zero for a user without rows). -/
def tilesW (s e h : BitVec 32) : BitVec 32 :=
  Scalar.select (Scalar.cmpi .sgt e s) (Scalar.divsi (Scalar.addi h 511#32) 512#32) 0#32

/-- The kernel's word for "this user has a tile". -/
def condW (t : BitVec 32) : BitVec 1 := Scalar.cmpi .ne (Scalar.extui (Scalar.cmpi .sgt t 0#32) : BitVec 32) 0#32

/-- The kernel's word for `s` rounded down to a multiple of sixteen. -/
def floorW (s : BitVec 32) : BitVec 32 :=
  Scalar.muli (Scalar.select
    (Scalar.andi
      (Scalar.cmpi .ne (Scalar.subi (Scalar.extui (Scalar.cmpi .sgt s 0#32)) (Scalar.extui (Scalar.cmpi .slt s 0#32)) : BitVec 32)
        (Scalar.subi (Scalar.extui (Scalar.cmpi .sgt (16#32 : BitVec 32) 0#32)) (Scalar.extui (Scalar.cmpi .slt (16#32 : BitVec 32) 0#32))))
      (Scalar.cmpi .ne (Scalar.remsi s 16#32) 0#32))
    (Scalar.subi (Scalar.divsi s 16#32) 1#32) (Scalar.divsi s 16#32)) 16#32

/-- The kernel's word for the number of 256-row tiles from `f` to `e`. -/
def rowsW (e f : BitVec 32) : BitVec 32 := Scalar.divsi (Scalar.addi (Scalar.subi e f) 255#32) 256#32

/-- The upper bound jax prints for a loop of `x` trips from zero. -/
def ubW (x : BitVec 32) : BitVec 32 :=
  Scalar.addi 0#32 (Scalar.muli (Scalar.divsi (Scalar.subi x 0#32) 1#32) 1#32)

/-- The kernel's word for the first row of row tile `k`. -/
def rowW (f : BitVec 32) (k : ℕ) : BitVec 32 :=
  Scalar.minsi (Scalar.addi f (Scalar.muli (Scf.iv 0#32 1#32 k) 256#32)) 2304#32

/-- A nonnegative word is the word of its number. -/
theorem eq_ofNat {x : BitVec 32} {n : ℕ} (h : IsInt x n) (hn : n < 2 ^ 31) : x = BitVec.ofNat 32 n := by
  have h' := Affine.ofNat (e := n) n ⟨rfl, hn⟩
  unfold IsInt at h h'
  exact BitVec.toInt_inj.mp (h.trans h'.symm)

/-- The word of a small number read signed. -/
theorem isInt {n : ℕ} (hn : n < 2 ^ 31) : IsInt (BitVec.ofNat 32 n) n := Affine.ofNat n ⟨rfl, hn⟩

theorem select_word {p : Prop} [Decidable p] {c : BitVec 1} {a : ℕ} (h : c = 1#1 ↔ p) :
    Scalar.select c (BitVec.ofNat 32 a) 0#32 = BitVec.ofNat 32 (if p then a else 0) := by
  by_cases hp : p
  · rw [if_pos hp, h.mpr hp]; rfl
  · rw [if_neg hp]
    have : c = 0#1 := by
      have h1 : ¬ c = 1#1 := fun hh => hp (h.mp hh)
      have key : ∀ c : BitVec 1, ¬ c = 1#1 → c = 0#1 := by decide
      exact key c h1
    rw [this]; rfl

/-- "Greater than" of two small numbers. -/
theorem gt_iff {a b : ℕ} (ha : a < 2 ^ 31) (hb : b < 2 ^ 31) :
    Scalar.cmpi .sgt (BitVec.ofNat 32 a) (BitVec.ofNat 32 b) = 1#1 ↔ b < a := by
  constructor
  · intro h; by_contra hc
    exact Affine.sgt_fails (isInt ha) (isInt hb) (by omega) h
  · intro h; exact Affine.sgt_holds (isInt ha) (isInt hb) (by omega)

theorem add_word (a b : ℕ) : Scalar.addi (BitVec.ofNat 32 a) (BitVec.ofNat 32 b) = BitVec.ofNat 32 (a + b) := by
  simp only [Scalar.addi, IntOp.addi, BitVec.ofNat_add]

theorem mul_word (a b : ℕ) : Scalar.muli (BitVec.ofNat 32 a) (BitVec.ofNat 32 b) = BitVec.ofNat 32 (a * b) := by
  simp only [Scalar.muli, IntOp.muli, BitVec.ofNat_mul]

theorem div_word {a b : ℕ} (ha : a < 2 ^ 31) (hb : b < 2 ^ 31) (h0 : 0 < b) :
    Scalar.divsi (BitVec.ofNat 32 a) (BitVec.ofNat 32 b) = BitVec.ofNat 32 (a / b) :=
  eq_ofNat (Affine.divsi (isInt ha) (isInt hb) ⟨by norm_cast, by omega, by omega⟩)
    (lt_of_le_of_lt (Nat.div_le_self _ _) ha)

theorem sub_word {a b : ℕ} (ha : a < 2 ^ 31) (h : b ≤ a) :
    Scalar.subi (BitVec.ofNat 32 a) (BitVec.ofNat 32 b) = BitVec.ofNat 32 (a - b) :=
  eq_ofNat (Affine.subi (isInt ha) (isInt (by omega)) ⟨by omega, by omega, by omega⟩) (by omega)

theorem iv_word (k : ℕ) : Scf.iv 0#32 1#32 k = BitVec.ofNat 32 k := by
  unfold Scf.iv; rw [BitVec.mul_one, BitVec.zero_add]

theorem toNat_word {a : ℕ} (h : a < 2 ^ 31) : (BitVec.ofNat 32 a).toNat = a := by
  rw [BitVec.toNat_ofNat]; omega

/-- The first row's word is the first row. -/
theorem startW_eq {w : Fin 5 → BitVec 32} {n : Fin 5 → ℕ} (h : Ragged w n) {u : ℕ} (hu : u < 5) :
    startW w u = BitVec.ofNat 32 (first n u) := by
  unfold startW first
  rw [h.word 0, h.word 1, h.word 2, h.word 3, h.word 4,
    select_word (gt_iff (b := 0) (by omega) (by omega)), select_word (gt_iff (b := 1) (by omega) (by omega)),
    select_word (gt_iff (b := 2) (by omega) (by omega)), select_word (gt_iff (b := 3) (by omega) (by omega)),
    select_word (gt_iff (b := 4) (by omega) (by omega))]
  simp only [add_word, Nat.zero_add]

theorem first_add_le {n : Fin 5 → ℕ} (h : n 0 + n 1 + n 2 + n 3 + n 4 = 2560) (u : Fin 5) :
    first n u.val + n u ≤ 2560 := by
  fin_cases u <;> simp [first] <;> omega

/-- Where one user's rows end the next user's begin. -/
theorem first_succ (n : Fin 5 → ℕ) (u : Fin 5) : first n (u.val + 1) = first n u.val + n u := by
  fin_cases u <;> simp [first]

theorem first_zero (n : Fin 5 → ℕ) : first n 0 = 0 := by simp [first]

theorem first_five {n : Fin 5 → ℕ} (h : n 0 + n 1 + n 2 + n 3 + n 4 = 2560) : first n 5 = 2560 := by
  simp [first]; omega

/-- The number of history tiles. -/
def tiles (c h : ℕ) : ℕ := if 0 < c then (h + 511) / 512 else 0

theorem tilesW_eq {s c h : ℕ} (hs : s + c ≤ 2560) (hh : h ≤ 8192) :
    tilesW (BitVec.ofNat 32 s) (BitVec.ofNat 32 (s + c)) (BitVec.ofNat 32 h) = BitVec.ofNat 32 (tiles c h) := by
  unfold tilesW tiles
  rw [add_word h 511, div_word (by omega) (by omega) (by omega),
    select_word (p := 0 < c) ((gt_iff (by omega) (by omega)).trans (by omega))]

theorem tiles_le {c h : ℕ} (hh : h ≤ 8192) : tiles c h ≤ 16 := by unfold tiles; split <;> omega

theorem condW_iff {t : ℕ} (ht : t ≤ 16) : condW (BitVec.ofNat 32 t) = 1#1 ↔ 0 < t := by
  have key : ∀ t : Fin 17, condW (BitVec.ofNat 32 t.val) = 1#1 ↔ 0 < t.val := by decide
  exact key ⟨t, by omega⟩

theorem floorW_eq {s : ℕ} (hs : s ≤ 2560) : floorW (BitVec.ofNat 32 s) = BitVec.ofNat 32 (s / 16 * 16) := by
  have key : ∀ s : Fin 2561, floorW (BitVec.ofNat 32 s.val) = BitVec.ofNat 32 (s.val / 16 * 16) := by decide +kernel
  exact key ⟨s, by omega⟩

/-- The number of row tiles. -/
def rowTiles (s c : ℕ) : ℕ := (s + c - s / 16 * 16 + 255) / 256

theorem rowsW_eq {s c : ℕ} (hs : s + c ≤ 2560) :
    rowsW (BitVec.ofNat 32 (s + c)) (BitVec.ofNat 32 (s / 16 * 16)) = BitVec.ofNat 32 (rowTiles s c) := by
  unfold rowsW rowTiles
  rw [sub_word (by omega) (by omega), add_word _ 255, div_word (by omega) (by omega) (by omega)]

theorem ubW_eq {x : ℕ} (hx : x < 2 ^ 31) : ubW (BitVec.ofNat 32 x) = BitVec.ofNat 32 x := by
  unfold ubW
  rw [sub_word (b := 0) hx (by omega), Scalar.muli_divsi_one, add_word 0, Nat.zero_add, Nat.sub_zero]

/-- A loop from zero to `x` by ones makes `x` trips. -/
theorem trips_eq {x : ℕ} (hx : x < 2 ^ 31) : Scf.trips 0#32 (BitVec.ofNat 32 x) 1#32 = x := by
  have h := isInt hx; have h0 := isInt (n := 0) (by omega); have h1 := isInt (n := 1) (by omega)
  unfold IsInt at h h0 h1
  unfold Scf.trips
  rw [h, h0, h1]; omega

theorem ok {x : ℕ} (hx : x < 2 ^ 31) : Scf.OK 0#32 (BitVec.ofNat 32 x) 1#32 := by
  unfold Scf.OK
  rw [trips_eq hx]
  have h0 := isInt (n := 0) (by omega); have h1 := isInt (n := 1) (by omega)
  unfold IsInt at h0 h1
  rw [h0, h1]; omega

/-- The first row of row tile `k`. -/
def row (s k : ℕ) : ℕ := min (s / 16 * 16 + 256 * k) 2304

theorem rowW_eq {s k : ℕ} (hs : s ≤ 2560) (hk : k ≤ 16) :
    rowW (BitVec.ofNat 32 (s / 16 * 16)) k = BitVec.ofNat 32 (row s k) := by
  unfold rowW row
  rw [iv_word, mul_word k 256, add_word]
  exact eq_ofNat (Affine.minsi (isInt (by omega)) (isInt (by omega)) (by omega)) (by omega)

theorem row_dvd (s k : ℕ) : 16 ∣ row s k := by unfold row; omega

theorem row_le (s k : ℕ) : row s k + 256 ≤ 2560 := by unfold row; omega

theorem rowTiles_le {s c : ℕ} (hs : s + c ≤ 2560) : rowTiles s c ≤ 11 := by unfold rowTiles; omega

end Cert.Words

end
-- ==== Proof.Decode.lean ====
/-
  The precondition, read back: the five candidate counts are five numbers that sum to 2560, and every history length is a
  number from 1 to 8192.
-/
module

public import proofs.«01_k».proof.Pre_ragged
public import proofs.«01_k».proof.Proof.Words
public import Idealize.ShloMosaic.Lib.Routing.Ops

@[expose] public section

namespace Cert.Pre_ragged

open Idealize.ShloMosaic Idealize.ShloMosaic.ValueIdx Cert.Words

instance facts : Facts where
  bcast_S_S5 := by decide
  reducesTo_S5_S_d0 := by decide
  h_S_ := by decide

/-- The index of a user in an array of five. -/
def at5 (u : Fin 5) : S5.Idx := ix1 u

/-- A word between two small signed bounds is the word of its value. -/
theorem word_of_toInt (x : BitVec 32) (a b : ℕ) (h0 : (a : ℤ) ≤ x.toInt) (h1 : x.toInt ≤ b) (hb : b < 2 ^ 31) :
    x = BitVec.ofNat 32 x.toNat ∧ a ≤ x.toNat ∧ x.toNat ≤ b := by
  refine ⟨by simp, ?_⟩
  have := BitVec.toInt_eq_toNat_cond x
  have := x.isLt
  split at * <;> omega

theorem decode {F : FTy → Type} [FloatOps F] (x0 x1 : IVec S5 32) (x2 : FVec F S2560x1024 .bf16) (x3 : FVec F S2560x128 .bf16)
    (x4 : FVec F S2560x1024 .f32) (x5 : FVec F S8x8193 .f32) (x6 x7 : IVec S5x8x64x8192 8) (x8 x9 x10 x11 : FVec F S5x8x8192 .f32)
    (h : fn x0 x1 x2 x3 x4 x5 x6 x7 x8 x9 x10 x11 = fun _ => 1#1) :
    Ragged (fun u => x0 (at5 u)) (fun u => (x0 (at5 u)).toNat)
      ∧ ∀ u, x1 (at5 u) = BitVec.ofNat 32 (x1 (at5 u)).toNat ∧ 1 ≤ (x1 (at5 u)).toNat ∧ (x1 (at5 u)).toNat ≤ 8192 := by
  have key : ∀ u : Fin 5, ((((0#32).toInt ≤ (x0 (at5 u)).toInt ∧ (x0 (at5 u)).toInt ≤ (2560#32).toInt)
      ∧ Host.reduce IntOp.addi x0 (constantI S_ 32 0#32) Facts.reducesTo_S5_S_d0 Facts.h_S_ ix0 = 2560#32)
      ∧ (1#32).toInt ≤ (x1 (at5 u)).toInt) ∧ (x1 (at5 u)).toInt ≤ (8192#32).toInt := fun u => by
    have hu := congrFun h (at5 u)
    unfold fn at hu
    obtain ⟨h1, h5⟩ := IntOp.andi_eq_one.1 hu
    obtain ⟨h1, h4⟩ := IntOp.andi_eq_one.1 h1
    obtain ⟨h1, h3⟩ := IntOp.andi_eq_one.1 h1
    obtain ⟨h1, h2⟩ := IntOp.andi_eq_one.1 h1
    refine ⟨⟨⟨⟨IntOp.cmpi_sge.1 h1, IntOp.cmpi_sle.1 h2⟩, ?_⟩, IntOp.cmpi_sge.1 h4⟩, IntOp.cmpi_sle.1 h5⟩
    exact (congrArg _ (eq_ix0 _).symm).trans (IntOp.cmpi_eq.1 h3)
  have hw : ∀ u, x0 (at5 u) = BitVec.ofNat 32 (x0 (at5 u)).toNat ∧ 0 ≤ (x0 (at5 u)).toNat ∧ (x0 (at5 u)).toNat ≤ 2560 := fun u =>
    word_of_toInt _ 0 2560 (key u).1.1.1.1 (key u).1.1.1.2 (by decide)
  refine ⟨⟨fun u => (hw u).1, ?_⟩, fun u => word_of_toInt _ 1 8192 (key u).1.2 (key u).2 (by decide)⟩
  have hs := Routing.reduce_sum x0 (fun i => if hi : i < 5 then (x0 (at5 ⟨i, hi⟩)).toNat else 0)
    (fun i => by simp only [i.isLt, dite_true]; exact (hw i).1) Facts.reducesTo_S5_S_d0 Facts.h_S_
  rw [show Host.reduce IntOp.addi x0 _ _ _ ix0 = 2560#32 from (key 0).1.1.2] at hs
  have e : ((List.range 5).map (fun i => if hi : i < 5 then (x0 (at5 ⟨i, hi⟩)).toNat else 0)).sum
      = (x0 (at5 0)).toNat + (x0 (at5 1)).toNat + (x0 (at5 2)).toNat + (x0 (at5 3)).toNat + (x0 (at5 4)).toNat := by
    simp [List.range_succ]
    omega
  rw [e] at hs
  have := congrArg BitVec.toNat hs
  have h0 := hw 0; have h1 := hw 1; have h2 := hw 2; have h3 := hw 3; have h4 := hw 4
  simp only [BitVec.toNat_ofNat] at this
  omega

end Cert.Pre_ragged

end
-- ==== Proof.Trip.lean ====
/-
  One trip of the loop over the row tiles of one user.

  The trip clears the accumulator, runs the loop over the history tiles (its invariant is the generated one), and stores
  the finished rows into the output block. The piece it stores is the run's own find, a function of what the trip reads
  and of the output block it finds.
-/
module

public import proofs.«01_k».proof.Proof.Gen.Kernel.Loops
public import proofs.«01_k».proof.Proof.Gen.Kernel.Skeleton
public import Idealize.ShloMosaic.Lib.LoopRemainder
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole memref's buffer on core `c`, held at `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

set_option maxHeartbeats 8000000 in
/-- One trip at a symbolic `k`: the pieces it writes into the output block, and the trip run with them. -/
def trip_t3 (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (v1 : Elt F .i32) (v5 : Elt F .i32) (v9 : Elt F .i32) (v13 : Elt F .i32) (v17 : Elt F .i32) (v19 : BitVec 32) (v21 : Elt F .i32) (v22 : BitVec 32) (v24 : Elt F .i32) (k0_hw1 : k0_chk1 i v1 v5 v9 v13 v17 v21 v24) (v28 : BitVec 32) (k0_h1 : k0_cond1 i v1 v5 v9 v13 v17 v21 v24 = 1#1) (v63 : BitVec 32) (c0_i32_24 : BitVec 32)
    (X4 : BufTy.Contents (Elt F) arg4.view.ty) (X5 : BufTy.Contents (Elt F) arg5.view.ty) (X6 : BufTy.Contents (Elt F) arg6.view.ty) (X15 : BufTy.Contents (Elt F) arg15.view.ty) (X16 : BufTy.Contents (Elt F) arg16.view.ty) (X17 : BufTy.Contents (Elt F) arg17.view.ty)
    (k : Fin (k0_t3_loop i v1 v5 v9 v13 v17 v21).trips) :
    { L : BufTy.Contents (Elt F) arg14.view.ty → List (View.Piece (Elt F) S2560x128 .f32) //
      ∀ (acc : BitVec 32) (f18 : BufTy.Contents (Elt F) arg18.view.ty) (f14 : BufTy.Contents (Elt F) arg14.view.ty),
      iprop(pt c arg4 X4 ∗ pt c arg5 X5 ∗ pt c arg6 X6 ∗ pt c arg15 X15 ∗ pt c arg16 X16 ∗ pt c arg17 X17 ∗ pt c arg18 f18 ∗ pt c arg14 f14)
      ⊢ wp frame (wpE (defs₀ (F := F)) Variants.none (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 k acc)
          (fun _ => iprop(pt c arg4 X4 ∗ pt c arg5 X5 ∗ pt c arg6 X6 ∗ pt c arg15 X15 ∗ pt c arg16 X16 ∗ pt c arg17 X17
            ∗ (∃ f, pt c arg18 f) ∗ pt c arg14 (arg14.view.writes (Elt F) f14 (L f14)))) } := by
  refine ⟨?_, fun acc f18 f14 => ?run⟩
  case run =>
    iintro ⟨H4, H5, H6, H15, H16, H17, H18, H14⟩
    unfold k0_t3_body
    sl_exec
    sl_step
    isplitl [H4]; · iexact H4
    isplitl [H5]; · iexact H5
    isplitl [H6]; · iexact H6
    isplitl [H15]; · iexact H15
    isplitl [H16]; · iexact H16
    isplitl [H17]; · iexact H17
    isplitl [H18]
    · iexists _; iexact H18
    · iexact H14

end Cert.Kernel.Hand

end
-- ==== Proof.Loops.lean ====
/-
  The loop over the row tiles of one user: its invariant, from one trip.
-/
module

public import proofs.«01_k».proof.Proof.Gen.Kernel.Loops
public import proofs.«01_k».proof.Proof.Gen.Kernel.Skeleton
public import Idealize.ShloMosaic.Lib.LoopRemainder
public import Idealize.ShloMosaic.Lib.Tactic
public import proofs.«01_k».proof.Proof.Trip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pieces the trips before `k` have written into the output block, last first. -/
def st_t3 (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (v1 : Elt F .i32) (v5 : Elt F .i32) (v9 : Elt F .i32) (v13 : Elt F .i32) (v17 : Elt F .i32) (v19 : BitVec 32) (v21 : Elt F .i32) (v22 : BitVec 32) (v24 : Elt F .i32) (k0_hw1 : k0_chk1 i v1 v5 v9 v13 v17 v21 v24) (v28 : BitVec 32) (k0_h1 : k0_cond1 i v1 v5 v9 v13 v17 v21 v24 = 1#1) (v63 : BitVec 32) (c0_i32_24 : BitVec 32)
    (X4 : BufTy.Contents (Elt F) arg4.view.ty) (X5 : BufTy.Contents (Elt F) arg5.view.ty) (X6 : BufTy.Contents (Elt F) arg6.view.ty) (X15 : BufTy.Contents (Elt F) arg15.view.ty) (X16 : BufTy.Contents (Elt F) arg16.view.ty) (X17 : BufTy.Contents (Elt F) arg17.view.ty)
    (G : BufTy.Contents (Elt F) arg14.view.ty) : ℕ → List (View.Piece (Elt F) S2560x128 .f32)
  | 0 => []
  | k + 1 => if h : k < (k0_t3_loop i v1 v5 v9 v13 v17 v21).trips then
      (trip_t3 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 ⟨k, h⟩).1 (arg14.view.writes (Elt F) G (st_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k)) ++ st_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k
    else st_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k

theorem st_t3_succ (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (v1 : Elt F .i32) (v5 : Elt F .i32) (v9 : Elt F .i32) (v13 : Elt F .i32) (v17 : Elt F .i32) (v19 : BitVec 32) (v21 : Elt F .i32) (v22 : BitVec 32) (v24 : Elt F .i32) (k0_hw1 : k0_chk1 i v1 v5 v9 v13 v17 v21 v24) (v28 : BitVec 32) (k0_h1 : k0_cond1 i v1 v5 v9 v13 v17 v21 v24 = 1#1) (v63 : BitVec 32) (c0_i32_24 : BitVec 32)
    (X4 : BufTy.Contents (Elt F) arg4.view.ty) (X5 : BufTy.Contents (Elt F) arg5.view.ty) (X6 : BufTy.Contents (Elt F) arg6.view.ty) (X15 : BufTy.Contents (Elt F) arg15.view.ty) (X16 : BufTy.Contents (Elt F) arg16.view.ty) (X17 : BufTy.Contents (Elt F) arg17.view.ty)
    (G : BufTy.Contents (Elt F) arg14.view.ty) (k : Fin (k0_t3_loop i v1 v5 v9 v13 v17 v21).trips) :
    st_t3 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G (k.val + 1)
      = (trip_t3 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 k).1 (arg14.view.writes (Elt F) G (st_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k.val)) ++ st_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k.val := by
  rw [st_t3.eq_2]; exact dif_pos k.isLt

set_option warn.classDefReducibility false in
/-- The row tiles' invariant: what the trips read stays, the accumulator holds something, the output block holds the
    pieces of the trips before, written over what was there at the loop's entry. -/
@[sl_loop] def loopInv_t3 (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (v1 : Elt F .i32) (v5 : Elt F .i32) (v9 : Elt F .i32) (v13 : Elt F .i32) (v17 : Elt F .i32) (v19 : BitVec 32) (v21 : Elt F .i32) (v22 : BitVec 32) (v24 : Elt F .i32) (k0_hw1 : k0_chk1 i v1 v5 v9 v13 v17 v21 v24) (v28 : BitVec 32) (k0_h1 : k0_cond1 i v1 v5 v9 v13 v17 v21 v24 = 1#1) (v63 : BitVec 32) (c0_i32_24 : BitVec 32)
    (X4 : BufTy.Contents (Elt F) arg4.view.ty) (X5 : BufTy.Contents (Elt F) arg5.view.ty) (X6 : BufTy.Contents (Elt F) arg6.view.ty) (X15 : BufTy.Contents (Elt F) arg15.view.ty) (X16 : BufTy.Contents (Elt F) arg16.view.ty) (X17 : BufTy.Contents (Elt F) arg17.view.ty)
    (G : BufTy.Contents (Elt F) arg14.view.ty) (init : BitVec 32) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 init where
  inv k acc := iprop(pt c arg4 X4 ∗ pt c arg5 X5 ∗ pt c arg6 X6 ∗ pt c arg15 X15 ∗ pt c arg16 X16 ∗ pt c arg17 X17
    ∗ (∃ f18, pt c arg18 f18) ∗ (∃ f, pt c arg14 f ∗ ⌜f = arg14.view.writes (Elt F) G (st_t3 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k)⌝))
  step k acc := by
    iintro ⟨H4, H5, H6, H15, H16, H17, ⟨%f18, H18⟩, ⟨%f14, H14, %h14⟩⟩
    iapply (wp_wand_r Idealize.ShloMosaic.frame (wpE (defs₀ (F := F)) Variants.none (c : Thread nD τ) none) Set.univ)
    isplitl [H4 H5 H6 H15 H16 H17 H18 H14]
    · iapply ((trip_t3 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 k).2 acc f18 f14)
      isplitl [H4]; · iexact H4
      isplitl [H5]; · iexact H5
      isplitl [H6]; · iexact H6
      isplitl [H15]; · iexact H15
      isplitl [H16]; · iexact H16
      isplitl [H17]; · iexact H17
      isplitl [H18]; · iexact H18
      iexact H14
    · iintro %yld ⟨H4, H5, H6, H15, H16, H17, H18, H14⟩
      isplitl [H4]; · iexact H4
      isplitl [H5]; · iexact H5
      isplitl [H6]; · iexact H6
      isplitl [H15]; · iexact H15
      isplitl [H16]; · iexact H16
      isplitl [H17]; · iexact H17
      isplitl [H18]; · iexact H18
      iexists _; isplitl [H14]; · iexact H14
      ipureintro; rw [st_t3_succ, h14, ← View.writes_append]

end Cert.Kernel.Hand

end
-- ==== Proof.Checks.lean ====
/-
  The side conditions the kernel's body asks of the words it loads.

  With counts that split the 2560 rows and a history length of at most 8192, every loop makes the trips one expects, every
  slice lies inside its buffer, and every two-byte store starts at an even row. The remainder loop printed behind each
  counted loop makes no trip, so nothing is asked of it.
-/
module

public import proofs.«01_k».proof.Proof.Gen.Kernel
public import proofs.«01_k».proof.Proof.Words
public import Idealize.ShloMosaic.Lib.LoopRemainder

@[expose] public section

namespace Cert.Kernel.Hand

open Cert.Kernel Cert.Kernel.Gen Cert.Words
open Idealize.ShloMosaic

/-- The user of a grid point. -/
def usr (i : grid0.Coords) : Fin 5 := i 1

/-- The head of a grid point. -/
def head (i : grid0.Coords) : Fin 8 := i 0

variable {w : Fin 5 → BitVec 32} {n : Fin 5 → ℕ} {h : ℕ} (hr : Ragged w n) (hh : h ≤ 8192) (i : grid0.Coords)

include hr in
theorem start_word : startW w (i 1).val = BitVec.ofNat 32 (first n (usr i).val) := startW_eq hr (usr i).isLt

include hr in
theorem stop_word : Scalar.addi (startW w (i 1).val) (w (usr i)) = BitVec.ofNat 32 (first n (usr i).val + n (usr i)) := by
  rw [start_word hr, hr.word, add_word]

include hr in
theorem le_2560 : first n (usr i).val + n (usr i) ≤ 2560 := first_add_le hr.sum (usr i)

include hr hh in
theorem tiles_word : tilesW (startW w (i 1).val) (Scalar.addi (startW w (i 1).val) (w (usr i))) (BitVec.ofNat 32 h)
    = BitVec.ofNat 32 (tiles (n (usr i)) h) := by
  rw [stop_word hr, start_word hr, tilesW_eq (le_2560 hr i) hh]

include hr in
theorem floor_word : floorW (startW w (i 1).val) = BitVec.ofNat 32 (first n (usr i).val / 16 * 16) := by
  rw [start_word hr, floorW_eq (by have := le_2560 hr i; omega)]

include hr in
theorem rows_word : rowsW (Scalar.addi (startW w (i 1).val) (w (usr i))) (floorW (startW w (i 1).val))
    = BitVec.ofNat 32 (rowTiles (first n (usr i).val) (n (usr i))) := by
  rw [stop_word hr, floor_word hr, rowsW_eq (le_2560 hr i)]

include hr hh in
/-- The body computes something exactly when the user has a row and a history. -/
theorem cond_iff : k0_cond1 i (w 0) (w 1) (w 2) (w 3) (w 4) (w (usr i)) (BitVec.ofNat 32 h) = 1#1 ↔ 0 < tiles (n (usr i)) h := by
  show condW (tilesW (startW w (i 1).val) (Scalar.addi (startW w (i 1).val) (w (usr i))) (BitVec.ofNat 32 h)) = 1#1 ↔ _
  rw [tiles_word hr hh]
  exact condW_iff (tiles_le hh)

include hr hh in
theorem t1_trips : (k0_t1_loop i (w 0) (w 1) (w 2) (w 3) (w 4) (w (usr i)) (BitVec.ofNat 32 h)).trips = tiles (n (usr i)) h := by
  show Scf.trips 0#32 (ubW (tilesW (startW w (i 1).val) (Scalar.addi (startW w (i 1).val) (w (usr i))) (BitVec.ofNat 32 h))) 1#32 = _
  have := tiles_le (c := n (usr i)) hh
  rw [tiles_word hr hh, ubW_eq (by omega), trips_eq (by omega)]

include hr hh in
theorem t1_ok : (k0_t1_loop i (w 0) (w 1) (w 2) (w 3) (w 4) (w (usr i)) (BitVec.ofNat 32 h)).OK := by
  show Scf.OK 0#32 (ubW (tilesW (startW w (i 1).val) (Scalar.addi (startW w (i 1).val) (w (usr i))) (BitVec.ofNat 32 h))) 1#32
  have := tiles_le (c := n (usr i)) hh
  rw [tiles_word hr hh, ubW_eq (by omega)]
  exact ok (by omega)

include hr hh in
theorem t1_lt (k : Fin (k0_t1_loop i (w 0) (w 1) (w 2) (w 3) (w 4) (w (usr i)) (BitVec.ofNat 32 h)).trips) : k.val < 16 := by
  have h2 := tiles_le (c := n (usr i)) hh
  have h3 := t1_trips hr hh i
  exact lt_of_lt_of_le (lt_of_lt_of_eq k.isLt h3) h2

include hr hh in
theorem t4_trips : (k0_t4_loop i (w 0) (w 1) (w 2) (w 3) (w 4) (w (usr i)) (BitVec.ofNat 32 h)).trips = tiles (n (usr i)) h := by
  show Scf.trips 0#32 (ubW (tilesW (startW w (i 1).val) (Scalar.addi (startW w (i 1).val) (w (usr i))) (BitVec.ofNat 32 h))) 1#32 = _
  have := tiles_le (c := n (usr i)) hh
  rw [tiles_word hr hh, ubW_eq (by omega), trips_eq (by omega)]

include hr hh in
theorem t4_ok : (k0_t4_loop i (w 0) (w 1) (w 2) (w 3) (w 4) (w (usr i)) (BitVec.ofNat 32 h)).OK := by
  show Scf.OK 0#32 (ubW (tilesW (startW w (i 1).val) (Scalar.addi (startW w (i 1).val) (w (usr i))) (BitVec.ofNat 32 h))) 1#32
  have := tiles_le (c := n (usr i)) hh
  rw [tiles_word hr hh, ubW_eq (by omega)]
  exact ok (by omega)

include hr hh in
theorem t4_lt (k : Fin (k0_t4_loop i (w 0) (w 1) (w 2) (w 3) (w 4) (w (usr i)) (BitVec.ofNat 32 h)).trips) : k.val < 16 := by
  have h2 := tiles_le (c := n (usr i)) hh
  have h3 := t4_trips hr hh i
  exact lt_of_lt_of_le (lt_of_lt_of_eq k.isLt h3) h2

include hr in
theorem t3_trips : (k0_t3_loop i (w 0) (w 1) (w 2) (w 3) (w 4) (w (usr i))).trips = rowTiles (first n (usr i).val) (n (usr i)) := by
  show Scf.trips 0#32 (ubW (rowsW (Scalar.addi (startW w (i 1).val) (w (usr i))) (floorW (startW w (i 1).val)))) 1#32 = _
  have := rowTiles_le (le_2560 hr i)
  rw [rows_word hr, ubW_eq (by omega), trips_eq (by omega)]

include hr in
theorem t3_ok : (k0_t3_loop i (w 0) (w 1) (w 2) (w 3) (w 4) (w (usr i))).OK := by
  show Scf.OK 0#32 (ubW (rowsW (Scalar.addi (startW w (i 1).val) (w (usr i))) (floorW (startW w (i 1).val)))) 1#32
  have := rowTiles_le (le_2560 hr i)
  rw [rows_word hr, ubW_eq (by omega)]
  exact ok (by omega)

include hr in
theorem t3_lt (k : Fin (k0_t3_loop i (w 0) (w 1) (w 2) (w 3) (w 4) (w (usr i))).trips) : k.val ≤ 11 := by
  have h2 := rowTiles_le (le_2560 hr i)
  have h3 := t3_trips hr i
  exact le_trans (le_of_lt (lt_of_lt_of_eq k.isLt h3)) h2

include hr in
theorem row_word (k : Fin (k0_t3_loop i (w 0) (w 1) (w 2) (w 3) (w 4) (w (usr i))).trips) :
    rowW (floorW (startW w (i 1).val)) k.val = BitVec.ofNat 32 (row (first n (usr i).val) k.val) := by
  have := t3_lt hr i k
  rw [floor_word hr, rowW_eq (by have := le_2560 hr i; omega) (by omega)]

include hr in
theorem mult5_eq (k : Fin (k0_t3_loop i (w 0) (w 1) (w 2) (w 3) (w 4) (w (usr i))).trips) :
    k0_mult5 i (w 0) (w 1) (w 2) (w 3) (w 4) (w (usr i)) k = BitVec.ofNat 32 (row (first n (usr i).val) k.val) := row_word hr i k

include hr in
theorem off19_eq (k : Fin (k0_t3_loop i (w 0) (w 1) (w 2) (w 3) (w 4) (w (usr i))).trips) :
    k0_off19 i (w 0) (w 1) (w 2) (w 3) (w 4) (w (usr i)) k = ![row (first n (usr i).val) k.val, 0] := by
  show ![(Scalar.indexCast (rowW (floorW (startW w (i 1).val)) k.val)).toNat, 0] = _
  rw [row_word hr]
  have := row_le (first n (usr i).val) k.val
  rw [show (Scalar.indexCast (BitVec.ofNat 32 (row (first n (usr i).val) k.val)) : Index) = BitVec.ofNat 32 _ from rfl,
    toNat_word (by omega)]

include hr in
theorem off29_eq (k : Fin (k0_t3_loop i (w 0) (w 1) (w 2) (w 3) (w 4) (w (usr i))).trips) :
    k0_off29 i (w 0) (w 1) (w 2) (w 3) (w 4) (w (usr i)) k = ![row (first n (usr i).val) k.val, 0] := by
  show ![(Scalar.indexCast (rowW (floorW (startW w (i 1).val)) k.val)).toNat, 0] = _
  rw [row_word hr]
  have := row_le (first n (usr i).val) k.val
  rw [show (Scalar.indexCast (BitVec.ofNat 32 (row (first n (usr i).val) k.val)) : Index) = BitVec.ofNat 32 _ from rfl,
    toNat_word (by omega)]

theorem col_word {k : ℕ} (hk : k < 16) :
    (Scalar.indexCast (Scalar.muli (Scf.iv 0#32 1#32 k) 512#32) : Index).toNat = 512 * k := by
  rw [iv_word, mul_word k 512]
  exact (toNat_word (by omega)).trans (Nat.mul_comm _ _)

theorem head_word : (Scalar.indexCast (BitVec.ofNat 32 (i 0).val) : Index).toNat = (head i).val := by
  have := (head i).isLt
  exact toNat_word (by show (head i).val < _; omega)

theorem aug_word : (Scalar.indexCast (Scalar.addi 128#32 (Scalar.muli (BitVec.ofNat 32 (i 0).val) 16#32)) : Index).toNat
    = 128 + 16 * (head i).val := by
  have := (head i).isLt
  rw [mul_word _ 16, add_word 128]
  exact (toNat_word (by show 128 + (head i).val * 16 < _; omega)).trans (by show 128 + (head i).val * 16 = _; omega)

include hr hh in
theorem off3_eq (k : Fin (k0_t1_loop i (w 0) (w 1) (w 2) (w 3) (w 4) (w (usr i)) (BitVec.ofNat 32 h)).trips) : k0_off3 i (w 0) (w 1) (w 2) (w 3) (w 4) (w (usr i)) (BitVec.ofNat 32 h) k = ![0, (head i).val, 512 * k.val] := by
  show ![0, (Scalar.indexCast (BitVec.ofNat 32 (i 0).val) : Index).toNat, (Scalar.indexCast (Scalar.muli (Scf.iv 0#32 1#32 k.val) 512#32) : Index).toNat] = _
  rw [head_word, col_word (t1_lt hr hh i k)]

include hr hh in
theorem off4_eq (k : Fin (k0_t1_loop i (w 0) (w 1) (w 2) (w 3) (w 4) (w (usr i)) (BitVec.ofNat 32 h)).trips) : k0_off4 i (w 0) (w 1) (w 2) (w 3) (w 4) (w (usr i)) (BitVec.ofNat 32 h) k = ![0, 512 * k.val] := by
  show ![0, (Scalar.indexCast (Scalar.muli (Scf.iv 0#32 1#32 k.val) 512#32) : Index).toNat] = _
  rw [col_word (t1_lt hr hh i k)]

include hr hh in
theorem off5_eq (k : Fin (k0_t1_loop i (w 0) (w 1) (w 2) (w 3) (w 4) (w (usr i)) (BitVec.ofNat 32 h)).trips) : k0_off5 i (w 0) (w 1) (w 2) (w 3) (w 4) (w (usr i)) (BitVec.ofNat 32 h) k = ![2, 512 * k.val] := by
  show ![2, (Scalar.indexCast (Scalar.muli (Scf.iv 0#32 1#32 k.val) 512#32) : Index).toNat] = _
  rw [col_word (t1_lt hr hh i k)]

include hr hh in
theorem off6_eq (k : Fin (k0_t1_loop i (w 0) (w 1) (w 2) (w 3) (w 4) (w (usr i)) (BitVec.ofNat 32 h)).trips) : k0_off6 i (w 0) (w 1) (w 2) (w 3) (w 4) (w (usr i)) (BitVec.ofNat 32 h) k = ![0, 0, 0, 512 * k.val] := by
  show ![0, 0, 0, (Scalar.indexCast (Scalar.muli (Scf.iv 0#32 1#32 k.val) 512#32) : Index).toNat] = _
  rw [col_word (t1_lt hr hh i k)]

include hr hh in
theorem off7_eq (k : Fin (k0_t1_loop i (w 0) (w 1) (w 2) (w 3) (w 4) (w (usr i)) (BitVec.ofNat 32 h)).trips) : k0_off7 i (w 0) (w 1) (w 2) (w 3) (w 4) (w (usr i)) (BitVec.ofNat 32 h) k = ![0, 512 * k.val] := by
  show ![0, (Scalar.indexCast (Scalar.muli (Scf.iv 0#32 1#32 k.val) 512#32) : Index).toNat] = _
  rw [col_word (t1_lt hr hh i k)]

include hr hh in
theorem off8_eq (k : Fin (k0_t1_loop i (w 0) (w 1) (w 2) (w 3) (w 4) (w (usr i)) (BitVec.ofNat 32 h)).trips) : k0_off8 i (w 0) (w 1) (w 2) (w 3) (w 4) (w (usr i)) (BitVec.ofNat 32 h) k = ![128, 512 * k.val] := by
  show ![128, (Scalar.indexCast (Scalar.muli (Scf.iv 0#32 1#32 k.val) 512#32) : Index).toNat] = _
  rw [col_word (t1_lt hr hh i k)]

include hr hh in
theorem off9_eq (k : Fin (k0_t1_loop i (w 0) (w 1) (w 2) (w 3) (w 4) (w (usr i)) (BitVec.ofNat 32 h)).trips) : k0_off9 i (w 0) (w 1) (w 2) (w 3) (w 4) (w (usr i)) (BitVec.ofNat 32 h) k = ![128 + 16 * (head i).val, 512 * k.val] := by
  show ![(Scalar.indexCast (Scalar.addi 128#32 (Scalar.muli (BitVec.ofNat 32 (i 0).val) 16#32)) : Index).toNat, (Scalar.indexCast (Scalar.muli (Scf.iv 0#32 1#32 k.val) 512#32) : Index).toNat] = _
  rw [aug_word, col_word (t1_lt hr hh i k)]

include hr hh in
theorem off10_eq (k : Fin (k0_t1_loop i (w 0) (w 1) (w 2) (w 3) (w 4) (w (usr i)) (BitVec.ofNat 32 h)).trips) : k0_off10 i (w 0) (w 1) (w 2) (w 3) (w 4) (w (usr i)) (BitVec.ofNat 32 h) k = ![128, 512 * k.val] := by
  show ![128, (Scalar.indexCast (Scalar.muli (Scf.iv 0#32 1#32 k.val) 512#32) : Index).toNat] = _
  rw [col_word (t1_lt hr hh i k)]

include hr hh in
theorem off20_eq (k : Fin (k0_t4_loop i (w 0) (w 1) (w 2) (w 3) (w 4) (w (usr i)) (BitVec.ofNat 32 h)).trips) : k0_off20 i (w 0) (w 1) (w 2) (w 3) (w 4) (w (usr i)) (BitVec.ofNat 32 h) k = ![0, 512 * k.val] := by
  show ![0, (Scalar.indexCast (Scalar.muli (Scf.iv 0#32 1#32 k.val) 512#32) : Index).toNat] = _
  rw [col_word (t4_lt hr hh i k)]

include hr hh in
theorem off21_eq (k : Fin (k0_t4_loop i (w 0) (w 1) (w 2) (w 3) (w 4) (w (usr i)) (BitVec.ofNat 32 h)).trips) : k0_off21 i (w 0) (w 1) (w 2) (w 3) (w 4) (w (usr i)) (BitVec.ofNat 32 h) k = ![0, 512 * k.val] := by
  show ![0, (Scalar.indexCast (Scalar.muli (Scf.iv 0#32 1#32 k.val) 512#32) : Index).toNat] = _
  rw [col_word (t4_lt hr hh i k)]

include hr hh in
theorem off22_eq (k : Fin (k0_t4_loop i (w 0) (w 1) (w 2) (w 3) (w 4) (w (usr i)) (BitVec.ofNat 32 h)).trips) : k0_off22 i (w 0) (w 1) (w 2) (w 3) (w 4) (w (usr i)) (BitVec.ofNat 32 h) k = ![1, 512 * k.val] := by
  show ![1, (Scalar.indexCast (Scalar.muli (Scf.iv 0#32 1#32 k.val) 512#32) : Index).toNat] = _
  rw [col_word (t4_lt hr hh i k)]

include hr hh in
theorem off23_eq (k : Fin (k0_t4_loop i (w 0) (w 1) (w 2) (w 3) (w 4) (w (usr i)) (BitVec.ofNat 32 h)).trips) : k0_off23 i (w 0) (w 1) (w 2) (w 3) (w 4) (w (usr i)) (BitVec.ofNat 32 h) k = ![2, 512 * k.val] := by
  show ![2, (Scalar.indexCast (Scalar.muli (Scf.iv 0#32 1#32 k.val) 512#32) : Index).toNat] = _
  rw [col_word (t4_lt hr hh i k)]

include hr hh in
theorem chk1_0 : k0_chk1_0 i (w 0) (w 1) (w 2) (w 3) (w 4) (w (usr i)) (BitVec.ofNat 32 h) := by
  unfold k0_chk1_0
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun _ => t1_ok hr hh i
  · intro k _
    show 512 ∣ (Scalar.muli (Scf.iv 0#32 1#32 k.val) 512#32).toNat
    have h1 := t1_lt hr hh i k
    rw [iv_word, mul_word k.val 512, toNat_word (by omega)]
    exact Dvd.intro_left _ rfl
  · intro k _ a
    have h1 := t1_lt hr hh i k
    have h2 := (head i).isLt
    rw [off3_eq hr hh i k]
    fin_cases a <;> simp <;> omega
  · intro k _ a
    have h1 := t1_lt hr hh i k
    have h2 := (head i).isLt
    rw [off4_eq hr hh i k]
    fin_cases a <;> simp <;> omega
  · intro k _ a
    have h1 := t1_lt hr hh i k
    have h2 := (head i).isLt
    rw [off5_eq hr hh i k]
    fin_cases a <;> simp <;> omega
  · intro k _ a
    have h1 := t1_lt hr hh i k
    have h2 := (head i).isLt
    rw [off6_eq hr hh i k]
    fin_cases a <;> simp <;> omega
  · intro k _ a
    have h1 := t1_lt hr hh i k
    have h2 := (head i).isLt
    rw [off7_eq hr hh i k]
    fin_cases a <;> simp <;> omega
  · intro k _ hinb
    refine Or.inr ⟨by decide, rfl, Or.inl ⟨?_, (by show 2 ∣ 128; decide)⟩⟩
    show 2 ∣ (k0_off7 i (w 0) (w 1) (w 2) (w 3) (w 4) (w (usr i)) (BitVec.ofNat 32 h) k) 0
    rw [off7_eq hr hh i k]
    simp <;> omega
  · intro k _ a
    have h1 := t1_lt hr hh i k
    have h2 := (head i).isLt
    rw [off8_eq hr hh i k]
    fin_cases a <;> simp <;> omega
  · intro k _ hinb
    refine Or.inr ⟨by decide, rfl, Or.inl ⟨?_, (by show 2 ∣ 128; decide)⟩⟩
    show 2 ∣ (k0_off8 i (w 0) (w 1) (w 2) (w 3) (w 4) (w (usr i)) (BitVec.ofNat 32 h) k) 0
    rw [off8_eq hr hh i k]
    simp <;> omega
  · intro k _ a
    have h1 := t1_lt hr hh i k
    have h2 := (head i).isLt
    rw [off9_eq hr hh i k]
    fin_cases a <;> simp <;> omega
  · intro k _ hinb
    refine Or.inr ⟨by decide, rfl, Or.inl ⟨?_, (by show 2 ∣ 16; decide)⟩⟩
    show 2 ∣ (k0_off9 i (w 0) (w 1) (w 2) (w 3) (w 4) (w (usr i)) (BitVec.ofNat 32 h) k) 0
    rw [off9_eq hr hh i k]
    simp <;> omega
  · intro k _ a
    have h1 := t1_lt hr hh i k
    have h2 := (head i).isLt
    rw [off10_eq hr hh i k]
    fin_cases a <;> simp <;> omega
  · intro k _ hinb
    refine Or.inr ⟨by decide, rfl, Or.inl ⟨?_, (by show 2 ∣ 16; decide)⟩⟩
    show 2 ∣ (k0_off10 i (w 0) (w 1) (w 2) (w 3) (w 4) (w (usr i)) (BitVec.ofNat 32 h) k) 0
    rw [off10_eq hr hh i k]
    simp <;> omega
  · exact fun _ => Scf.rem_ok _ _
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun _ => t3_ok hr i
  · intro k _
    rw [mult5_eq hr i k, toNat_word (by have := row_le (first n (usr i).val) k.val; omega)]
    exact row_dvd _ _
  · exact fun _ _ => t4_ok hr hh i
  · intro k k4 _
    show 512 ∣ (Scalar.muli (Scf.iv 0#32 1#32 k4.val) 512#32).toNat
    have h1 := t4_lt hr hh i k4
    rw [iv_word, mul_word k4.val 512, toNat_word (by omega)]
    exact Dvd.intro_left _ rfl

include hr hh in
theorem chk1_1 : k0_chk1_1 i (w 0) (w 1) (w 2) (w 3) (w 4) (w (usr i)) (BitVec.ofNat 32 h) := by
  unfold k0_chk1_1
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro k k4 _ a
    have h1 := row_le (first n (usr i).val) k.val
    rw [off19_eq hr i k]
    fin_cases a <;> simp <;> omega
  · intro k k4 _ a
    have h1 := t4_lt hr hh i k4
    have h2 := (head i).isLt
    rw [off20_eq hr hh i k4]
    fin_cases a <;> simp <;> omega
  · intro k k4 _ a
    have h1 := t4_lt hr hh i k4
    have h2 := (head i).isLt
    rw [off21_eq hr hh i k4]
    fin_cases a <;> simp <;> omega
  · intro k k4 _ a
    have h1 := t4_lt hr hh i k4
    have h2 := (head i).isLt
    rw [off22_eq hr hh i k4]
    fin_cases a <;> simp <;> omega
  · intro k k4 _ a
    have h1 := t4_lt hr hh i k4
    have h2 := (head i).isLt
    rw [off23_eq hr hh i k4]
    fin_cases a <;> simp <;> omega
  · exact fun _ => fun _ => Scf.rem_ok _ _
  · exact fun _ k => (Scf.rem_no_trip _ _ k).elim
  · exact fun _ k => (Scf.rem_no_trip _ _ k).elim
  · exact fun _ k => (Scf.rem_no_trip _ _ k).elim
  · exact fun _ k => (Scf.rem_no_trip _ _ k).elim
  · exact fun _ k => (Scf.rem_no_trip _ _ k).elim
  · exact fun _ k => (Scf.rem_no_trip _ _ k).elim
  · intro k _ a
    have h1 := row_le (first n (usr i).val) k.val
    rw [off29_eq hr i k]
    fin_cases a <;> simp <;> omega
  · exact fun _ => Scf.rem_ok _ _
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim

include hr hh in
/-- Every side condition of the body. -/
theorem chk1 : k0_chk1 i (w 0) (w 1) (w 2) (w 3) (w 4) (w (usr i)) (BitVec.ofNat 32 h) := ⟨chk1_0 hr hh i, chk1_1 hr hh i⟩

end Cert.Kernel.Hand

end
-- ==== Proof.Run.lean ====
/-
  The kernel body run once, at a grid point with work to do and at one without.

  The words the body reads from the two count arrays are variables, each with the equation that says which word it is.
-/
module

public import proofs.«01_k».proof.Proof.Loops
public import proofs.«01_k».proof.Proof.Checks

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word a scalar load reads at an offset of a five-word array. -/
abbrev word (M : Memref sig .tc .smem S5 .i32) (X : BufTy.Contents (Elt F) M.view.ty) (o : Fin S5.rank → ℕ) (h : ∀ a, o a + S1.size a ≤ S5.size a) : BitVec 32 :=
  View.readAt (Elt F) M.view (Rect.unit (s := S5) o S1.size h).toLoadRect X (Shape.Idx.first (numel1_S1.symm ▸ Nat.one_pos))

/-- The first row of the point's user, as the body sums it. -/
abbrev start19 (i : grid0.Coords) (v1 v5 v9 v13 v17 : BitVec 32) : BitVec 32 :=
  let a : BitVec 32 := BitVec.ofNat 32 (i 1).val
  Scalar.addi (Scalar.addi (Scalar.addi (Scalar.addi (Scalar.addi 0#32 (Scalar.select (Scalar.cmpi .sgt a 0#32) v1 0#32))
    (Scalar.select (Scalar.cmpi .sgt a 1#32) v5 0#32)) (Scalar.select (Scalar.cmpi .sgt a 2#32) v9 0#32))
    (Scalar.select (Scalar.cmpi .sgt a 3#32) v13 0#32)) (Scalar.select (Scalar.cmpi .sgt a 4#32) v17 0#32)

set_option maxHeartbeats 4000000 in
/-- A point with work: the pieces it writes into the output block, and the run. -/
def work (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty)
    (v1 v5 v9 v13 v17 v19 v21 v22 v24 : BitVec 32) (e0 : word (F := F) arg2 X2 ![0] inb_S5_S1_0 = v1) (e1 : word (F := F) arg2 X2 ![1] inb_S5_S1_1 = v5) (e2 : word (F := F) arg2 X2 ![2] inb_S5_S1_2 = v9) (e3 : word (F := F) arg2 X2 ![3] inb_S5_S1_3 = v13) (e4 : word (F := F) arg2 X2 ![4] inb_S5_S1_4 = v17) (e5 : word (F := F) arg2 X2 (k0_off1 i) (k0_off1_inb i) = v21) (e6 : word (F := F) arg3 X3 (k0_off1 i) (k0_off1_inb i) = v24)
    (e19 : start19 i v1 v5 v9 v13 v17 = v19) (e22 : Scalar.addi v19 v21 = v22)
    (hw : k0_chk1 i v1 v5 v9 v13 v17 v21 v24) (h1 : k0_cond1 i v1 v5 v9 v13 v17 v21 v24 = 1#1) :
    { L : BufTy.Contents (Elt F) arg14.view.ty → BufTy.Contents (Elt F) arg15.view.ty → BufTy.Contents (Elt F) arg16.view.ty → BufTy.Contents (Elt F) arg17.view.ty → List (View.Piece (Elt F) S2560x128 .f32) //
      ∀ (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty),
    iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14 ∗ pt c arg15 X15 ∗ pt c arg16 X16 ∗ pt c arg17 X17 ∗ pt c arg18 X18)
      ⊢ wp frame (wpE (defs₀ (F := F)) Variants.none (c : Thread nD τ) none) Set.univ (cc0_hstu_attend i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 (arg14.view.writes (Elt F) X14 (L X14 X15 X16 X17))
          ∗ (∃ f, pt c arg15 f) ∗ (∃ f, pt c arg16 f) ∗ (∃ f, pt c arg17 f) ∗ (∃ f, pt c arg18 f))) } := by
  refine ⟨?_, fun X14 X15 X16 X17 X18 => ?run⟩
  case run =>
    simp only [cc0_hstu_attend_eq_skeleton]; unfold cc0_hstu_attend_skel
    iintro ⟨H2, H3, H4, H5, H6, H7, H8, H9, H10, H11, H12, H13, H14, H15, H16, H17, H18⟩
    sl_exec
    rw [show work.sl.r arg2 X2 = v1 from e0, show work.sl.r_1 arg2 X2 = v5 from e1, show work.sl.r_2 arg2 X2 = v9 from e2,
      show work.sl.r_3 arg2 X2 = v13 from e3, show work.sl.r_4 arg2 X2 = v17 from e4, show work.sl.r_5 i arg2 X2 = v21 from e5,
      show work.sl.r_6 i arg3 X3 = v24 from e6]
    rw [show work.sl.v19 i arg2 X2 = v19 by rw [← e19, ← e0, ← e1, ← e2, ← e3, ← e4]; rfl,
      show work.sl.v22 i arg2 X2 = v22 by rw [← e22, ← e19, ← e0, ← e1, ← e2, ← e3, ← e4, ← e5]; rfl]
    simp only [wp_assume_of _ _ _ _ (d := k0_chk1.dec _ _ _ _ _ _ _ _) hw]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    iexists _; iexact H18

set_option maxHeartbeats 4000000 in
/-- A point without work leaves everything as it was. -/
theorem idle (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (hw : k0_chk1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i))) (h1 : ¬ k0_cond1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i)) = 1#1) (K : PUnit → sProp 𝕄) :
    iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14 ∗ ((pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14) -∗ K ⟨⟩))
      ⊢ wp frame (wpE (defs₀ (F := F)) Variants.none (c : Thread nD τ) none) Set.univ (cc0_hstu_attend i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_hstu_attend_eq_skeleton]; unfold cc0_hstu_attend_skel
  iintro ⟨H2, H3, H4, H5, H6, H7, H8, H9, H10, H11, H12, H13, H14, Hk⟩
  sl_exec
  have hw' : k0_chk1 i (idle.sl.r arg2 X2) (idle.sl.r_1 arg2 X2) (idle.sl.r_2 arg2 X2) (idle.sl.r_3 arg2 X2) (idle.sl.r_4 arg2 X2) (idle.sl.r_5 i arg2 X2) (idle.sl.r_6 i arg3 X3) := hw
  have h1' : ¬ k0_cond1 i (idle.sl.r arg2 X2) (idle.sl.r_1 arg2 X2) (idle.sl.r_2 arg2 X2) (idle.sl.r_3 arg2 X2) (idle.sl.r_4 arg2 X2) (idle.sl.r_5 i arg2 X2) (idle.sl.r_6 i arg3 X3) = 1#1 := h1
  simp only [wp_assume_of _ _ _ _ (d := k0_chk1.dec _ _ _ _ _ _ _ _) hw']
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.Kernel.Hand

end
-- ==== Proof.Body.lean ====
/-
  The kernel at a grid point, and the launch.

  What a point leaves in the output block is kept as a relation (`Stored`) between what it found there and what it left;
  the launch is stated for any predicate that this relation establishes.
-/
module

public import proofs.«01_k».proof.Proof.Run
public import proofs.«01_k».proof.Proof.Gen.Kernel.Frame
public import Idealize.ShloMosaic.Lib.Pipeline.Frame
public import Idealize.ShloMosaic.Lib.Pipeline.DatRel
public import Idealize.ShloMosaic.Lib.Pipeline.ArrRel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat BodyObligation BodyObligationRel)

/-- What the output block may hold after the point's run: at a point without work what it held, else the pieces of the
    run written over it. The operand blocks are given by what they read as. -/
def Stored (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (d2 : S5.Idx → Elt F .i32) (d3 : S5.Idx → Elt F .i32) (d4 : S2560x128.Idx → Elt F .bf16) (d5 : S2560x128.Idx → Elt F .bf16) (d6 : S2560x128.Idx → Elt F .f32) (d7 : S8x8193.Idx → Elt F .f32) (d8 : S1x1x64x8192.Idx → Elt F .i8) (d9 : S1x1x64x8192.Idx → Elt F .i8) (d10 : S1x8x8192.Idx → Elt F .f32) (d11 : S1x8x8192.Idx → Elt F .f32) (d12 : S1x8x8192.Idx → Elt F .f32) (d13 : S1x8x8192.Idx → Elt F .f32) (d14 d14' : S2560x128.Idx → Elt F .f32) : Prop :=
  ∃ (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty),
    (arg2.view.read (Elt F) X2 = d2 ∧ arg3.view.read (Elt F) X3 = d3 ∧ arg4.view.read (Elt F) X4 = d4 ∧ arg5.view.read (Elt F) X5 = d5 ∧ arg6.view.read (Elt F) X6 = d6 ∧ arg7.view.read (Elt F) X7 = d7 ∧ arg8.view.read (Elt F) X8 = d8 ∧ arg9.view.read (Elt F) X9 = d9 ∧ arg10.view.read (Elt F) X10 = d10 ∧ arg11.view.read (Elt F) X11 = d11 ∧ arg12.view.read (Elt F) X12 = d12 ∧ arg13.view.read (Elt F) X13 = d13 ∧ arg14.view.read (Elt F) X14 = d14) ∧
    ((¬ k0_cond1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i)) = 1#1 ∧ d14' = d14) ∨
      ∃ (hw : k0_chk1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i))) (h1 : k0_cond1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i)) = 1#1),
        d14' = arg14.view.read (Elt F) (arg14.view.writes (Elt F) X14 ((work c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 X12 X13 _ _ _ _ _ _ _ _ _ rfl rfl rfl rfl rfl rfl rfl rfl rfl hw h1).1 X14 X15 X16 X17)))

/-- The body's triple: the operands read, the output block left as `Stored` says, the scratch at anything. -/
theorem kernelRun (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (d2 : S5.Idx → Elt F .i32) (d3 : S5.Idx → Elt F .i32) (d4 : S2560x128.Idx → Elt F .bf16) (d5 : S2560x128.Idx → Elt F .bf16) (d6 : S2560x128.Idx → Elt F .f32) (d7 : S8x8193.Idx → Elt F .f32) (d8 : S1x1x64x8192.Idx → Elt F .i8) (d9 : S1x1x64x8192.Idx → Elt F .i8) (d10 : S1x8x8192.Idx → Elt F .f32) (d11 : S1x8x8192.Idx → Elt F .f32) (d12 : S1x8x8192.Idx → Elt F .f32) (d13 : S1x8x8192.Idx → Elt F .f32) (d14 : S2560x128.Idx → Elt F .f32)
    (hchk : ∀ X2 X3, arg2.view.read (Elt F) X2 = d2 → arg3.view.read (Elt F) X3 = d3 → k0_chk1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i))) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ ((owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d14', ⌜Stored c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 d2 d3 d4 d5 d6 d7 d8 d9 d10 d11 d12 d13 d14 d14'⌝ ∗ owns (c : Thread nD τ) arg14 fullShare d14')
            ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none (c : Thread nD τ) none) Set.univ (cc0_hstu_attend i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%e15, %X15, -, H15⟩, ⟨%e16, %X16, -, H16⟩, ⟨%e17, %X17, -, H17⟩, ⟨%e18, %X18, -, H18⟩, Hk⟩
  have hw : k0_chk1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i)) := hchk X2 X3 h2 h3
  by_cases h1 : k0_cond1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i)) = 1#1
  · iapply (wp_wand_r Idealize.ShloMosaic.frame (wpE (defs₀ (F := F)) Variants.none (c : Thread nD τ) none) Set.univ)
    isplitl [H2 H3 H4 H5 H6 H7 H8 H9 H10 H11 H12 H13 H14 H15 H16 H17 H18]
    · iapply ((work c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 X12 X13 _ _ _ _ _ _ _ _ _ rfl rfl rfl rfl rfl rfl rfl rfl rfl hw h1).2 X14 X15 X16 X17 X18)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · iintro %y ⟨H2, H3, H4, H5, H6, H7, H8, H9, H10, H11, H12, H13, H14, ⟨%f15, H15⟩, ⟨%f16, H16⟩, ⟨%f17, H17⟩, ⟨%f18, H18⟩⟩
      iapply Hk
      isplitl [H2]
      · iexists X2; isplitr
        · ipureintro; exact h2
        · iexact H2
      isplitl [H3]
      · iexists X3; isplitr
        · ipureintro; exact h3
        · iexact H3
      isplitl [H4]
      · iexists X4; isplitr
        · ipureintro; exact h4
        · iexact H4
      isplitl [H5]
      · iexists X5; isplitr
        · ipureintro; exact h5
        · iexact H5
      isplitl [H6]
      · iexists X6; isplitr
        · ipureintro; exact h6
        · iexact H6
      isplitl [H7]
      · iexists X7; isplitr
        · ipureintro; exact h7
        · iexact H7
      isplitl [H8]
      · iexists X8; isplitr
        · ipureintro; exact h8
        · iexact H8
      isplitl [H9]
      · iexists X9; isplitr
        · ipureintro; exact h9
        · iexact H9
      isplitl [H10]
      · iexists X10; isplitr
        · ipureintro; exact h10
        · iexact H10
      isplitl [H11]
      · iexists X11; isplitr
        · ipureintro; exact h11
        · iexact H11
      isplitl [H12]
      · iexists X12; isplitr
        · ipureintro; exact h12
        · iexact H12
      isplitl [H13]
      · iexists X13; isplitr
        · ipureintro; exact h13
        · iexact H13
      isplitl [H14]
      · iexists _; isplitr; swap
        · iexists _; isplitr; swap; · iexact H14
          ipureintro; rfl
        · ipureintro
          exact ⟨X2, X3, X4, X5, X6, X7, X8, X9, X10, X11, X12, X13, X14, X15, X16, X17, ⟨h2, h3, h4, h5, h6, h7, h8, h9, h10, h11, h12, h13, h14⟩, Or.inr ⟨hw, h1, rfl⟩⟩
      isplitl [H15]
      · iexists _, _; isplitr; swap
        · iexact H15
        · ipureintro; rfl
      isplitl [H16]
      · iexists _, _; isplitr; swap
        · iexact H16
        · ipureintro; rfl
      isplitl [H17]
      · iexists _, _; isplitr; swap
        · iexact H17
        · ipureintro; rfl
      iexists _, _; isplitr; swap; · iexact H18
      ipureintro; rfl
  · iapply (idle c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 X12 X13 X14 hw h1 K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H2, H3, H4, H5, H6, H7, H8, H9, H10, H11, H12, H13, H14⟩
    iapply Hk
    isplitl [H2]
    · iexists X2; isplitr
      · ipureintro; exact h2
      · iexact H2
    isplitl [H3]
    · iexists X3; isplitr
      · ipureintro; exact h3
      · iexact H3
    isplitl [H4]
    · iexists X4; isplitr
      · ipureintro; exact h4
      · iexact H4
    isplitl [H5]
    · iexists X5; isplitr
      · ipureintro; exact h5
      · iexact H5
    isplitl [H6]
    · iexists X6; isplitr
      · ipureintro; exact h6
      · iexact H6
    isplitl [H7]
    · iexists X7; isplitr
      · ipureintro; exact h7
      · iexact H7
    isplitl [H8]
    · iexists X8; isplitr
      · ipureintro; exact h8
      · iexact H8
    isplitl [H9]
    · iexists X9; isplitr
      · ipureintro; exact h9
      · iexact H9
    isplitl [H10]
    · iexists X10; isplitr
      · ipureintro; exact h10
      · iexact H10
    isplitl [H11]
    · iexists X11; isplitr
      · ipureintro; exact h11
      · iexact H11
    isplitl [H12]
    · iexists X12; isplitr
      · ipureintro; exact h12
      · iexact H12
    isplitl [H13]
    · iexists X13; isplitr
      · ipureintro; exact h13
      · iexact H13
    isplitl [H14]
    · iexists d14; isplitr
      · ipureintro
        exact ⟨X2, X3, X4, X5, X6, X7, X8, X9, X10, X11, X12, X13, X14, X15, X16, X17, ⟨h2, h3, h4, h5, h6, h7, h8, h9, h10, h11, h12, h13, h14⟩, Or.inl ⟨h1, rfl⟩⟩
      · iexists X14; isplitr; · ipureintro; exact h14
        iexact H14
    isplitl [H15]
    · iexists _, _; isplitr; swap
      · iexact H15
      · ipureintro; rfl
    isplitl [H16]
    · iexists _, _; isplitr; swap
      · iexact H16
      · ipureintro; rfl
    isplitl [H17]
    · iexists _, _; isplitr; swap
      · iexact H17
      · ipureintro; rfl
    iexists _, _; isplitr; swap; · iexact H18
    ipureintro; rfl

variable (m : (ℓ : Loc nD τ sig) → Buf (Elt F) ℓ) (ρ : Dev nD → PrngReg)

/-! ## The proof data -/

abbrev ms0 (t : Fin cfg0.N) : Memref sig .tc .smem S5 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S5 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2560x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2560x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2560x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x8193 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x64x8192 .i8 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x64x8192 .i8 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8x8192 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8x8192 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x8x8192 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x8x8192 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S2560x128 .f32 := win0_12.stage (cfg0.slots t 12)
abbrev hs12 (t : Fin cfg0.N) : (ms12 t).IsWhole := hstage0_12 ((cfg0.slots t 12).cast nbuf0_12)

abbrev sc0 : Memref sig .tc .vmem S256x8192 .bf16 := Memref.whole cc0_scratch0
abbrev sc1 : Memref sig .tc .vmem S256x8192 .bf16 := Memref.whole cc0_scratch1
abbrev sc2 : Memref sig .tc .vmem S8x8192 .f32 := Memref.whole cc0_scratch2
abbrev sc3 : Memref sig .tc .vmem S256x256 .f32 := Memref.whole cc0_scratch3

/-- The output is not named by the exact proof data. -/
def forgets0 : Fin 13 → Bool := fun w => w == 12

/-- The proof data on core `c`: the arrays as launched, each operand block left as it is. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Pipeline.Dat.unnamed (cfg := cfg0) 12 t
    | ⟨n + 13, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d

/-- The scratch, whole at some contents, and the generator register at some state. -/
theorem PhiA_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What point `t` may leave in the output block, having found `Y` there. -/
abbrev StoredAt (c : Dev nD) (t : Fin cfg0.N) (Y X : S2560x128.Idx → Elt F .f32) : Prop :=
  Stored c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y X

/-- The words of the two count arrays are in range: the side condition the body checks at each point. -/
def Checked (c : Dev nD) : Prop := ∀ (t : Fin cfg0.N) X2 X3, (ms0 t).view.read (Elt F) X2 = iblk m c 0 t → (ms1 t).view.read (Elt F) X3 = iblk m c 1 t →
  k0_chk1 (grid0.coords t) (word (ms0 t) X2 ![0] inb_S5_S1_0) (word (ms0 t) X2 ![1] inb_S5_S1_1) (word (ms0 t) X2 ![2] inb_S5_S1_2) (word (ms0 t) X2 ![3] inb_S5_S1_3) (word (ms0 t) X2 ![4] inb_S5_S1_4) (word (ms0 t) X2 (k0_off1 (grid0.coords t)) (k0_off1_inb (grid0.coords t))) (word (ms1 t) X3 (k0_off1 (grid0.coords t)) (k0_off1_inb (grid0.coords t)))

variable {m}

abbrev RelTy := (w : Fin cfg0.W) → Fin cfg0.N → ((cfg0.win w).block.Idx → Elt F (cfg0.win w).elt) → Prop

def bodyPre (c : Dev nD) (Rl : RelTy (F := F)) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d))
    ∗ (∃ Y, ⌜((dats m 0 c).toRRel forgets0 Rl).Finds 12 t Y⌝ ∗ owns (c : Thread nD τ) (ms12 t) fullShare Y))
def bodyPost (c : Dev nD) (Rl : RelTy (F := F)) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t)
    ∗ (∃ X, ⌜Rl 12 t X⌝ ∗ owns (c : Thread nD τ) (ms12 t) fullShare X))

/-- The body at a point, for a predicate its relation establishes. -/
theorem sound_body (c : Dev nD) (hck : Checked m c) (Rl : RelTy (F := F))
    (hRl : ∀ t Y X, ((dats m 0 c).toRRel forgets0 Rl).Finds 12 t Y → StoredAt m c t Y X → Rl 12 t X) (t : Fin cfg0.N) :
    bodyPre (m := m) c Rl t ⊢ wp frame (wpE (defs₀ (F := F)) Variants.none c none) Set.univ (bodyAt0 t) (fun _ => bodyPost (m := m) c Rl t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11]
  iintro ⟨⟨⟨HS0, HS1, HS2, HS3⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, %hY, H12⟩⟩
  iapply (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y (hck t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%X, %hX, H12⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    · iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists X; isplitr
  · ipureintro; exact hRl t Y X hY hX
  · iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the output held to the predicate. -/
theorem body_obligation (c : Dev nD) (hck : Checked m c) (Rl : RelTy (F := F))
    (hRl : ∀ t Y X, ((dats m 0 c).toRRel forgets0 Rl).Finds 12 t Y → StoredAt m c t Y X → Rl 12 t X) :
    BodyObligationRel (dats (F := F) m 0 c) (defs₀ (F := F)) Variants.none () Set.univ forgets0 Rl := fun t => by
  rw [bigSep_W0, bigSep_W0, defs₀_row]
  exact triple_restated (sound_body c hck Rl hRl t) rfl .rfl fun _ => .rfl

variable (m)

set_option backward.isDefEq.respectTransparency.types false in
/-- The launch: from any memory with the counts in range and zero counters, every weakly fair execution terminates with
    the counters at zero, the operands as they were, and the output's array written back block by block from contents that
    the predicate holds of. -/
theorem run_main (hck : ∀ c, Checked m c) (Rl : (c : Dev nD) → RelTy (F := F))
    (hRl : ∀ c t Y X, ((dats m 0 c).toRRel forgets0 (Rl c)).Finds 12 t Y → StoredAt m c t Y X → Rl c 12 t X) :
    θ_run defs (onTc (τ := τ) (main (F := F))) (s₀ m ρ)
      (fun r => Pipeline.RDat.FramePost (cfgs 0) (fun c => (dats m 0 c).toRRel forgets0 (Rl c)) (V m) r ∧ r.2.sem = fun _ => 0) :=
  Pipeline.RDat.θ_run_frame (Q' := _) cfgs (0 : Fin 1) launch0 defs₀ Variants.none (fun c => (dats m 0 c).toRRel forgets0 (Rl c)) m ρ main
    (hbody := fun c => (body_obligation c (hck c) (Rl c) (hRl c)).toRRel) (hshare := fun c => (dats m 0 c).share_full fun _ => rfl)
    (howed := fun _ _ => rfl) (V := V m) (hmain := hmain m Variants.none) (hA := A_eq m) (hΦ := fun _ _ => rfl) (hQ' := fun _ h => h)

end Cert.Kernel.Hand

end
-- ==== Proof.Frame.lean ====
/-
  The frame: when the counts split the rows and every history length lies in range, the index checks of the body hold at
  every grid point, so the kernel terminates, leaves its operands alone and returns every semaphore to zero.
-/
module

public import proofs.«01_k».proof.Proof.Body
public import proofs.«01_k».proof.Proof.Checks
public import Idealize.ShloMosaic.Lib.ValueIdxCore

@[expose] public section

set_option maxRecDepth 16384

namespace Cert.Kernel.Hand

open Cert.Kernel Cert.Kernel.Gen Cert.Words
open Idealize.ShloMosaic Idealize.ShloMosaic.Pipeline Idealize.ShloMosaic.TcCoe Idealize.ShloMosaic.ValueIdx Idealize.SL.Sem

variable {F : FTy → Type} [FloatOps F]
variable (m : (ℓ : Loc nD τ sig) → Buf (Elt F) ℓ)

/-- The candidate count of a user, as a word. -/
def cntW (c : Dev nD) (u : Fin 5) : BitVec 32 := m ((c : Thread nD τ).loc main_arg0) (ix1 u : S5.Idx)
/-- The history length of a user, as a word. -/
def histW (c : Dev nD) (u : Fin 5) : BitVec 32 := m ((c : Thread nD τ).loc main_arg1) (ix1 u : S5.Idx)

/-- The counts are the words of numbers `n` that sum to 2560, the history lengths those of numbers `h` from 1 to 8192. -/
structure Inputs (c : Dev nD) (n h : Fin 5 → ℕ) : Prop where
  ragged : Ragged (cntW m c) n
  hist : ∀ u, histW m c u = BitVec.ofNat 32 (h u)
  pos : ∀ u, 1 ≤ h u
  le : ∀ u, h u ≤ 8192

theorem read_word0 (c : Dev nD) (t : Fin cfg0.N) (X2) (hX : (ms0 t).view.read (Elt F) X2 = iblk m c 0 t) (o : Fin S5.rank → ℕ)
    (ho : ∀ a, o a + S1.size a ≤ S5.size a) (u : Fin 5) (hu : o 0 = u.val) : word (ms0 t) X2 o ho = cntW m c u := by
  unfold word
  rw [View.readAt_apply, hX]
  unfold iblk
  rw [View.read_apply, cast_eq]
  unfold cntW
  refine congrArg (m ((c : Thread nD τ).loc main_arg0)) (funext fun (a : Fin 1) => ?_)
  obtain rfl : a = 0 := Subsingleton.elim _ _
  apply Fin.ext
  show 0 * 5 + 1 * (o 0 + 1 * 0) = u.val
  omega

theorem read_word1 (c : Dev nD) (t : Fin cfg0.N) (X3) (hX : (ms1 t).view.read (Elt F) X3 = iblk m c 1 t) (o : Fin S5.rank → ℕ)
    (ho : ∀ a, o a + S1.size a ≤ S5.size a) (u : Fin 5) (hu : o 0 = u.val) : word (ms1 t) X3 o ho = histW m c u := by
  unfold word
  rw [View.readAt_apply, hX]
  unfold iblk
  rw [View.read_apply, cast_eq]
  unfold histW
  refine congrArg (m ((c : Thread nD τ).loc main_arg1)) (funext fun (a : Fin 1) => ?_)
  obtain rfl : a = 0 := Subsingleton.elim _ _
  apply Fin.ext
  show 0 * 5 + 1 * (o 0 + 1 * 0) = u.val
  omega

theorem off1_usr (i : grid0.Coords) : k0_off1 i 0 = (usr i).val := by
  have := (usr i).isLt
  show (BitVec.ofNat 32 (i 1).val).toNat = (i 1).val
  rw [BitVec.toNat_ofNat]
  have h : (i 1).val < 5 := (i 1).isLt
  omega

/-- The body's index checks hold at every grid point. -/
theorem checked (c : Dev nD) {n h : Fin 5 → ℕ} (H : Inputs m c n h) : Checked m c := fun t X2 X3 h2 h3 => by
  rw [read_word0 m c t X2 h2 ![0] _ 0 rfl, read_word0 m c t X2 h2 ![1] _ 1 rfl, read_word0 m c t X2 h2 ![2] _ 2 rfl,
    read_word0 m c t X2 h2 ![3] _ 3 rfl, read_word0 m c t X2 h2 ![4] _ 4 rfl,
    read_word0 m c t X2 h2 _ _ (usr (grid0.coords t)) (off1_usr _), read_word1 m c t X3 h3 _ _ (usr (grid0.coords t)) (off1_usr _), H.hist]
  exact chk1 H.ragged (H.le _) _

/-- The kernel terminates, its operands end unchanged, and every semaphore ends at zero. -/
theorem frame_main (ρ : Dev nD → PrngReg) (hin : ∀ c, ∃ n h, Inputs m c n h) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine (θ_run defs _ _).mono (fun r h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      (h.1.arr_in c 6 rfl).trans ((A_eq m c 6).trans (V_main_arg6 m c)),
      (h.1.arr_in c 7 rfl).trans ((A_eq m c 7).trans (V_main_arg7 m c)),
      (h.1.arr_in c 8 rfl).trans ((A_eq m c 8).trans (V_main_arg8 m c)),
      (h.1.arr_in c 9 rfl).trans ((A_eq m c 9).trans (V_main_arg9 m c)),
      (h.1.arr_in c 10 rfl).trans ((A_eq m c 10).trans (V_main_arg10 m c)),
      (h.1.arr_in c 11 rfl).trans ((A_eq m c 11).trans (V_main_arg11 m c))⟩, h.2⟩)
    (run_main (ρ := ρ) m (fun c => (hin c).elim fun _ h => h.elim fun _ H => checked m c H) (fun _ _ _ _ => True) (fun _ _ _ _ _ _ => trivial))

end Cert.Kernel.Hand

end
-- ==== Proof.Ideal.Trip.lean ====
/-
  One trip of the loop over the row tiles of one user.

  The trip clears the accumulator, runs the loop over the history tiles (its invariant is the generated one), and stores
  the finished rows into the output block. The piece it stores is the run's own find, a function of what the trip reads
  and of the output block it finds.
-/
module

public import proofs.«01_k».proof.Proof.Gen.KernelIdeal.Loops
public import proofs.«01_k».proof.Proof.Gen.KernelIdeal.Skeleton
public import Idealize.ShloMosaic.Lib.LoopRemainder
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole memref's buffer on core `c`, held at `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

set_option maxHeartbeats 8000000 in
/-- One trip at a symbolic `k`: the pieces it writes into the output block, and the trip run with them. -/
def trip_t3 (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (v1 : Elt F .i32) (v5 : Elt F .i32) (v9 : Elt F .i32) (v13 : Elt F .i32) (v17 : Elt F .i32) (v19 : BitVec 32) (v21 : Elt F .i32) (v22 : BitVec 32) (v24 : Elt F .i32) (k0_hw1 : k0_chk1 i v1 v5 v9 v13 v17 v21 v24) (v28 : BitVec 32) (k0_h1 : k0_cond1 i v1 v5 v9 v13 v17 v21 v24 = 1#1) (v63 : BitVec 32) (c0_i32_24 : BitVec 32)
    (X4 : BufTy.Contents (Elt F) arg4.view.ty) (X5 : BufTy.Contents (Elt F) arg5.view.ty) (X6 : BufTy.Contents (Elt F) arg6.view.ty) (X15 : BufTy.Contents (Elt F) arg15.view.ty) (X16 : BufTy.Contents (Elt F) arg16.view.ty) (X17 : BufTy.Contents (Elt F) arg17.view.ty)
    (k : Fin (k0_t3_loop i v1 v5 v9 v13 v17 v21).trips) :
    { L : BufTy.Contents (Elt F) arg14.view.ty → List (View.Piece (Elt F) S2560x128 .f32) //
      ∀ (acc : BitVec 32) (f18 : BufTy.Contents (Elt F) arg18.view.ty) (f14 : BufTy.Contents (Elt F) arg14.view.ty),
      iprop(pt c arg4 X4 ∗ pt c arg5 X5 ∗ pt c arg6 X6 ∗ pt c arg15 X15 ∗ pt c arg16 X16 ∗ pt c arg17 X17 ∗ pt c arg18 f18 ∗ pt c arg14 f14)
      ⊢ wp frame (wpE (defs₀ (F := F)) Variants.none (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 k acc)
          (fun _ => iprop(pt c arg4 X4 ∗ pt c arg5 X5 ∗ pt c arg6 X6 ∗ pt c arg15 X15 ∗ pt c arg16 X16 ∗ pt c arg17 X17
            ∗ (∃ f, pt c arg18 f) ∗ pt c arg14 (arg14.view.writes (Elt F) f14 (L f14)))) } := by
  refine ⟨?_, fun acc f18 f14 => ?run⟩
  case run =>
    iintro ⟨H4, H5, H6, H15, H16, H17, H18, H14⟩
    unfold k0_t3_body
    sl_exec
    sl_step
    isplitl [H4]; · iexact H4
    isplitl [H5]; · iexact H5
    isplitl [H6]; · iexact H6
    isplitl [H15]; · iexact H15
    isplitl [H16]; · iexact H16
    isplitl [H17]; · iexact H17
    isplitl [H18]
    · iexists _; iexact H18
    · iexact H14

end Cert.KernelIdeal.Hand

end
-- ==== Proof.Ideal.Loops.lean ====
/-
  The loop over the row tiles of one user: its invariant, from one trip.
-/
module

public import proofs.«01_k».proof.Proof.Gen.KernelIdeal.Loops
public import proofs.«01_k».proof.Proof.Gen.KernelIdeal.Skeleton
public import Idealize.ShloMosaic.Lib.LoopRemainder
public import Idealize.ShloMosaic.Lib.Tactic
public import proofs.«01_k».proof.Proof.Ideal.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The pieces the trips before `k` have written into the output block, last first. -/
def st_t3 (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (v1 : Elt F .i32) (v5 : Elt F .i32) (v9 : Elt F .i32) (v13 : Elt F .i32) (v17 : Elt F .i32) (v19 : BitVec 32) (v21 : Elt F .i32) (v22 : BitVec 32) (v24 : Elt F .i32) (k0_hw1 : k0_chk1 i v1 v5 v9 v13 v17 v21 v24) (v28 : BitVec 32) (k0_h1 : k0_cond1 i v1 v5 v9 v13 v17 v21 v24 = 1#1) (v63 : BitVec 32) (c0_i32_24 : BitVec 32)
    (X4 : BufTy.Contents (Elt F) arg4.view.ty) (X5 : BufTy.Contents (Elt F) arg5.view.ty) (X6 : BufTy.Contents (Elt F) arg6.view.ty) (X15 : BufTy.Contents (Elt F) arg15.view.ty) (X16 : BufTy.Contents (Elt F) arg16.view.ty) (X17 : BufTy.Contents (Elt F) arg17.view.ty)
    (G : BufTy.Contents (Elt F) arg14.view.ty) : ℕ → List (View.Piece (Elt F) S2560x128 .f32)
  | 0 => []
  | k + 1 => if h : k < (k0_t3_loop i v1 v5 v9 v13 v17 v21).trips then
      (trip_t3 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 ⟨k, h⟩).1 (arg14.view.writes (Elt F) G (st_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k)) ++ st_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k
    else st_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k

theorem st_t3_succ (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (v1 : Elt F .i32) (v5 : Elt F .i32) (v9 : Elt F .i32) (v13 : Elt F .i32) (v17 : Elt F .i32) (v19 : BitVec 32) (v21 : Elt F .i32) (v22 : BitVec 32) (v24 : Elt F .i32) (k0_hw1 : k0_chk1 i v1 v5 v9 v13 v17 v21 v24) (v28 : BitVec 32) (k0_h1 : k0_cond1 i v1 v5 v9 v13 v17 v21 v24 = 1#1) (v63 : BitVec 32) (c0_i32_24 : BitVec 32)
    (X4 : BufTy.Contents (Elt F) arg4.view.ty) (X5 : BufTy.Contents (Elt F) arg5.view.ty) (X6 : BufTy.Contents (Elt F) arg6.view.ty) (X15 : BufTy.Contents (Elt F) arg15.view.ty) (X16 : BufTy.Contents (Elt F) arg16.view.ty) (X17 : BufTy.Contents (Elt F) arg17.view.ty)
    (G : BufTy.Contents (Elt F) arg14.view.ty) (k : Fin (k0_t3_loop i v1 v5 v9 v13 v17 v21).trips) :
    st_t3 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G (k.val + 1)
      = (trip_t3 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 k).1 (arg14.view.writes (Elt F) G (st_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k.val)) ++ st_t3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k.val := by
  rw [st_t3.eq_2]; exact dif_pos k.isLt

set_option warn.classDefReducibility false in
/-- The row tiles' invariant: what the trips read stays, the accumulator holds something, the output block holds the
    pieces of the trips before, written over what was there at the loop's entry. -/
@[sl_loop] def loopInv_t3 (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (v1 : Elt F .i32) (v5 : Elt F .i32) (v9 : Elt F .i32) (v13 : Elt F .i32) (v17 : Elt F .i32) (v19 : BitVec 32) (v21 : Elt F .i32) (v22 : BitVec 32) (v24 : Elt F .i32) (k0_hw1 : k0_chk1 i v1 v5 v9 v13 v17 v21 v24) (v28 : BitVec 32) (k0_h1 : k0_cond1 i v1 v5 v9 v13 v17 v21 v24 = 1#1) (v63 : BitVec 32) (c0_i32_24 : BitVec 32)
    (X4 : BufTy.Contents (Elt F) arg4.view.ty) (X5 : BufTy.Contents (Elt F) arg5.view.ty) (X6 : BufTy.Contents (Elt F) arg6.view.ty) (X15 : BufTy.Contents (Elt F) arg15.view.ty) (X16 : BufTy.Contents (Elt F) arg16.view.ty) (X17 : BufTy.Contents (Elt F) arg17.view.ty)
    (G : BufTy.Contents (Elt F) arg14.view.ty) (init : BitVec 32) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 init where
  inv k acc := iprop(pt c arg4 X4 ∗ pt c arg5 X5 ∗ pt c arg6 X6 ∗ pt c arg15 X15 ∗ pt c arg16 X16 ∗ pt c arg17 X17
    ∗ (∃ f18, pt c arg18 f18) ∗ (∃ f, pt c arg14 f ∗ ⌜f = arg14.view.writes (Elt F) G (st_t3 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 G k)⌝))
  step k acc := by
    iintro ⟨H4, H5, H6, H15, H16, H17, ⟨%f18, H18⟩, ⟨%f14, H14, %h14⟩⟩
    iapply (wp_wand_r Idealize.ShloMosaic.frame (wpE (defs₀ (F := F)) Variants.none (c : Thread nD τ) none) Set.univ)
    isplitl [H4 H5 H6 H15 H16 H17 H18 H14]
    · iapply ((trip_t3 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v5 v9 v13 v17 v19 v21 v22 v24 k0_hw1 v28 k0_h1 v63 c0_i32_24 X4 X5 X6 X15 X16 X17 k).2 acc f18 f14)
      isplitl [H4]; · iexact H4
      isplitl [H5]; · iexact H5
      isplitl [H6]; · iexact H6
      isplitl [H15]; · iexact H15
      isplitl [H16]; · iexact H16
      isplitl [H17]; · iexact H17
      isplitl [H18]; · iexact H18
      iexact H14
    · iintro %yld ⟨H4, H5, H6, H15, H16, H17, H18, H14⟩
      isplitl [H4]; · iexact H4
      isplitl [H5]; · iexact H5
      isplitl [H6]; · iexact H6
      isplitl [H15]; · iexact H15
      isplitl [H16]; · iexact H16
      isplitl [H17]; · iexact H17
      isplitl [H18]; · iexact H18
      iexists _; isplitl [H14]; · iexact H14
      ipureintro; rw [st_t3_succ, h14, ← View.writes_append]

end Cert.KernelIdeal.Hand

end
-- ==== Proof.Ideal.Checks.lean ====
/-
  The side conditions the kernel's body asks of the words it loads.

  With counts that split the 2560 rows and a history length of at most 8192, every loop makes the trips one expects, every
  slice lies inside its buffer, and every two-byte store starts at an even row. The remainder loop printed behind each
  counted loop makes no trip, so nothing is asked of it.
-/
module

public import proofs.«01_k».proof.Proof.Gen.KernelIdeal
public import proofs.«01_k».proof.Proof.Words
public import Idealize.ShloMosaic.Lib.LoopRemainder

@[expose] public section

namespace Cert.KernelIdeal.Hand

open Cert.KernelIdeal Cert.KernelIdeal.Gen Cert.Words
open Idealize.ShloMosaic

/-- The user of a grid point. -/
def usr (i : grid0.Coords) : Fin 5 := i 1

/-- The head of a grid point. -/
def head (i : grid0.Coords) : Fin 8 := i 0

variable {w : Fin 5 → BitVec 32} {n : Fin 5 → ℕ} {h : ℕ} (hr : Ragged w n) (hh : h ≤ 8192) (i : grid0.Coords)

include hr in
theorem start_word : startW w (i 1).val = BitVec.ofNat 32 (first n (usr i).val) := startW_eq hr (usr i).isLt

include hr in
theorem stop_word : Scalar.addi (startW w (i 1).val) (w (usr i)) = BitVec.ofNat 32 (first n (usr i).val + n (usr i)) := by
  rw [start_word hr, hr.word, add_word]

include hr in
theorem le_2560 : first n (usr i).val + n (usr i) ≤ 2560 := first_add_le hr.sum (usr i)

include hr hh in
theorem tiles_word : tilesW (startW w (i 1).val) (Scalar.addi (startW w (i 1).val) (w (usr i))) (BitVec.ofNat 32 h)
    = BitVec.ofNat 32 (tiles (n (usr i)) h) := by
  rw [stop_word hr, start_word hr, tilesW_eq (le_2560 hr i) hh]

include hr in
theorem floor_word : floorW (startW w (i 1).val) = BitVec.ofNat 32 (first n (usr i).val / 16 * 16) := by
  rw [start_word hr, floorW_eq (by have := le_2560 hr i; omega)]

include hr in
theorem rows_word : rowsW (Scalar.addi (startW w (i 1).val) (w (usr i))) (floorW (startW w (i 1).val))
    = BitVec.ofNat 32 (rowTiles (first n (usr i).val) (n (usr i))) := by
  rw [stop_word hr, floor_word hr, rowsW_eq (le_2560 hr i)]

include hr hh in
/-- The body computes something exactly when the user has a row and a history. -/
theorem cond_iff : k0_cond1 i (w 0) (w 1) (w 2) (w 3) (w 4) (w (usr i)) (BitVec.ofNat 32 h) = 1#1 ↔ 0 < tiles (n (usr i)) h := by
  show condW (tilesW (startW w (i 1).val) (Scalar.addi (startW w (i 1).val) (w (usr i))) (BitVec.ofNat 32 h)) = 1#1 ↔ _
  rw [tiles_word hr hh]
  exact condW_iff (tiles_le hh)

include hr hh in
theorem t1_trips : (k0_t1_loop i (w 0) (w 1) (w 2) (w 3) (w 4) (w (usr i)) (BitVec.ofNat 32 h)).trips = tiles (n (usr i)) h := by
  show Scf.trips 0#32 (ubW (tilesW (startW w (i 1).val) (Scalar.addi (startW w (i 1).val) (w (usr i))) (BitVec.ofNat 32 h))) 1#32 = _
  have := tiles_le (c := n (usr i)) hh
  rw [tiles_word hr hh, ubW_eq (by omega), trips_eq (by omega)]

include hr hh in
theorem t1_ok : (k0_t1_loop i (w 0) (w 1) (w 2) (w 3) (w 4) (w (usr i)) (BitVec.ofNat 32 h)).OK := by
  show Scf.OK 0#32 (ubW (tilesW (startW w (i 1).val) (Scalar.addi (startW w (i 1).val) (w (usr i))) (BitVec.ofNat 32 h))) 1#32
  have := tiles_le (c := n (usr i)) hh
  rw [tiles_word hr hh, ubW_eq (by omega)]
  exact ok (by omega)

include hr hh in
theorem t1_lt (k : Fin (k0_t1_loop i (w 0) (w 1) (w 2) (w 3) (w 4) (w (usr i)) (BitVec.ofNat 32 h)).trips) : k.val < 16 := by
  have h2 := tiles_le (c := n (usr i)) hh
  have h3 := t1_trips hr hh i
  exact lt_of_lt_of_le (lt_of_lt_of_eq k.isLt h3) h2

include hr hh in
theorem t4_trips : (k0_t4_loop i (w 0) (w 1) (w 2) (w 3) (w 4) (w (usr i)) (BitVec.ofNat 32 h)).trips = tiles (n (usr i)) h := by
  show Scf.trips 0#32 (ubW (tilesW (startW w (i 1).val) (Scalar.addi (startW w (i 1).val) (w (usr i))) (BitVec.ofNat 32 h))) 1#32 = _
  have := tiles_le (c := n (usr i)) hh
  rw [tiles_word hr hh, ubW_eq (by omega), trips_eq (by omega)]

include hr hh in
theorem t4_ok : (k0_t4_loop i (w 0) (w 1) (w 2) (w 3) (w 4) (w (usr i)) (BitVec.ofNat 32 h)).OK := by
  show Scf.OK 0#32 (ubW (tilesW (startW w (i 1).val) (Scalar.addi (startW w (i 1).val) (w (usr i))) (BitVec.ofNat 32 h))) 1#32
  have := tiles_le (c := n (usr i)) hh
  rw [tiles_word hr hh, ubW_eq (by omega)]
  exact ok (by omega)

include hr hh in
theorem t4_lt (k : Fin (k0_t4_loop i (w 0) (w 1) (w 2) (w 3) (w 4) (w (usr i)) (BitVec.ofNat 32 h)).trips) : k.val < 16 := by
  have h2 := tiles_le (c := n (usr i)) hh
  have h3 := t4_trips hr hh i
  exact lt_of_lt_of_le (lt_of_lt_of_eq k.isLt h3) h2

include hr in
theorem t3_trips : (k0_t3_loop i (w 0) (w 1) (w 2) (w 3) (w 4) (w (usr i))).trips = rowTiles (first n (usr i).val) (n (usr i)) := by
  show Scf.trips 0#32 (ubW (rowsW (Scalar.addi (startW w (i 1).val) (w (usr i))) (floorW (startW w (i 1).val)))) 1#32 = _
  have := rowTiles_le (le_2560 hr i)
  rw [rows_word hr, ubW_eq (by omega), trips_eq (by omega)]

include hr in
theorem t3_ok : (k0_t3_loop i (w 0) (w 1) (w 2) (w 3) (w 4) (w (usr i))).OK := by
  show Scf.OK 0#32 (ubW (rowsW (Scalar.addi (startW w (i 1).val) (w (usr i))) (floorW (startW w (i 1).val)))) 1#32
  have := rowTiles_le (le_2560 hr i)
  rw [rows_word hr, ubW_eq (by omega)]
  exact ok (by omega)

include hr in
theorem t3_lt (k : Fin (k0_t3_loop i (w 0) (w 1) (w 2) (w 3) (w 4) (w (usr i))).trips) : k.val ≤ 11 := by
  have h2 := rowTiles_le (le_2560 hr i)
  have h3 := t3_trips hr i
  exact le_trans (le_of_lt (lt_of_lt_of_eq k.isLt h3)) h2

include hr in
theorem row_word (k : Fin (k0_t3_loop i (w 0) (w 1) (w 2) (w 3) (w 4) (w (usr i))).trips) :
    rowW (floorW (startW w (i 1).val)) k.val = BitVec.ofNat 32 (row (first n (usr i).val) k.val) := by
  have := t3_lt hr i k
  rw [floor_word hr, rowW_eq (by have := le_2560 hr i; omega) (by omega)]

include hr in
theorem mult5_eq (k : Fin (k0_t3_loop i (w 0) (w 1) (w 2) (w 3) (w 4) (w (usr i))).trips) :
    k0_mult5 i (w 0) (w 1) (w 2) (w 3) (w 4) (w (usr i)) k = BitVec.ofNat 32 (row (first n (usr i).val) k.val) := row_word hr i k

include hr in
theorem off19_eq (k : Fin (k0_t3_loop i (w 0) (w 1) (w 2) (w 3) (w 4) (w (usr i))).trips) :
    k0_off19 i (w 0) (w 1) (w 2) (w 3) (w 4) (w (usr i)) k = ![row (first n (usr i).val) k.val, 0] := by
  show ![(Scalar.indexCast (rowW (floorW (startW w (i 1).val)) k.val)).toNat, 0] = _
  rw [row_word hr]
  have := row_le (first n (usr i).val) k.val
  rw [show (Scalar.indexCast (BitVec.ofNat 32 (row (first n (usr i).val) k.val)) : Index) = BitVec.ofNat 32 _ from rfl,
    toNat_word (by omega)]

include hr in
theorem off29_eq (k : Fin (k0_t3_loop i (w 0) (w 1) (w 2) (w 3) (w 4) (w (usr i))).trips) :
    k0_off29 i (w 0) (w 1) (w 2) (w 3) (w 4) (w (usr i)) k = ![row (first n (usr i).val) k.val, 0] := by
  show ![(Scalar.indexCast (rowW (floorW (startW w (i 1).val)) k.val)).toNat, 0] = _
  rw [row_word hr]
  have := row_le (first n (usr i).val) k.val
  rw [show (Scalar.indexCast (BitVec.ofNat 32 (row (first n (usr i).val) k.val)) : Index) = BitVec.ofNat 32 _ from rfl,
    toNat_word (by omega)]

theorem col_word {k : ℕ} (hk : k < 16) :
    (Scalar.indexCast (Scalar.muli (Scf.iv 0#32 1#32 k) 512#32) : Index).toNat = 512 * k := by
  rw [iv_word, mul_word k 512]
  exact (toNat_word (by omega)).trans (Nat.mul_comm _ _)

theorem head_word : (Scalar.indexCast (BitVec.ofNat 32 (i 0).val) : Index).toNat = (head i).val := by
  have := (head i).isLt
  exact toNat_word (by show (head i).val < _; omega)

theorem aug_word : (Scalar.indexCast (Scalar.addi 128#32 (Scalar.muli (BitVec.ofNat 32 (i 0).val) 16#32)) : Index).toNat
    = 128 + 16 * (head i).val := by
  have := (head i).isLt
  rw [mul_word _ 16, add_word 128]
  exact (toNat_word (by show 128 + (head i).val * 16 < _; omega)).trans (by show 128 + (head i).val * 16 = _; omega)

include hr hh in
theorem off3_eq (k : Fin (k0_t1_loop i (w 0) (w 1) (w 2) (w 3) (w 4) (w (usr i)) (BitVec.ofNat 32 h)).trips) : k0_off3 i (w 0) (w 1) (w 2) (w 3) (w 4) (w (usr i)) (BitVec.ofNat 32 h) k = ![0, (head i).val, 512 * k.val] := by
  show ![0, (Scalar.indexCast (BitVec.ofNat 32 (i 0).val) : Index).toNat, (Scalar.indexCast (Scalar.muli (Scf.iv 0#32 1#32 k.val) 512#32) : Index).toNat] = _
  rw [head_word, col_word (t1_lt hr hh i k)]

include hr hh in
theorem off4_eq (k : Fin (k0_t1_loop i (w 0) (w 1) (w 2) (w 3) (w 4) (w (usr i)) (BitVec.ofNat 32 h)).trips) : k0_off4 i (w 0) (w 1) (w 2) (w 3) (w 4) (w (usr i)) (BitVec.ofNat 32 h) k = ![0, 512 * k.val] := by
  show ![0, (Scalar.indexCast (Scalar.muli (Scf.iv 0#32 1#32 k.val) 512#32) : Index).toNat] = _
  rw [col_word (t1_lt hr hh i k)]

include hr hh in
theorem off5_eq (k : Fin (k0_t1_loop i (w 0) (w 1) (w 2) (w 3) (w 4) (w (usr i)) (BitVec.ofNat 32 h)).trips) : k0_off5 i (w 0) (w 1) (w 2) (w 3) (w 4) (w (usr i)) (BitVec.ofNat 32 h) k = ![2, 512 * k.val] := by
  show ![2, (Scalar.indexCast (Scalar.muli (Scf.iv 0#32 1#32 k.val) 512#32) : Index).toNat] = _
  rw [col_word (t1_lt hr hh i k)]

include hr hh in
theorem off6_eq (k : Fin (k0_t1_loop i (w 0) (w 1) (w 2) (w 3) (w 4) (w (usr i)) (BitVec.ofNat 32 h)).trips) : k0_off6 i (w 0) (w 1) (w 2) (w 3) (w 4) (w (usr i)) (BitVec.ofNat 32 h) k = ![0, 0, 0, 512 * k.val] := by
  show ![0, 0, 0, (Scalar.indexCast (Scalar.muli (Scf.iv 0#32 1#32 k.val) 512#32) : Index).toNat] = _
  rw [col_word (t1_lt hr hh i k)]

include hr hh in
theorem off7_eq (k : Fin (k0_t1_loop i (w 0) (w 1) (w 2) (w 3) (w 4) (w (usr i)) (BitVec.ofNat 32 h)).trips) : k0_off7 i (w 0) (w 1) (w 2) (w 3) (w 4) (w (usr i)) (BitVec.ofNat 32 h) k = ![0, 512 * k.val] := by
  show ![0, (Scalar.indexCast (Scalar.muli (Scf.iv 0#32 1#32 k.val) 512#32) : Index).toNat] = _
  rw [col_word (t1_lt hr hh i k)]

include hr hh in
theorem off8_eq (k : Fin (k0_t1_loop i (w 0) (w 1) (w 2) (w 3) (w 4) (w (usr i)) (BitVec.ofNat 32 h)).trips) : k0_off8 i (w 0) (w 1) (w 2) (w 3) (w 4) (w (usr i)) (BitVec.ofNat 32 h) k = ![128, 512 * k.val] := by
  show ![128, (Scalar.indexCast (Scalar.muli (Scf.iv 0#32 1#32 k.val) 512#32) : Index).toNat] = _
  rw [col_word (t1_lt hr hh i k)]

include hr hh in
theorem off9_eq (k : Fin (k0_t1_loop i (w 0) (w 1) (w 2) (w 3) (w 4) (w (usr i)) (BitVec.ofNat 32 h)).trips) : k0_off9 i (w 0) (w 1) (w 2) (w 3) (w 4) (w (usr i)) (BitVec.ofNat 32 h) k = ![128 + 16 * (head i).val, 512 * k.val] := by
  show ![(Scalar.indexCast (Scalar.addi 128#32 (Scalar.muli (BitVec.ofNat 32 (i 0).val) 16#32)) : Index).toNat, (Scalar.indexCast (Scalar.muli (Scf.iv 0#32 1#32 k.val) 512#32) : Index).toNat] = _
  rw [aug_word, col_word (t1_lt hr hh i k)]

include hr hh in
theorem off10_eq (k : Fin (k0_t1_loop i (w 0) (w 1) (w 2) (w 3) (w 4) (w (usr i)) (BitVec.ofNat 32 h)).trips) : k0_off10 i (w 0) (w 1) (w 2) (w 3) (w 4) (w (usr i)) (BitVec.ofNat 32 h) k = ![128, 512 * k.val] := by
  show ![128, (Scalar.indexCast (Scalar.muli (Scf.iv 0#32 1#32 k.val) 512#32) : Index).toNat] = _
  rw [col_word (t1_lt hr hh i k)]

include hr hh in
theorem off20_eq (k : Fin (k0_t4_loop i (w 0) (w 1) (w 2) (w 3) (w 4) (w (usr i)) (BitVec.ofNat 32 h)).trips) : k0_off20 i (w 0) (w 1) (w 2) (w 3) (w 4) (w (usr i)) (BitVec.ofNat 32 h) k = ![0, 512 * k.val] := by
  show ![0, (Scalar.indexCast (Scalar.muli (Scf.iv 0#32 1#32 k.val) 512#32) : Index).toNat] = _
  rw [col_word (t4_lt hr hh i k)]

include hr hh in
theorem off21_eq (k : Fin (k0_t4_loop i (w 0) (w 1) (w 2) (w 3) (w 4) (w (usr i)) (BitVec.ofNat 32 h)).trips) : k0_off21 i (w 0) (w 1) (w 2) (w 3) (w 4) (w (usr i)) (BitVec.ofNat 32 h) k = ![0, 512 * k.val] := by
  show ![0, (Scalar.indexCast (Scalar.muli (Scf.iv 0#32 1#32 k.val) 512#32) : Index).toNat] = _
  rw [col_word (t4_lt hr hh i k)]

include hr hh in
theorem off22_eq (k : Fin (k0_t4_loop i (w 0) (w 1) (w 2) (w 3) (w 4) (w (usr i)) (BitVec.ofNat 32 h)).trips) : k0_off22 i (w 0) (w 1) (w 2) (w 3) (w 4) (w (usr i)) (BitVec.ofNat 32 h) k = ![1, 512 * k.val] := by
  show ![1, (Scalar.indexCast (Scalar.muli (Scf.iv 0#32 1#32 k.val) 512#32) : Index).toNat] = _
  rw [col_word (t4_lt hr hh i k)]

include hr hh in
theorem off23_eq (k : Fin (k0_t4_loop i (w 0) (w 1) (w 2) (w 3) (w 4) (w (usr i)) (BitVec.ofNat 32 h)).trips) : k0_off23 i (w 0) (w 1) (w 2) (w 3) (w 4) (w (usr i)) (BitVec.ofNat 32 h) k = ![2, 512 * k.val] := by
  show ![2, (Scalar.indexCast (Scalar.muli (Scf.iv 0#32 1#32 k.val) 512#32) : Index).toNat] = _
  rw [col_word (t4_lt hr hh i k)]

include hr hh in
theorem chk1_0 : k0_chk1_0 i (w 0) (w 1) (w 2) (w 3) (w 4) (w (usr i)) (BitVec.ofNat 32 h) := by
  unfold k0_chk1_0
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun _ => t1_ok hr hh i
  · intro k _
    show 512 ∣ (Scalar.muli (Scf.iv 0#32 1#32 k.val) 512#32).toNat
    have h1 := t1_lt hr hh i k
    rw [iv_word, mul_word k.val 512, toNat_word (by omega)]
    exact Dvd.intro_left _ rfl
  · intro k _ a
    have h1 := t1_lt hr hh i k
    have h2 := (head i).isLt
    rw [off3_eq hr hh i k]
    fin_cases a <;> simp <;> omega
  · intro k _ a
    have h1 := t1_lt hr hh i k
    have h2 := (head i).isLt
    rw [off4_eq hr hh i k]
    fin_cases a <;> simp <;> omega
  · intro k _ a
    have h1 := t1_lt hr hh i k
    have h2 := (head i).isLt
    rw [off5_eq hr hh i k]
    fin_cases a <;> simp <;> omega
  · intro k _ a
    have h1 := t1_lt hr hh i k
    have h2 := (head i).isLt
    rw [off6_eq hr hh i k]
    fin_cases a <;> simp <;> omega
  · intro k _ a
    have h1 := t1_lt hr hh i k
    have h2 := (head i).isLt
    rw [off7_eq hr hh i k]
    fin_cases a <;> simp <;> omega
  · intro k _ hinb
    refine Or.inr ⟨by decide, rfl, Or.inl ⟨?_, (by show 2 ∣ 128; decide)⟩⟩
    show 2 ∣ (k0_off7 i (w 0) (w 1) (w 2) (w 3) (w 4) (w (usr i)) (BitVec.ofNat 32 h) k) 0
    rw [off7_eq hr hh i k]
    simp <;> omega
  · intro k _ a
    have h1 := t1_lt hr hh i k
    have h2 := (head i).isLt
    rw [off8_eq hr hh i k]
    fin_cases a <;> simp <;> omega
  · intro k _ hinb
    refine Or.inr ⟨by decide, rfl, Or.inl ⟨?_, (by show 2 ∣ 128; decide)⟩⟩
    show 2 ∣ (k0_off8 i (w 0) (w 1) (w 2) (w 3) (w 4) (w (usr i)) (BitVec.ofNat 32 h) k) 0
    rw [off8_eq hr hh i k]
    simp <;> omega
  · intro k _ a
    have h1 := t1_lt hr hh i k
    have h2 := (head i).isLt
    rw [off9_eq hr hh i k]
    fin_cases a <;> simp <;> omega
  · intro k _ hinb
    refine Or.inr ⟨by decide, rfl, Or.inl ⟨?_, (by show 2 ∣ 16; decide)⟩⟩
    show 2 ∣ (k0_off9 i (w 0) (w 1) (w 2) (w 3) (w 4) (w (usr i)) (BitVec.ofNat 32 h) k) 0
    rw [off9_eq hr hh i k]
    simp <;> omega
  · intro k _ a
    have h1 := t1_lt hr hh i k
    have h2 := (head i).isLt
    rw [off10_eq hr hh i k]
    fin_cases a <;> simp <;> omega
  · intro k _ hinb
    refine Or.inr ⟨by decide, rfl, Or.inl ⟨?_, (by show 2 ∣ 16; decide)⟩⟩
    show 2 ∣ (k0_off10 i (w 0) (w 1) (w 2) (w 3) (w 4) (w (usr i)) (BitVec.ofNat 32 h) k) 0
    rw [off10_eq hr hh i k]
    simp <;> omega
  · exact fun _ => Scf.rem_ok _ _
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun _ => t3_ok hr i
  · intro k _
    rw [mult5_eq hr i k, toNat_word (by have := row_le (first n (usr i).val) k.val; omega)]
    exact row_dvd _ _
  · exact fun _ _ => t4_ok hr hh i
  · intro k k4 _
    show 512 ∣ (Scalar.muli (Scf.iv 0#32 1#32 k4.val) 512#32).toNat
    have h1 := t4_lt hr hh i k4
    rw [iv_word, mul_word k4.val 512, toNat_word (by omega)]
    exact Dvd.intro_left _ rfl

include hr hh in
theorem chk1_1 : k0_chk1_1 i (w 0) (w 1) (w 2) (w 3) (w 4) (w (usr i)) (BitVec.ofNat 32 h) := by
  unfold k0_chk1_1
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro k k4 _ a
    have h1 := row_le (first n (usr i).val) k.val
    rw [off19_eq hr i k]
    fin_cases a <;> simp <;> omega
  · intro k k4 _ a
    have h1 := t4_lt hr hh i k4
    have h2 := (head i).isLt
    rw [off20_eq hr hh i k4]
    fin_cases a <;> simp <;> omega
  · intro k k4 _ a
    have h1 := t4_lt hr hh i k4
    have h2 := (head i).isLt
    rw [off21_eq hr hh i k4]
    fin_cases a <;> simp <;> omega
  · intro k k4 _ a
    have h1 := t4_lt hr hh i k4
    have h2 := (head i).isLt
    rw [off22_eq hr hh i k4]
    fin_cases a <;> simp <;> omega
  · intro k k4 _ a
    have h1 := t4_lt hr hh i k4
    have h2 := (head i).isLt
    rw [off23_eq hr hh i k4]
    fin_cases a <;> simp <;> omega
  · exact fun _ => fun _ => Scf.rem_ok _ _
  · exact fun _ k => (Scf.rem_no_trip _ _ k).elim
  · exact fun _ k => (Scf.rem_no_trip _ _ k).elim
  · exact fun _ k => (Scf.rem_no_trip _ _ k).elim
  · exact fun _ k => (Scf.rem_no_trip _ _ k).elim
  · exact fun _ k => (Scf.rem_no_trip _ _ k).elim
  · exact fun _ k => (Scf.rem_no_trip _ _ k).elim
  · intro k _ a
    have h1 := row_le (first n (usr i).val) k.val
    rw [off29_eq hr i k]
    fin_cases a <;> simp <;> omega
  · exact fun _ => Scf.rem_ok _ _
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim
  · exact fun k => (Scf.rem_no_trip _ _ k).elim

include hr hh in
/-- Every side condition of the body. -/
theorem chk1 : k0_chk1 i (w 0) (w 1) (w 2) (w 3) (w 4) (w (usr i)) (BitVec.ofNat 32 h) := ⟨chk1_0 hr hh i, chk1_1 hr hh i⟩

end Cert.KernelIdeal.Hand

end
-- ==== Proof.Ideal.Run.lean ====
/-
  The kernel body run once, at a grid point with work to do and at one without.

  The words the body reads from the two count arrays are variables, each with the equation that says which word it is.
-/
module

public import proofs.«01_k».proof.Proof.Ideal.Loops
public import proofs.«01_k».proof.Proof.Ideal.Checks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word a scalar load reads at an offset of a five-word array. -/
abbrev word (M : Memref sig .tc .smem S5 .i32) (X : BufTy.Contents (Elt F) M.view.ty) (o : Fin S5.rank → ℕ) (h : ∀ a, o a + S1.size a ≤ S5.size a) : BitVec 32 :=
  View.readAt (Elt F) M.view (Rect.unit (s := S5) o S1.size h).toLoadRect X (Shape.Idx.first (numel1_S1.symm ▸ Nat.one_pos))

/-- The first row of the point's user, as the body sums it. -/
abbrev start19 (i : grid0.Coords) (v1 v5 v9 v13 v17 : BitVec 32) : BitVec 32 :=
  let a : BitVec 32 := BitVec.ofNat 32 (i 1).val
  Scalar.addi (Scalar.addi (Scalar.addi (Scalar.addi (Scalar.addi 0#32 (Scalar.select (Scalar.cmpi .sgt a 0#32) v1 0#32))
    (Scalar.select (Scalar.cmpi .sgt a 1#32) v5 0#32)) (Scalar.select (Scalar.cmpi .sgt a 2#32) v9 0#32))
    (Scalar.select (Scalar.cmpi .sgt a 3#32) v13 0#32)) (Scalar.select (Scalar.cmpi .sgt a 4#32) v17 0#32)

set_option maxHeartbeats 4000000 in
/-- A point with work: the pieces it writes into the output block, and the run. -/
def work (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty)
    (v1 v5 v9 v13 v17 v19 v21 v22 v24 : BitVec 32) (e0 : word (F := F) arg2 X2 ![0] inb_S5_S1_0 = v1) (e1 : word (F := F) arg2 X2 ![1] inb_S5_S1_1 = v5) (e2 : word (F := F) arg2 X2 ![2] inb_S5_S1_2 = v9) (e3 : word (F := F) arg2 X2 ![3] inb_S5_S1_3 = v13) (e4 : word (F := F) arg2 X2 ![4] inb_S5_S1_4 = v17) (e5 : word (F := F) arg2 X2 (k0_off1 i) (k0_off1_inb i) = v21) (e6 : word (F := F) arg3 X3 (k0_off1 i) (k0_off1_inb i) = v24)
    (e19 : start19 i v1 v5 v9 v13 v17 = v19) (e22 : Scalar.addi v19 v21 = v22)
    (hw : k0_chk1 i v1 v5 v9 v13 v17 v21 v24) (h1 : k0_cond1 i v1 v5 v9 v13 v17 v21 v24 = 1#1) :
    { L : BufTy.Contents (Elt F) arg14.view.ty → BufTy.Contents (Elt F) arg15.view.ty → BufTy.Contents (Elt F) arg16.view.ty → BufTy.Contents (Elt F) arg17.view.ty → List (View.Piece (Elt F) S2560x128 .f32) //
      ∀ (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty),
    iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14 ∗ pt c arg15 X15 ∗ pt c arg16 X16 ∗ pt c arg17 X17 ∗ pt c arg18 X18)
      ⊢ wp frame (wpE (defs₀ (F := F)) Variants.none (c : Thread nD τ) none) Set.univ (cc0_hstu_attend i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 (arg14.view.writes (Elt F) X14 (L X14 X15 X16 X17))
          ∗ (∃ f, pt c arg15 f) ∗ (∃ f, pt c arg16 f) ∗ (∃ f, pt c arg17 f) ∗ (∃ f, pt c arg18 f))) } := by
  refine ⟨?_, fun X14 X15 X16 X17 X18 => ?run⟩
  case run =>
    simp only [cc0_hstu_attend_eq_skeleton]; unfold cc0_hstu_attend_skel
    iintro ⟨H2, H3, H4, H5, H6, H7, H8, H9, H10, H11, H12, H13, H14, H15, H16, H17, H18⟩
    sl_exec
    rw [show work.sl.r arg2 X2 = v1 from e0, show work.sl.r_1 arg2 X2 = v5 from e1, show work.sl.r_2 arg2 X2 = v9 from e2,
      show work.sl.r_3 arg2 X2 = v13 from e3, show work.sl.r_4 arg2 X2 = v17 from e4, show work.sl.r_5 i arg2 X2 = v21 from e5,
      show work.sl.r_6 i arg3 X3 = v24 from e6]
    rw [show work.sl.v19 i arg2 X2 = v19 by rw [← e19, ← e0, ← e1, ← e2, ← e3, ← e4]; rfl,
      show work.sl.v22 i arg2 X2 = v22 by rw [← e22, ← e19, ← e0, ← e1, ← e2, ← e3, ← e4, ← e5]; rfl]
    simp only [wp_assume_of _ _ _ _ (d := k0_chk1.dec _ _ _ _ _ _ _ _) hw]
    sl_exec
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    iexists _; iexact H18

set_option maxHeartbeats 4000000 in
/-- A point without work leaves everything as it was. -/
theorem idle (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty)
    (hw : k0_chk1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i))) (h1 : ¬ k0_cond1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i)) = 1#1) (K : PUnit → sProp 𝕄) :
    iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14 ∗ ((pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14) -∗ K ⟨⟩))
      ⊢ wp frame (wpE (defs₀ (F := F)) Variants.none (c : Thread nD τ) none) Set.univ (cc0_hstu_attend i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_hstu_attend_eq_skeleton]; unfold cc0_hstu_attend_skel
  iintro ⟨H2, H3, H4, H5, H6, H7, H8, H9, H10, H11, H12, H13, H14, Hk⟩
  sl_exec
  have hw' : k0_chk1 i (idle.sl.r arg2 X2) (idle.sl.r_1 arg2 X2) (idle.sl.r_2 arg2 X2) (idle.sl.r_3 arg2 X2) (idle.sl.r_4 arg2 X2) (idle.sl.r_5 i arg2 X2) (idle.sl.r_6 i arg3 X3) := hw
  have h1' : ¬ k0_cond1 i (idle.sl.r arg2 X2) (idle.sl.r_1 arg2 X2) (idle.sl.r_2 arg2 X2) (idle.sl.r_3 arg2 X2) (idle.sl.r_4 arg2 X2) (idle.sl.r_5 i arg2 X2) (idle.sl.r_6 i arg3 X3) = 1#1 := h1
  simp only [wp_assume_of _ _ _ _ (d := k0_chk1.dec _ _ _ _ _ _ _ _) hw']
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.KernelIdeal.Hand

end
-- ==== Proof.Ideal.Body.lean ====
/-
  The kernel at a grid point, and the launch.

  What a point leaves in the output block is kept as a relation (`Stored`) between what it found there and what it left;
  the launch is stated for any predicate that this relation establishes.
-/
module

public import proofs.«01_k».proof.Proof.Ideal.Run
public import proofs.«01_k».proof.Proof.Gen.KernelIdeal.Frame
public import Idealize.ShloMosaic.Lib.Pipeline.Frame
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

open Idealize.ShloMosaic.Pipeline (Dat BodyObligation BodyObligationRel)

/-- What the output block may hold after the point's run: at a point without work what it held, else the pieces of the
    run written over it. The operand blocks are given by what they read as. -/
def Stored (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (d2 : S5.Idx → Elt F .i32) (d3 : S5.Idx → Elt F .i32) (d4 : S2560x128.Idx → Elt F .bf16) (d5 : S2560x128.Idx → Elt F .bf16) (d6 : S2560x128.Idx → Elt F .f32) (d7 : S8x8193.Idx → Elt F .f32) (d8 : S1x1x64x8192.Idx → Elt F .i8) (d9 : S1x1x64x8192.Idx → Elt F .i8) (d10 : S1x8x8192.Idx → Elt F .f32) (d11 : S1x8x8192.Idx → Elt F .f32) (d12 : S1x8x8192.Idx → Elt F .f32) (d13 : S1x8x8192.Idx → Elt F .f32) (d14 d14' : S2560x128.Idx → Elt F .f32) : Prop :=
  ∃ (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty),
    (arg2.view.read (Elt F) X2 = d2 ∧ arg3.view.read (Elt F) X3 = d3 ∧ arg4.view.read (Elt F) X4 = d4 ∧ arg5.view.read (Elt F) X5 = d5 ∧ arg6.view.read (Elt F) X6 = d6 ∧ arg7.view.read (Elt F) X7 = d7 ∧ arg8.view.read (Elt F) X8 = d8 ∧ arg9.view.read (Elt F) X9 = d9 ∧ arg10.view.read (Elt F) X10 = d10 ∧ arg11.view.read (Elt F) X11 = d11 ∧ arg12.view.read (Elt F) X12 = d12 ∧ arg13.view.read (Elt F) X13 = d13 ∧ arg14.view.read (Elt F) X14 = d14) ∧
    ((¬ k0_cond1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i)) = 1#1 ∧ d14' = d14) ∨
      ∃ (hw : k0_chk1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i))) (h1 : k0_cond1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i)) = 1#1),
        d14' = arg14.view.read (Elt F) (arg14.view.writes (Elt F) X14 ((work c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 X12 X13 _ _ _ _ _ _ _ _ _ rfl rfl rfl rfl rfl rfl rfl rfl rfl hw h1).1 X14 X15 X16 X17)))

/-- The body's triple: the operands read, the output block left as `Stored` says, the scratch at anything. -/
theorem kernelRun (c : Dev nD) (i : grid0.Coords) (arg2 : Memref sig .tc .smem S5 .i32) (harg2 : arg2.IsWhole) (arg3 : Memref sig .tc .smem S5 .i32) (harg3 : arg3.IsWhole) (arg4 : Memref sig .tc .vmem S2560x128 .bf16) (harg4 : arg4.IsWhole) (arg5 : Memref sig .tc .vmem S2560x128 .bf16) (harg5 : arg5.IsWhole) (arg6 : Memref sig .tc .vmem S2560x128 .f32) (harg6 : arg6.IsWhole) (arg7 : Memref sig .tc .vmem S8x8193 .f32) (harg7 : arg7.IsWhole) (arg8 : Memref sig .tc .vmem S1x1x64x8192 .i8) (harg8 : arg8.IsWhole) (arg9 : Memref sig .tc .vmem S1x1x64x8192 .i8) (harg9 : arg9.IsWhole) (arg10 : Memref sig .tc .vmem S1x8x8192 .f32) (harg10 : arg10.IsWhole) (arg11 : Memref sig .tc .vmem S1x8x8192 .f32) (harg11 : arg11.IsWhole) (arg12 : Memref sig .tc .vmem S1x8x8192 .f32) (harg12 : arg12.IsWhole) (arg13 : Memref sig .tc .vmem S1x8x8192 .f32) (harg13 : arg13.IsWhole) (arg14 : Memref sig .tc .vmem S2560x128 .f32) (harg14 : arg14.IsWhole) (arg15 : Memref sig .tc .vmem S256x8192 .bf16) (harg15 : arg15.IsWhole) (arg16 : Memref sig .tc .vmem S256x8192 .bf16) (harg16 : arg16.IsWhole) (arg17 : Memref sig .tc .vmem S8x8192 .f32) (harg17 : arg17.IsWhole) (arg18 : Memref sig .tc .vmem S256x256 .f32) (harg18 : arg18.IsWhole) (d2 : S5.Idx → Elt F .i32) (d3 : S5.Idx → Elt F .i32) (d4 : S2560x128.Idx → Elt F .bf16) (d5 : S2560x128.Idx → Elt F .bf16) (d6 : S2560x128.Idx → Elt F .f32) (d7 : S8x8193.Idx → Elt F .f32) (d8 : S1x1x64x8192.Idx → Elt F .i8) (d9 : S1x1x64x8192.Idx → Elt F .i8) (d10 : S1x8x8192.Idx → Elt F .f32) (d11 : S1x8x8192.Idx → Elt F .f32) (d12 : S1x8x8192.Idx → Elt F .f32) (d13 : S1x8x8192.Idx → Elt F .f32) (d14 : S2560x128.Idx → Elt F .f32)
    (hchk : ∀ X2 X3, arg2.view.read (Elt F) X2 = d2 → arg3.view.read (Elt F) X3 = d3 → k0_chk1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i))) (K : PUnit → sProp 𝕄) :
    iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ ((owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ (∃ d14', ⌜Stored c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 d2 d3 d4 d5 d6 d7 d8 d9 d10 d11 d12 d13 d14 d14'⌝ ∗ owns (c : Thread nD τ) arg14 fullShare d14')
            ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
      ⊢ wp frame (wpE (defs₀ (F := F)) Variants.none (c : Thread nD τ) none) Set.univ (cc0_hstu_attend i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%e15, %X15, -, H15⟩, ⟨%e16, %X16, -, H16⟩, ⟨%e17, %X17, -, H17⟩, ⟨%e18, %X18, -, H18⟩, Hk⟩
  have hw : k0_chk1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i)) := hchk X2 X3 h2 h3
  by_cases h1 : k0_cond1 i (word arg2 X2 ![0] inb_S5_S1_0) (word arg2 X2 ![1] inb_S5_S1_1) (word arg2 X2 ![2] inb_S5_S1_2) (word arg2 X2 ![3] inb_S5_S1_3) (word arg2 X2 ![4] inb_S5_S1_4) (word arg2 X2 (k0_off1 i) (k0_off1_inb i)) (word arg3 X3 (k0_off1 i) (k0_off1_inb i)) = 1#1
  · iapply (wp_wand_r Idealize.ShloMosaic.frame (wpE (defs₀ (F := F)) Variants.none (c : Thread nD τ) none) Set.univ)
    isplitl [H2 H3 H4 H5 H6 H7 H8 H9 H10 H11 H12 H13 H14 H15 H16 H17 H18]
    · iapply ((work c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 X12 X13 _ _ _ _ _ _ _ _ _ rfl rfl rfl rfl rfl rfl rfl rfl rfl hw h1).2 X14 X15 X16 X17 X18)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · iintro %y ⟨H2, H3, H4, H5, H6, H7, H8, H9, H10, H11, H12, H13, H14, ⟨%f15, H15⟩, ⟨%f16, H16⟩, ⟨%f17, H17⟩, ⟨%f18, H18⟩⟩
      iapply Hk
      isplitl [H2]
      · iexists X2; isplitr
        · ipureintro; exact h2
        · iexact H2
      isplitl [H3]
      · iexists X3; isplitr
        · ipureintro; exact h3
        · iexact H3
      isplitl [H4]
      · iexists X4; isplitr
        · ipureintro; exact h4
        · iexact H4
      isplitl [H5]
      · iexists X5; isplitr
        · ipureintro; exact h5
        · iexact H5
      isplitl [H6]
      · iexists X6; isplitr
        · ipureintro; exact h6
        · iexact H6
      isplitl [H7]
      · iexists X7; isplitr
        · ipureintro; exact h7
        · iexact H7
      isplitl [H8]
      · iexists X8; isplitr
        · ipureintro; exact h8
        · iexact H8
      isplitl [H9]
      · iexists X9; isplitr
        · ipureintro; exact h9
        · iexact H9
      isplitl [H10]
      · iexists X10; isplitr
        · ipureintro; exact h10
        · iexact H10
      isplitl [H11]
      · iexists X11; isplitr
        · ipureintro; exact h11
        · iexact H11
      isplitl [H12]
      · iexists X12; isplitr
        · ipureintro; exact h12
        · iexact H12
      isplitl [H13]
      · iexists X13; isplitr
        · ipureintro; exact h13
        · iexact H13
      isplitl [H14]
      · iexists _; isplitr; swap
        · iexists _; isplitr; swap; · iexact H14
          ipureintro; rfl
        · ipureintro
          exact ⟨X2, X3, X4, X5, X6, X7, X8, X9, X10, X11, X12, X13, X14, X15, X16, X17, ⟨h2, h3, h4, h5, h6, h7, h8, h9, h10, h11, h12, h13, h14⟩, Or.inr ⟨hw, h1, rfl⟩⟩
      isplitl [H15]
      · iexists _, _; isplitr; swap
        · iexact H15
        · ipureintro; rfl
      isplitl [H16]
      · iexists _, _; isplitr; swap
        · iexact H16
        · ipureintro; rfl
      isplitl [H17]
      · iexists _, _; isplitr; swap
        · iexact H17
        · ipureintro; rfl
      iexists _, _; isplitr; swap; · iexact H18
      ipureintro; rfl
  · iapply (idle c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 X12 X13 X14 hw h1 K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H2, H3, H4, H5, H6, H7, H8, H9, H10, H11, H12, H13, H14⟩
    iapply Hk
    isplitl [H2]
    · iexists X2; isplitr
      · ipureintro; exact h2
      · iexact H2
    isplitl [H3]
    · iexists X3; isplitr
      · ipureintro; exact h3
      · iexact H3
    isplitl [H4]
    · iexists X4; isplitr
      · ipureintro; exact h4
      · iexact H4
    isplitl [H5]
    · iexists X5; isplitr
      · ipureintro; exact h5
      · iexact H5
    isplitl [H6]
    · iexists X6; isplitr
      · ipureintro; exact h6
      · iexact H6
    isplitl [H7]
    · iexists X7; isplitr
      · ipureintro; exact h7
      · iexact H7
    isplitl [H8]
    · iexists X8; isplitr
      · ipureintro; exact h8
      · iexact H8
    isplitl [H9]
    · iexists X9; isplitr
      · ipureintro; exact h9
      · iexact H9
    isplitl [H10]
    · iexists X10; isplitr
      · ipureintro; exact h10
      · iexact H10
    isplitl [H11]
    · iexists X11; isplitr
      · ipureintro; exact h11
      · iexact H11
    isplitl [H12]
    · iexists X12; isplitr
      · ipureintro; exact h12
      · iexact H12
    isplitl [H13]
    · iexists X13; isplitr
      · ipureintro; exact h13
      · iexact H13
    isplitl [H14]
    · iexists d14; isplitr
      · ipureintro
        exact ⟨X2, X3, X4, X5, X6, X7, X8, X9, X10, X11, X12, X13, X14, X15, X16, X17, ⟨h2, h3, h4, h5, h6, h7, h8, h9, h10, h11, h12, h13, h14⟩, Or.inl ⟨h1, rfl⟩⟩
      · iexists X14; isplitr; · ipureintro; exact h14
        iexact H14
    isplitl [H15]
    · iexists _, _; isplitr; swap
      · iexact H15
      · ipureintro; rfl
    isplitl [H16]
    · iexists _, _; isplitr; swap
      · iexact H16
      · ipureintro; rfl
    isplitl [H17]
    · iexists _, _; isplitr; swap
      · iexact H17
      · ipureintro; rfl
    iexists _, _; isplitr; swap; · iexact H18
    ipureintro; rfl

variable (m : (ℓ : Loc nD τ sig) → Buf (Elt F) ℓ) (ρ : Dev nD → PrngReg)

/-! ## The proof data -/

abbrev ms0 (t : Fin cfg0.N) : Memref sig .tc .smem S5 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S5 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2560x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2560x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2560x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x8193 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x64x8192 .i8 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x64x8192 .i8 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8x8192 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x8x8192 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x8x8192 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x8x8192 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S2560x128 .f32 := win0_12.stage (cfg0.slots t 12)
abbrev hs12 (t : Fin cfg0.N) : (ms12 t).IsWhole := hstage0_12 ((cfg0.slots t 12).cast nbuf0_12)

abbrev sc0 : Memref sig .tc .vmem S256x8192 .bf16 := Memref.whole cc0_scratch0
abbrev sc1 : Memref sig .tc .vmem S256x8192 .bf16 := Memref.whole cc0_scratch1
abbrev sc2 : Memref sig .tc .vmem S8x8192 .f32 := Memref.whole cc0_scratch2
abbrev sc3 : Memref sig .tc .vmem S256x256 .f32 := Memref.whole cc0_scratch3

/-- The output is not named by the exact proof data. -/
def forgets0 : Fin 13 → Bool := fun w => w == 12

/-- The proof data on core `c`: the arrays as launched, each operand block left as it is. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Pipeline.Dat.unnamed (cfg := cfg0) 12 t
    | ⟨n + 13, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d

/-- The scratch, whole at some contents, and the generator register at some state. -/
theorem PhiA_eq (c : Dev nD) :
    (Pipeline.ΦA spec0 c : sProp 𝕄)
      = iprop(((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- What point `t` may leave in the output block, having found `Y` there. -/
abbrev StoredAt (c : Dev nD) (t : Fin cfg0.N) (Y X : S2560x128.Idx → Elt F .f32) : Prop :=
  Stored c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y X

/-- The words of the two count arrays are in range: the side condition the body checks at each point. -/
def Checked (c : Dev nD) : Prop := ∀ (t : Fin cfg0.N) X2 X3, (ms0 t).view.read (Elt F) X2 = iblk m c 0 t → (ms1 t).view.read (Elt F) X3 = iblk m c 1 t →
  k0_chk1 (grid0.coords t) (word (ms0 t) X2 ![0] inb_S5_S1_0) (word (ms0 t) X2 ![1] inb_S5_S1_1) (word (ms0 t) X2 ![2] inb_S5_S1_2) (word (ms0 t) X2 ![3] inb_S5_S1_3) (word (ms0 t) X2 ![4] inb_S5_S1_4) (word (ms0 t) X2 (k0_off1 (grid0.coords t)) (k0_off1_inb (grid0.coords t))) (word (ms1 t) X3 (k0_off1 (grid0.coords t)) (k0_off1_inb (grid0.coords t)))

variable {m}

abbrev RelTy := (w : Fin cfg0.W) → Fin cfg0.N → ((cfg0.win w).block.Idx → Elt F (cfg0.win w).elt) → Prop

def bodyPre (c : Dev nD) (Rl : RelTy (F := F)) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)) ∗ (∃ d, owns (c : Thread nD τ) (ms11 t) fullShare ((dats m 0 c).before 11 t d))
    ∗ (∃ Y, ⌜((dats m 0 c).toRRel forgets0 Rl).Finds 12 t Y⌝ ∗ owns (c : Thread nD τ) (ms12 t) fullShare Y))
def bodyPost (c : Dev nD) (Rl : RelTy (F := F)) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t) ∗ owns (c : Thread nD τ) (ms10 t) fullShare ((dats m 0 c).after 10 t) ∗ owns (c : Thread nD τ) (ms11 t) fullShare ((dats m 0 c).after 11 t)
    ∗ (∃ X, ⌜Rl 12 t X⌝ ∗ owns (c : Thread nD τ) (ms12 t) fullShare X))

/-- The body at a point, for a predicate its relation establishes. -/
theorem sound_body (c : Dev nD) (hck : Checked m c) (Rl : RelTy (F := F))
    (hRl : ∀ t Y X, ((dats m 0 c).toRRel forgets0 Rl).Finds 12 t Y → StoredAt m c t Y X → Rl 12 t X) (t : Fin cfg0.N) :
    bodyPre (m := m) c Rl t ⊢ wp frame (wpE (defs₀ (F := F)) Variants.none c none) Set.univ (bodyAt0 t) (fun _ => bodyPost (m := m) c Rl t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11]
  iintro ⟨⟨⟨HS0, HS1, HS2, HS3⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, %hY, H12⟩⟩
  iapply (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) Y (hck t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%X, %hX, H12⟩, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    · iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists X; isplitr
  · ipureintro; exact hRl t Y X hY hX
  · iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the output held to the predicate. -/
theorem body_obligation (c : Dev nD) (hck : Checked m c) (Rl : RelTy (F := F))
    (hRl : ∀ t Y X, ((dats m 0 c).toRRel forgets0 Rl).Finds 12 t Y → StoredAt m c t Y X → Rl 12 t X) :
    BodyObligationRel (dats (F := F) m 0 c) (defs₀ (F := F)) Variants.none () Set.univ forgets0 Rl := fun t => by
  rw [bigSep_W0, bigSep_W0, defs₀_row]
  exact triple_restated (sound_body c hck Rl hRl t) rfl .rfl fun _ => .rfl

variable (m)

set_option backward.isDefEq.respectTransparency.types false in
/-- The launch: from any memory with the counts in range and zero counters, every weakly fair execution terminates with
    the counters at zero, the operands as they were, and the output's array written back block by block from contents that
    the predicate holds of. -/
theorem run_main (hck : ∀ c, Checked m c) (Rl : (c : Dev nD) → RelTy (F := F))
    (hRl : ∀ c t Y X, ((dats m 0 c).toRRel forgets0 (Rl c)).Finds 12 t Y → StoredAt m c t Y X → Rl c 12 t X) :
    θ_run defs (onTc (τ := τ) (main (F := F))) (s₀ m ρ)
      (fun r => Pipeline.RDat.FramePost (cfgs 0) (fun c => (dats m 0 c).toRRel forgets0 (Rl c)) (V m) r ∧ r.2.sem = fun _ => 0) :=
  Pipeline.RDat.θ_run_frame (Q' := _) cfgs (0 : Fin 1) launch0 defs₀ Variants.none (fun c => (dats m 0 c).toRRel forgets0 (Rl c)) m ρ main
    (hbody := fun c => (body_obligation c (hck c) (Rl c) (hRl c)).toRRel) (hshare := fun c => (dats m 0 c).share_full fun _ => rfl)
    (howed := fun _ _ => rfl) (V := V m) (hmain := hmain m Variants.none) (hA := A_eq m) (hΦ := fun _ _ => rfl) (hQ' := fun _ h => h)

end Cert.KernelIdeal.Hand

end
-- ==== Proof.Ideal.Frame.lean ====
/-
  The frame: when the counts split the rows and every history length lies in range, the index checks of the body hold at
  every grid point, so the kernel terminates, leaves its operands alone and returns every semaphore to zero.
-/
module

public import proofs.«01_k».proof.Proof.Ideal.Body
public import proofs.«01_k».proof.Proof.Ideal.Checks
public import Idealize.ShloMosaic.Lib.ValueIdxCore

@[expose] public section

set_option maxRecDepth 16384

namespace Cert.KernelIdeal.Hand

open Cert.KernelIdeal Cert.KernelIdeal.Gen Cert.Words
open Idealize.ShloMosaic Idealize.ShloMosaic.Pipeline Idealize.ShloMosaic.TcCoe Idealize.ShloMosaic.ValueIdx Idealize.SL.Sem

variable {F : FTy → Type} [FloatOps F]
variable (m : (ℓ : Loc nD τ sig) → Buf (Elt F) ℓ)

/-- The candidate count of a user, as a word. -/
def cntW (c : Dev nD) (u : Fin 5) : BitVec 32 := m ((c : Thread nD τ).loc main_arg0) (ix1 u : S5.Idx)
/-- The history length of a user, as a word. -/
def histW (c : Dev nD) (u : Fin 5) : BitVec 32 := m ((c : Thread nD τ).loc main_arg1) (ix1 u : S5.Idx)

/-- The counts are the words of numbers `n` that sum to 2560, the history lengths those of numbers `h` from 1 to 8192. -/
structure Inputs (c : Dev nD) (n h : Fin 5 → ℕ) : Prop where
  ragged : Ragged (cntW m c) n
  hist : ∀ u, histW m c u = BitVec.ofNat 32 (h u)
  pos : ∀ u, 1 ≤ h u
  le : ∀ u, h u ≤ 8192

theorem read_word0 (c : Dev nD) (t : Fin cfg0.N) (X2) (hX : (ms0 t).view.read (Elt F) X2 = iblk m c 0 t) (o : Fin S5.rank → ℕ)
    (ho : ∀ a, o a + S1.size a ≤ S5.size a) (u : Fin 5) (hu : o 0 = u.val) : word (ms0 t) X2 o ho = cntW m c u := by
  unfold word
  rw [View.readAt_apply, hX]
  unfold iblk
  rw [View.read_apply, cast_eq]
  unfold cntW
  refine congrArg (m ((c : Thread nD τ).loc main_arg0)) (funext fun (a : Fin 1) => ?_)
  obtain rfl : a = 0 := Subsingleton.elim _ _
  apply Fin.ext
  show 0 * 5 + 1 * (o 0 + 1 * 0) = u.val
  omega

theorem read_word1 (c : Dev nD) (t : Fin cfg0.N) (X3) (hX : (ms1 t).view.read (Elt F) X3 = iblk m c 1 t) (o : Fin S5.rank → ℕ)
    (ho : ∀ a, o a + S1.size a ≤ S5.size a) (u : Fin 5) (hu : o 0 = u.val) : word (ms1 t) X3 o ho = histW m c u := by
  unfold word
  rw [View.readAt_apply, hX]
  unfold iblk
  rw [View.read_apply, cast_eq]
  unfold histW
  refine congrArg (m ((c : Thread nD τ).loc main_arg1)) (funext fun (a : Fin 1) => ?_)
  obtain rfl : a = 0 := Subsingleton.elim _ _
  apply Fin.ext
  show 0 * 5 + 1 * (o 0 + 1 * 0) = u.val
  omega

theorem off1_usr (i : grid0.Coords) : k0_off1 i 0 = (usr i).val := by
  have := (usr i).isLt
  show (BitVec.ofNat 32 (i 1).val).toNat = (i 1).val
  rw [BitVec.toNat_ofNat]
  have h : (i 1).val < 5 := (i 1).isLt
  omega

/-- The body's index checks hold at every grid point. -/
theorem checked (c : Dev nD) {n h : Fin 5 → ℕ} (H : Inputs m c n h) : Checked m c := fun t X2 X3 h2 h3 => by
  rw [read_word0 m c t X2 h2 ![0] _ 0 rfl, read_word0 m c t X2 h2 ![1] _ 1 rfl, read_word0 m c t X2 h2 ![2] _ 2 rfl,
    read_word0 m c t X2 h2 ![3] _ 3 rfl, read_word0 m c t X2 h2 ![4] _ 4 rfl,
    read_word0 m c t X2 h2 _ _ (usr (grid0.coords t)) (off1_usr _), read_word1 m c t X3 h3 _ _ (usr (grid0.coords t)) (off1_usr _), H.hist]
  exact chk1 H.ragged (H.le _) _

/-- The kernel terminates, its operands end unchanged, and every semaphore ends at zero. -/
theorem frame_main (ρ : Dev nD → PrngReg) (hin : ∀ c, ∃ n h, Inputs m c n h) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine (θ_run defs _ _).mono (fun r h => ⟨fun c => ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c)),
      (h.1.arr_in c 6 rfl).trans ((A_eq m c 6).trans (V_main_arg6 m c)),
      (h.1.arr_in c 7 rfl).trans ((A_eq m c 7).trans (V_main_arg7 m c)),
      (h.1.arr_in c 8 rfl).trans ((A_eq m c 8).trans (V_main_arg8 m c)),
      (h.1.arr_in c 9 rfl).trans ((A_eq m c 9).trans (V_main_arg9 m c)),
      (h.1.arr_in c 10 rfl).trans ((A_eq m c 10).trans (V_main_arg10 m c)),
      (h.1.arr_in c 11 rfl).trans ((A_eq m c 11).trans (V_main_arg11 m c))⟩, h.2⟩)
    (run_main (ρ := ρ) m (fun c => (hin c).elim fun _ h => h.elim fun _ H => checked m c H) (fun _ _ _ _ => True) (fun _ _ _ _ _ _ => trivial))

end Cert.KernelIdeal.Hand

end
-- ==== Proof.Ideal.Payload.lean ====
/-
  The vector values the body computes, read at an index.
-/
module

public import proofs.«01_k».proof.Proof.Gen.KernelIdeal.Loops
public import proofs.«01_k».proof.Proof.Gen.KernelIdeal.Skeleton
public import proofs.«01_k».proof.Proof.Words
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

open Cert.Words
variable {i : grid0.Coords} {v1 v5 v9 v13 v17 v19 v21 v22 v24 v28 v63 : BitVec 32}

/-- The code of row `x` in the byte that holds rows `x / 2 * 2` and the one after it. -/
def code (b : BitVec 8) (x : ℕ) : EReal :=
  FloatOps.sitofp (F := Ideal) .bf16 (if x % 2 < 1 then IntOp.andi (BitVec.setWidth 32 b) 15#32
    else IntOp.shrsi .vector (BitVec.setWidth 32 b) 4#32)

theorem pay23_apply (v : Vec Ideal S1x1x64x512 .i8) (x : Fin 128) (j : Fin 512) :
    k0_pay23 (F := Ideal) v (ix2 x j) = code (v (ix4 0 0 ⟨x.val / 2, by omega⟩ j)) x.val := by
  pointwise [k0_pay23]
  unfold code
  split <;> rfl

theorem pay59_apply (v : Vec Ideal S1x1x64x512 .i8) (x : Fin 128) (j : Fin 512) :
    k0_pay59 (F := Ideal) v (ix2 x j) = code (v (ix4 0 0 ⟨x.val / 2, by omega⟩ j)) x.val := by
  pointwise [k0_pay59]
  unfold code
  split <;> rfl

theorem pay57_apply (x : Fin 128) (j : Fin 512) : k0_pay57 (F := Ideal) (ix2 x j) = 0 := by
  pointwise [k0_pay57, k0_pay56]

theorem pay60_apply (x : Fin 128) (j : Fin 512) : k0_pay60 (F := Ideal) (ix2 x j) = 0 := by
  pointwise [k0_pay60, k0_pay56]

theorem pay47_apply (x : Fin 256) (j : Fin 256) : k0_pay47 (F := Ideal) (ix2 x j) = 0 := by
  pointwise [k0_pay47]

/-- The mask of a history tile: the column is within the history. -/
theorem mask_iff {k j h : ℕ} {v24 : BitVec 32} (hv : v24 = BitVec.ofNat 32 h) (hk : k < 16) (hj : j < 512) (hh : h ≤ 8192) :
    IntOp.cmpi .slt (IntOp.addi (Scalar.muli (Scf.iv 0#32 1#32 k) 512#32) (BitVec.ofNat 32 j)) v24 = 1
      ↔ 512 * k + j < h := by
  have e : IntOp.addi (Scalar.muli (Scf.iv 0#32 1#32 k) 512#32) (BitVec.ofNat 32 j) = BitVec.ofNat 32 (512 * k + j) := by
    rw [iv_word, mul_word k 512]; exact (add_word _ _).trans (by rw [Nat.mul_comm])
  rw [hv, e]; refine IntOp.cmpi_slt.trans ?_
  have a : (BitVec.ofNat 32 (512 * k + j)).toInt = ((512 * k + j : ℕ) : ℤ) := by
    have a := isInt (n := 512 * k + j) (by omega); unfold Affine.IsInt at a; exact a
  have b : (BitVec.ofNat 32 h).toInt = (h : ℤ) := by
    have b := isInt (n := h) (by omega); unfold Affine.IsInt at b; exact b
  rw [a, b]; exact Int.ofNat_lt

set_option maxHeartbeats 1000000 in
theorem pay2_apply {k : Fin (k0_t1_loop i v1 v5 v9 v13 v17 v21 v24).trips} {h : ℕ} (hv : v24 = BitVec.ofNat 32 h) (hk : k.val < 16) (hh : h ≤ 8192)
    (v : Vec Ideal S1x1x512 .f32) (j : Fin 512) :
    k0_pay2 (F := Ideal) i v1 v5 v9 v13 v17 v21 v24 0#32 1#32 k v (ix2 0 j)
      = if 512 * k.val + j.val < h then Ideal.ofBits .f32 1035273459#32 * v (ix3 0 0 j) else 0 := by
  pointwise [k0_pay2, k0_pay1]
  unfold Scalar.select; simp only [mask_iff hv hk j.isLt hh]; try rfl

set_option maxHeartbeats 1000000 in
theorem pay3_apply {k : Fin (k0_t1_loop i v1 v5 v9 v13 v17 v21 v24).trips} {h : ℕ} (hv : v24 = BitVec.ofNat 32 h) (hk : k.val < 16) (hh : h ≤ 8192)
    (v : Vec Ideal S1x1x512 .f32) (j : Fin 512) :
    k0_pay3 (F := Ideal) i v1 v5 v9 v13 v17 v21 v24 0#32 1#32 k v (ix2 0 j)
      = if 512 * k.val + j.val < h then v (ix3 0 0 j) else 0 := by
  pointwise [k0_pay3, k0_pay1]
  unfold Scalar.select; simp only [mask_iff hv hk j.isLt hh]; try rfl

/-- The rows that hold the high part of a head's three parts. -/
def part (y : ℕ) : Prop := y = 0 ∨ y = 3 ∨ y = 6

instance : DecidablePred part := fun _ => inferInstanceAs (Decidable (_ ∨ _))

theorem row_iff : ∀ (y : Fin 16) (m : Fin 16),
    IntOp.cmpi .eq (BitVec.ofNat 32 y.val) (BitVec.ofNat 32 m.val) = 1 ↔ y = m := by decide

theorem chain58 (z : EReal) (hz : z ≠ ⊤ ∧ z ≠ ⊥) (y : Fin 16) :
    (if IntOp.cmpi .eq (BitVec.ofNat 32 y.val) 8#32 = 1 then (0 - z) - (0 - z) - ((0 - z) - (0 - z))
      else if IntOp.cmpi .eq (BitVec.ofNat 32 y.val) 7#32 = 1 then (0 - z) - (0 - z)
      else if IntOp.cmpi .eq (BitVec.ofNat 32 y.val) 6#32 = 1 then 0 - z
      else if IntOp.cmpi .eq (BitVec.ofNat 32 y.val) 5#32 = 1 then (0 - z) - (0 - z) - ((0 - z) - (0 - z))
      else if IntOp.cmpi .eq (BitVec.ofNat 32 y.val) 4#32 = 1 then (0 - z) - (0 - z)
      else if IntOp.cmpi .eq (BitVec.ofNat 32 y.val) 3#32 = 1 then 0 - z
      else if IntOp.cmpi .eq (BitVec.ofNat 32 y.val) 2#32 = 1 then (0 - z) - (0 - z) - ((0 - z) - (0 - z))
      else if IntOp.cmpi .eq (BitVec.ofNat 32 y.val) 1#32 = 1 then (0 - z) - (0 - z)
      else if IntOp.cmpi .eq (BitVec.ofNat 32 y.val) 0#32 = 1 then 0 - z else 0)
      = if part y.val then -z else 0 := by
  have e0 : (0 : EReal) - z = -z := zero_sub z
  have e1 : -z - -z = 0 := EReal.sub_self (by simpa using hz.2) (by simpa using hz.1)
  rw [e0, e1, EReal.sub_self EReal.zero_ne_top EReal.zero_ne_bot]
  have q := row_iff y
  have q8 := q 8; have q7 := q 7; have q6 := q 6; have q5 := q 5; have q4 := q 4
  have q3 := q 3; have q2 := q 2; have q1 := q 1; have q0 := q 0
  simp only [show BitVec.ofNat 32 (8 : Fin 16).val = 8#32 from rfl, show BitVec.ofNat 32 (7 : Fin 16).val = 7#32 from rfl,
    show BitVec.ofNat 32 (6 : Fin 16).val = 6#32 from rfl, show BitVec.ofNat 32 (5 : Fin 16).val = 5#32 from rfl,
    show BitVec.ofNat 32 (4 : Fin 16).val = 4#32 from rfl, show BitVec.ofNat 32 (3 : Fin 16).val = 3#32 from rfl,
    show BitVec.ofNat 32 (2 : Fin 16).val = 2#32 from rfl, show BitVec.ofNat 32 (1 : Fin 16).val = 1#32 from rfl,
    show BitVec.ofNat 32 (0 : Fin 16).val = 0#32 from rfl] at q8 q7 q6 q5 q4 q3 q2 q1 q0
  simp only [q8, q7, q6, q5, q4, q3, q2, q1, q0]
  clear q q8 q7 q6 q5 q4 q3 q2 q1 q0
  fin_cases y <;> simp [part]

theorem chain61 (z : EReal) (hz : z ≠ ⊤ ∧ z ≠ ⊥) (y : Fin 16) :
    (if IntOp.cmpi .eq (BitVec.ofNat 32 y.val) 2#32 = 1 then (z - z) - (z - z)
      else if IntOp.cmpi .eq (BitVec.ofNat 32 y.val) 1#32 = 1 then z - z
      else if IntOp.cmpi .eq (BitVec.ofNat 32 y.val) 0#32 = 1 then z else 0)
      = if y.val = 0 then z else 0 := by
  have e1 : z - z = 0 := EReal.sub_self hz.1 hz.2
  rw [e1, EReal.sub_self EReal.zero_ne_top EReal.zero_ne_bot]
  have q := row_iff y
  have q2 := q 2; have q1 := q 1; have q0 := q 0
  simp only [show BitVec.ofNat 32 (2 : Fin 16).val = 2#32 from rfl, show BitVec.ofNat 32 (1 : Fin 16).val = 1#32 from rfl,
    show BitVec.ofNat 32 (0 : Fin 16).val = 0#32 from rfl] at q2 q1 q0
  simp only [q2, q1, q0]
  clear q q2 q1 q0
  fin_cases y <;> simp

set_option maxHeartbeats 1000000 in
theorem pay58_apply (arg11 : Memref sig .tc .vmem S1x8x8192 .f32) (hw : k0_chk1 i v1 v5 v9 v13 v17 v21 v24)
    (h1 : k0_cond1 i v1 v5 v9 v13 v17 v21 v24 = 1#1) (X : BufTy.Contents (Elt Ideal) arg11.view.ty)
    (k : Fin (k0_t1_loop i v1 v5 v9 v13 v17 v21 v24).trips) {h : ℕ} (hv : v24 = BitVec.ofNat 32 h) (hk : k.val < 16) (hh : h ≤ 8192)
    (inb) (v : Vec Ideal S1x1x512 .f32)
    (he : View.readAt (Elt Ideal) arg11.view (Rect.unit (s := S1x8x8192) (k0_off3 i v1 v5 v9 v13 v17 v21 v24 k) S1x1x512.size inb).toLoadRect X = v)
    (y : Fin 16) (j : Fin 512) (hf : v (ix3 0 0 j) ≠ ⊤ ∧ v (ix3 0 0 j) ≠ ⊥) :
    k0_pay58 (F := Ideal) (trip_k0_t1.sl.r_10 i arg11 v1 v5 v9 v13 v17 v21 v24 hw h1 X k) (ix2 y j)
      = if part y.val then -(if 512 * k.val + j.val < h then v (ix3 0 0 j) else 0) else 0 := by
  unfold trip_k0_t1.sl.r_10 trip_k0_t1.sl.r_9
  unfold trip_k0_t1.sl.r_5 trip_k0_t1.sl.r_4 trip_k0_t1.sl.r_3 trip_k0_t1.sl.r_2 trip_k0_t1.sl.r_1
  rw [he]
  pointwise [k0_pay58, k0_pay61, trip_k0_t1.sl.r, trip_k0_t1.sl.v103, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay1]
  unfold Scalar.select; simp only [mask_iff hv hk j.isLt hh]
  set z := (if 512 * k.val + j.val < h then v (ix3 0 0 j) else 0 : EReal) with hzd
  have hz : z ≠ ⊤ ∧ z ≠ ⊥ := by
    rw [hzd]; split
    · exact hf
    · exact ⟨EReal.zero_ne_top, EReal.zero_ne_bot⟩
  exact chain58 z hz y

set_option maxHeartbeats 1000000 in
theorem pay61_apply (arg13 : Memref sig .tc .vmem S1x8x8192 .f32) (hw : k0_chk1 i v1 v5 v9 v13 v17 v21 v24)
    (h1 : k0_cond1 i v1 v5 v9 v13 v17 v21 v24 = 1#1) (X : BufTy.Contents (Elt Ideal) arg13.view.ty)
    (k : Fin (k0_t1_loop i v1 v5 v9 v13 v17 v21 v24).trips) {h : ℕ} (hv : v24 = BitVec.ofNat 32 h) (hk : k.val < 16) (hh : h ≤ 8192)
    (inb) (v : Vec Ideal S1x1x512 .f32)
    (he : View.readAt (Elt Ideal) arg13.view (Rect.unit (s := S1x8x8192) (k0_off3 i v1 v5 v9 v13 v17 v21 v24 k) S1x1x512.size inb).toLoadRect X = v)
    (y : Fin 16) (j : Fin 512) (hf : v (ix3 0 0 j) ≠ ⊤ ∧ v (ix3 0 0 j) ≠ ⊥) :
    k0_pay61 (F := Ideal) (trip_k0_t1.sl.r_11 i arg13 v1 v5 v9 v13 v17 v21 v24 hw h1 X k) (ix2 y j)
      = if y.val = 0 then (if 512 * k.val + j.val < h then v (ix3 0 0 j) else 0) else 0 := by
  unfold trip_k0_t1.sl.r_11
  unfold trip_k0_t1.sl.r_6 trip_k0_t1.sl.r_7 trip_k0_t1.sl.r_8
  rw [he]
  pointwise [k0_pay58, k0_pay61, trip_k0_t1.sl.r, trip_k0_t1.sl.v103, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5, k0_pay4, k0_pay1]
  unfold Scalar.select; simp only [mask_iff hv hk j.isLt hh]
  set z := (if 512 * k.val + j.val < h then v (ix3 0 0 j) else 0 : EReal) with hzd
  have hz : z ≠ ⊤ ∧ z ≠ ⊥ := by
    rw [hzd]; split
    · exact hf
    · exact ⟨EReal.zero_ne_top, EReal.zero_ne_bot⟩
  exact chain61 z hz y

end Cert.KernelIdeal.Hand

end
-- ==== Proof.Ideal.Unpack.lean ====
/-
  The tiles unpacked from the packed history: what the first loop leaves in the key, value and row tiles.
-/
module

public import proofs.«01_k».proof.Proof.Ideal.Run
public import proofs.«01_k».proof.Proof.Ideal.Payload
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe

open Cert.Words

/-- A load of a unit rectangle reads the buffer at the shifted index. -/
theorem readAt_at {κ : Kind} {sp : Space} {s : Shape} {e : EltTy} (v : View sig κ sp s e) (f : v.ty.Contents (Elt Ideal))
    {off off' size : Fin s.rank → ℕ} (inb : ∀ a, off a + size a ≤ s.size a) (heq : off = off')
    (x : (Rect.unit off size inb).shape.Idx) (y : s.Idx) (hx : ∀ a, (y a).val = off' a + (x a).val) :
    v.readAt (Elt Ideal) (Rect.unit off size inb).toLoadRect f x = v.read (Elt Ideal) f y := by
  subst heq
  rw [View.readAt_apply]
  congr 1
  funext a
  refine Fin.ext ?_
  show off a + 1 * (x a).val = (y a).val
  rw [hx a, Nat.one_mul]

/-- The key tile: the codes above, and below them the three parts of the negated zero point of this head's block. -/
def keyTile (hd : Fin 8) (h : ℕ) (kc : Vec Ideal S1x1x64x8192 .i8) (kz : Vec Ideal S1x8x8192 .f32) (x : Fin 256) (y : Fin 8192) : EReal :=
  if hx : x.val < 128 then code (kc (ix4 0 0 ⟨x.val / 2, by omega⟩ y)) x.val
  else if 128 + 16 * hd.val ≤ x.val ∧ x.val < 144 + 16 * hd.val ∧ part (x.val - (128 + 16 * hd.val)) then
    -(if y.val < h then kz (ix3 0 hd y) else 0) else 0

/-- The value tile: the codes above, and the zero point in row 128. -/
def valTile (hd : Fin 8) (h : ℕ) (vc : Vec Ideal S1x1x64x8192 .i8) (vz : Vec Ideal S1x8x8192 .f32) (x : Fin 256) (y : Fin 8192) : EReal :=
  if hx : x.val < 128 then code (vc (ix4 0 0 ⟨x.val / 2, by omega⟩ y)) x.val
  else if x.val = 128 then (if y.val < h then vz (ix3 0 hd y) else 0) else 0

variable {c : Dev nD} {i : grid0.Coords} {arg2 : Memref sig .tc .smem S5 .i32} {harg2 : arg2.IsWhole} {arg3 : Memref sig .tc .smem S5 .i32} {harg3 : arg3.IsWhole} {arg4 : Memref sig .tc .vmem S2560x128 .bf16} {harg4 : arg4.IsWhole} {arg5 : Memref sig .tc .vmem S2560x128 .bf16} {harg5 : arg5.IsWhole} {arg6 : Memref sig .tc .vmem S2560x128 .f32} {harg6 : arg6.IsWhole} {arg7 : Memref sig .tc .vmem S8x8193 .f32} {harg7 : arg7.IsWhole} {arg8 : Memref sig .tc .vmem S1x1x64x8192 .i8} {harg8 : arg8.IsWhole} {arg9 : Memref sig .tc .vmem S1x1x64x8192 .i8} {harg9 : arg9.IsWhole} {arg10 : Memref sig .tc .vmem S1x8x8192 .f32} {harg10 : arg10.IsWhole} {arg11 : Memref sig .tc .vmem S1x8x8192 .f32} {harg11 : arg11.IsWhole} {arg12 : Memref sig .tc .vmem S1x8x8192 .f32} {harg12 : arg12.IsWhole} {arg13 : Memref sig .tc .vmem S1x8x8192 .f32} {harg13 : arg13.IsWhole} {arg14 : Memref sig .tc .vmem S2560x128 .f32} {harg14 : arg14.IsWhole} {arg15 : Memref sig .tc .vmem S256x8192 .bf16} {harg15 : arg15.IsWhole} {arg16 : Memref sig .tc .vmem S256x8192 .bf16} {harg16 : arg16.IsWhole} {arg17 : Memref sig .tc .vmem S8x8192 .f32} {harg17 : arg17.IsWhole} {arg18 : Memref sig .tc .vmem S256x256 .f32} {harg18 : arg18.IsWhole}
  {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty} {X9 : BufTy.Contents (Elt Ideal) arg9.view.ty} {X10 : BufTy.Contents (Elt Ideal) arg10.view.ty} {X11 : BufTy.Contents (Elt Ideal) arg11.view.ty} {X12 : BufTy.Contents (Elt Ideal) arg12.view.ty} {X13 : BufTy.Contents (Elt Ideal) arg13.view.ty} {X14 : BufTy.Contents (Elt Ideal) arg14.view.ty} {X15 : BufTy.Contents (Elt Ideal) arg15.view.ty} {X16 : BufTy.Contents (Elt Ideal) arg16.view.ty} {X17 : BufTy.Contents (Elt Ideal) arg17.view.ty} {X18 : BufTy.Contents (Elt Ideal) arg18.view.ty}
  {w : Fin 5 → BitVec 32} {n : Fin 5 → ℕ} {h : ℕ} (hr : Ragged w n) (hh : h ≤ 8192)

set_option maxHeartbeats 2000000 in
include hr hh in
theorem trip1_key {v19 v22 v28 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1) (a0 acc : BitVec 32)
    (k : Fin (k0_t1_loop i (w 0) (w 1) (w 2) (w 3) (w 4) (w (usr i)) (BitVec.ofNat 32 h)).trips)
    (hz : ∀ y, View.read (Elt Ideal) arg11.view X11 (ix3 0 (head i) y) ≠ ⊤ ∧ View.read (Elt Ideal) arg11.view X11 (ix3 0 (head i) y) ≠ ⊥)
    (f : BufTy.Contents (Elt Ideal) arg15.view.ty) (L : List (View.Piece (Elt Ideal) S256x8192 .bf16)) (x : Fin 256) (y : Fin 8192) :
    View.read (Elt Ideal) arg15.view (arg15.view.writes (Elt Ideal) f ((tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 k acc).1 ++ L)) (ix2 x y)
      = if 512 * k.val ≤ y.val ∧ y.val < 512 * k.val + 512 then
          keyTile (head i) h (View.read (Elt Ideal) arg8.view X8) (View.read (Elt Ideal) arg11.view X11) x y
        else View.read (Elt Ideal) arg15.view (arg15.view.writes (Elt Ideal) f L) (ix2 x y) := by
  have hk := t1_lt hr hh i k
  unfold tripL_k0_t1 trip_k0_t1
  dsimp only
  rw [List.cons_append, List.cons_append, List.cons_append, List.nil_append]
  have ez := off9_eq hr hh i k
  have e8 := off8_eq hr hh i k
  have e7 := off7_eq hr hh i k
  have e3 := off3_eq hr hh i k
  have e6 := off6_eq hr hh i k
  by_cases hy : 512 * k.val ≤ y.val ∧ y.val < 512 * k.val + 512
  · rw [if_pos hy]
    obtain ⟨j, hj⟩ : ∃ j : Fin 512, y.val = 512 * k.val + j.val := ⟨⟨y.val - 512 * k.val, by omega⟩, by simp; omega⟩
    by_cases hx : x.val < 128
    · rw [View.read_writes_cons_unit_of_not_mem _ _ _ _ _ _ ez (0 : Fin 2) (Or.inl (by show x.val < 128 + 16 * (head i).val; omega)),
        View.read_writes_cons_unit_of_not_mem _ _ _ _ _ _ e8 (0 : Fin 2) (Or.inl (by show x.val < 128; omega))]
      refine Eq.trans (View.read_writes_cons_unit_of_mem _ _ _ _ _ _ (ix2 (⟨x.val, hx⟩ : Fin 128) j) e7 ?_) ?_
      · exact Fin.forall_fin_two.mpr ⟨by show x.val = 0 + x.val; omega, hj⟩
      rw [pay23_apply, keyTile, dif_pos hx]
      rw [readAt_at _ _ _ e6 _ (ix4 0 0 ⟨x.val / 2, by omega⟩ y) (by
        intro a; fin_cases a
        · rfl
        · rfl
        · show x.val / 2 = 0 + x.val / 2; omega
        · exact hj)]
    · by_cases hp : 128 + 16 * (head i).val ≤ x.val ∧ x.val < 128 + 16 * (head i).val + 16
      · refine Eq.trans (View.read_writes_cons_unit_of_mem _ _ _ _ _ _ (ix2 (⟨x.val - (128 + 16 * (head i).val), by omega⟩ : Fin 16) j) ez ?_) ?_
        · exact Fin.forall_fin_two.mpr ⟨by show x.val = 128 + 16 * (head i).val + (x.val - (128 + 16 * (head i).val)); omega, hj⟩
        have inb3 : ∀ a, k0_off3 i (w 0) (w 1) (w 2) (w 3) (w 4) (w (usr i)) (BitVec.ofNat 32 h) k a + S1x1x512.size a ≤ S1x8x8192.size a := by
          rw [e3]; intro a; fin_cases a
          · show 0 + 1 ≤ 1; omega
          · show (head i).val + 1 ≤ 8; omega
          · show 512 * k.val + 512 ≤ 8192; omega
        have hv : ∀ inb, View.readAt (Elt Ideal) arg11.view (Rect.unit (s := S1x8x8192) (k0_off3 i (w 0) (w 1) (w 2) (w 3) (w 4) (w (usr i)) (BitVec.ofNat 32 h) k) S1x1x512.size inb).toLoadRect X11 (ix3 0 0 j)
            = View.read (Elt Ideal) arg11.view X11 (ix3 0 (head i) y) := fun inb =>
          readAt_at _ _ _ e3 _ _ (by
            intro a; fin_cases a
            · rfl
            · rfl
            · exact hj)
        rw [pay58_apply arg11 hw h1 X11 k rfl hk hh inb3 _ rfl _ _ (by rw [hv]; exact hz y), hv, keyTile, dif_neg hx, ← hj]
        exact if_congr ⟨fun hq => ⟨hp.1, by omega, hq⟩, fun hq => hq.2.2⟩ rfl rfl
      · rw [View.read_writes_cons_unit_of_not_mem _ _ _ _ _ _ ez (0 : Fin 2)
            (by show x.val < 128 + 16 * (head i).val ∨ 128 + 16 * (head i).val + 16 ≤ x.val; omega)]
        refine Eq.trans (View.read_writes_cons_unit_of_mem _ _ _ _ _ _ (ix2 (⟨x.val - 128, by omega⟩ : Fin 128) j) e8 ?_) ?_
        · exact Fin.forall_fin_two.mpr ⟨by show x.val = 128 + (x.val - 128); omega, hj⟩
        rw [pay57_apply, keyTile, dif_neg hx, if_neg (by omega)]
  · rw [if_neg hy, View.read_writes_cons_unit_of_not_mem _ _ _ _ _ _ ez (1 : Fin 2)
        (by show y.val < 512 * k.val ∨ 512 * k.val + 512 ≤ y.val; omega),
      View.read_writes_cons_unit_of_not_mem _ _ _ _ _ _ e8 (1 : Fin 2)
        (by show y.val < 512 * k.val ∨ 512 * k.val + 512 ≤ y.val; omega),
      View.read_writes_cons_unit_of_not_mem _ _ _ _ _ _ e7 (1 : Fin 2)
        (by show y.val < 512 * k.val ∨ 512 * k.val + 512 ≤ y.val; omega)]

set_option maxHeartbeats 2000000 in
include hr hh in
theorem trip1_val {v19 v22 v28 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1) (a0 acc : BitVec 32)
    (k : Fin (k0_t1_loop i (w 0) (w 1) (w 2) (w 3) (w 4) (w (usr i)) (BitVec.ofNat 32 h)).trips)
    (hz : ∀ y, View.read (Elt Ideal) arg13.view X13 (ix3 0 (head i) y) ≠ ⊤ ∧ View.read (Elt Ideal) arg13.view X13 (ix3 0 (head i) y) ≠ ⊥)
    (f : BufTy.Contents (Elt Ideal) arg16.view.ty) (L : List (View.Piece (Elt Ideal) S256x8192 .bf16)) (x : Fin 256) (y : Fin 8192) :
    View.read (Elt Ideal) arg16.view (arg16.view.writes (Elt Ideal) f ((tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 k acc).2.1 ++ L)) (ix2 x y)
      = if 512 * k.val ≤ y.val ∧ y.val < 512 * k.val + 512 then
          valTile (head i) h (View.read (Elt Ideal) arg9.view X9) (View.read (Elt Ideal) arg13.view X13) x y
        else View.read (Elt Ideal) arg16.view (arg16.view.writes (Elt Ideal) f L) (ix2 x y) := by
  have hk := t1_lt hr hh i k
  unfold tripL_k0_t1 trip_k0_t1
  dsimp only
  rw [List.cons_append, List.cons_append, List.cons_append, List.nil_append]
  have ez := off10_eq hr hh i k
  have e8 := off8_eq hr hh i k
  have e7 := off7_eq hr hh i k
  have e3 := off3_eq hr hh i k
  have e6 := off6_eq hr hh i k
  by_cases hy : 512 * k.val ≤ y.val ∧ y.val < 512 * k.val + 512
  · rw [if_pos hy]
    obtain ⟨j, hj⟩ : ∃ j : Fin 512, y.val = 512 * k.val + j.val := ⟨⟨y.val - 512 * k.val, by omega⟩, by simp; omega⟩
    by_cases hx : x.val < 128
    · rw [View.read_writes_cons_unit_of_not_mem _ _ _ _ _ _ ez (0 : Fin 2) (Or.inl (by show x.val < 128; omega)),
        View.read_writes_cons_unit_of_not_mem _ _ _ _ _ _ e8 (0 : Fin 2) (Or.inl (by show x.val < 128; omega))]
      refine Eq.trans (View.read_writes_cons_unit_of_mem _ _ _ _ _ _ (ix2 (⟨x.val, hx⟩ : Fin 128) j) e7 ?_) ?_
      · exact Fin.forall_fin_two.mpr ⟨by show x.val = 0 + x.val; omega, hj⟩
      rw [pay59_apply, valTile, dif_pos hx]
      rw [readAt_at _ _ _ e6 _ (ix4 0 0 ⟨x.val / 2, by omega⟩ y) (by
        intro a; fin_cases a
        · rfl
        · rfl
        · show x.val / 2 = 0 + x.val / 2; omega
        · exact hj)]
    · by_cases hp : 128 ≤ x.val ∧ x.val < 128 + 16
      · refine Eq.trans (View.read_writes_cons_unit_of_mem _ _ _ _ _ _ (ix2 (⟨x.val - (128), by omega⟩ : Fin 16) j) ez ?_) ?_
        · exact Fin.forall_fin_two.mpr ⟨by show x.val = 128 + (x.val - (128)); omega, hj⟩
        have inb3 : ∀ a, k0_off3 i (w 0) (w 1) (w 2) (w 3) (w 4) (w (usr i)) (BitVec.ofNat 32 h) k a + S1x1x512.size a ≤ S1x8x8192.size a := by
          rw [e3]; intro a; fin_cases a
          · show 0 + 1 ≤ 1; omega
          · show (head i).val + 1 ≤ 8; omega
          · show 512 * k.val + 512 ≤ 8192; omega
        have hv : ∀ inb, View.readAt (Elt Ideal) arg13.view (Rect.unit (s := S1x8x8192) (k0_off3 i (w 0) (w 1) (w 2) (w 3) (w 4) (w (usr i)) (BitVec.ofNat 32 h) k) S1x1x512.size inb).toLoadRect X13 (ix3 0 0 j)
            = View.read (Elt Ideal) arg13.view X13 (ix3 0 (head i) y) := fun inb =>
          readAt_at _ _ _ e3 _ _ (by
            intro a; fin_cases a
            · rfl
            · rfl
            · exact hj)
        rw [pay61_apply arg13 hw h1 X13 k rfl hk hh inb3 _ rfl _ _ (by rw [hv]; exact hz y), hv, valTile, dif_neg hx, ← hj]
        exact if_congr (by show x.val - 128 = 0 ↔ _; omega) rfl rfl
      · rw [View.read_writes_cons_unit_of_not_mem _ _ _ _ _ _ ez (0 : Fin 2)
            (by show x.val < 128 ∨ 128 + 16 ≤ x.val; omega)]
        refine Eq.trans (View.read_writes_cons_unit_of_mem _ _ _ _ _ _ (ix2 (⟨x.val - 128, by omega⟩ : Fin 128) j) e8 ?_) ?_
        · exact Fin.forall_fin_two.mpr ⟨by show x.val = 128 + (x.val - 128); omega, hj⟩
        rw [pay60_apply, valTile, dif_neg hx, if_neg (by omega)]
  · rw [if_neg hy, View.read_writes_cons_unit_of_not_mem _ _ _ _ _ _ ez (1 : Fin 2)
        (by show y.val < 512 * k.val ∨ 512 * k.val + 512 ≤ y.val; omega),
      View.read_writes_cons_unit_of_not_mem _ _ _ _ _ _ e8 (1 : Fin 2)
        (by show y.val < 512 * k.val ∨ 512 * k.val + 512 ≤ y.val; omega),
      View.read_writes_cons_unit_of_not_mem _ _ _ _ _ _ e7 (1 : Fin 2)
        (by show y.val < 512 * k.val ∨ 512 * k.val + 512 ≤ y.val; omega)]

set_option maxHeartbeats 2000000 in
include hr hh in
theorem trip1_rows {v19 v22 v28 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1) (a0 acc : BitVec 32)
    (k : Fin (k0_t1_loop i (w 0) (w 1) (w 2) (w 3) (w 4) (w (usr i)) (BitVec.ofNat 32 h)).trips)
    (f : BufTy.Contents (Elt Ideal) arg17.view.ty) (L : List (View.Piece (Elt Ideal) S8x8192 .f32)) (x : Fin 8) (y : Fin 8192)
    (hx : x.val = 0 ∨ x.val = 2) :
    View.read (Elt Ideal) arg17.view (arg17.view.writes (Elt Ideal) f ((tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 k acc).2.2 ++ L)) (ix2 x y)
      = if 512 * k.val ≤ y.val ∧ y.val < 512 * k.val + 512 then
          if y.val < h then
            if x.val = 0 then Ideal.ofBits .f32 1035273459#32 * View.read (Elt Ideal) arg10.view X10 (ix3 0 (head i) y)
            else View.read (Elt Ideal) arg12.view X12 (ix3 0 (head i) y)
          else 0
        else View.read (Elt Ideal) arg17.view (arg17.view.writes (Elt Ideal) f L) (ix2 x y) := by
  have hk := t1_lt hr hh i k
  unfold tripL_k0_t1 trip_k0_t1
  dsimp only
  rw [List.cons_append, List.cons_append, List.nil_append]
  have e5 := off5_eq hr hh i k
  have e4 := off4_eq hr hh i k
  have e3 := off3_eq hr hh i k
  by_cases hy : 512 * k.val ≤ y.val ∧ y.val < 512 * k.val + 512
  · rw [if_pos hy]
    obtain ⟨j, hj⟩ : ∃ j : Fin 512, y.val = 512 * k.val + j.val := ⟨⟨y.val - 512 * k.val, by omega⟩, by simp; omega⟩
    rcases hx with hx | hx
    · rw [View.read_writes_cons_unit_of_not_mem _ _ _ _ _ _ e5 (0 : Fin 2) (Or.inl (by show x.val < 2; omega))]
      refine Eq.trans (View.read_writes_cons_unit_of_mem _ _ _ _ _ _ (ix2 (0 : Fin 1) j) e4 ?_) ?_
      · exact Fin.forall_fin_two.mpr ⟨by show x.val = 0 + 0; omega, hj⟩
      rw [pay2_apply rfl hk hh, ← hj, if_pos hx]
      rw [readAt_at _ _ _ e3 _ (ix3 0 (head i) y) (by
        intro a; fin_cases a
        · rfl
        · rfl
        · exact hj)]
    · refine Eq.trans (View.read_writes_cons_unit_of_mem _ _ _ _ _ _ (ix2 (0 : Fin 1) j) e5 ?_) ?_
      · exact Fin.forall_fin_two.mpr ⟨by show x.val = 2 + 0; omega, hj⟩
      rw [pay3_apply rfl hk hh, ← hj, if_neg (by omega : ¬ x.val = 0)]
      rw [readAt_at _ _ _ e3 _ (ix3 0 (head i) y) (by
        intro a; fin_cases a
        · rfl
        · rfl
        · exact hj)]
  · rw [if_neg hy, View.read_writes_cons_unit_of_not_mem _ _ _ _ _ _ e5 (1 : Fin 2)
        (by show y.val < 512 * k.val ∨ 512 * k.val + 512 ≤ y.val; omega),
      View.read_writes_cons_unit_of_not_mem _ _ _ _ _ _ e4 (1 : Fin 2)
        (by show y.val < 512 * k.val ∨ 512 * k.val + 512 ≤ y.val; omega)]

include hr hh in
theorem loop1_key {v19 v22 v28 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1) (a0 init : BitVec 32) (m : ℕ) (hm : m ≤ (k0_t1_loop i (w 0) (w 1) (w 2) (w 3) (w 4) (w (usr i)) (BitVec.ofNat 32 h)).trips)
    (hz : ∀ y, View.read (Elt Ideal) arg11.view X11 (ix3 0 (head i) y) ≠ ⊤ ∧ View.read (Elt Ideal) arg11.view X11 (ix3 0 (head i) y) ≠ ⊥)
    (f : BufTy.Contents (Elt Ideal) arg15.view.ty) (x : Fin 256) (y : Fin 8192)  (hy : y.val < 512 * m) :
    View.read (Elt Ideal) arg15.view (arg15.view.writes (Elt Ideal) f (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 init m).2.1) (ix2 x y)
      = keyTile (head i) h (View.read (Elt Ideal) arg8.view X8) (View.read (Elt Ideal) arg11.view X11) x y := by
  induction m with
  | zero => exact absurd hy (by omega)
  | succ m ih =>
    rw [st_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 init ⟨m, hm⟩]
    dsimp only
    rw [trip1_key hr hh hw h1 a0 _ ⟨m, hm⟩ hz f _ x y]
    split
    · rfl
    · exact ih (by omega) (by dsimp only at *; omega)

include hr hh in
theorem loop1_val {v19 v22 v28 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1) (a0 init : BitVec 32) (m : ℕ) (hm : m ≤ (k0_t1_loop i (w 0) (w 1) (w 2) (w 3) (w 4) (w (usr i)) (BitVec.ofNat 32 h)).trips)
    (hz : ∀ y, View.read (Elt Ideal) arg13.view X13 (ix3 0 (head i) y) ≠ ⊤ ∧ View.read (Elt Ideal) arg13.view X13 (ix3 0 (head i) y) ≠ ⊥)
    (f : BufTy.Contents (Elt Ideal) arg16.view.ty) (x : Fin 256) (y : Fin 8192)  (hy : y.val < 512 * m) :
    View.read (Elt Ideal) arg16.view (arg16.view.writes (Elt Ideal) f (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 init m).2.2.1) (ix2 x y)
      = valTile (head i) h (View.read (Elt Ideal) arg9.view X9) (View.read (Elt Ideal) arg13.view X13) x y := by
  induction m with
  | zero => exact absurd hy (by omega)
  | succ m ih =>
    rw [st_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 init ⟨m, hm⟩]
    dsimp only
    rw [trip1_val hr hh hw h1 a0 _ ⟨m, hm⟩ hz f _ x y]
    split
    · rfl
    · exact ih (by omega) (by dsimp only at *; omega)

include hr hh in
theorem loop1_rows {v19 v22 v28 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1) (a0 init : BitVec 32) (m : ℕ) (hm : m ≤ (k0_t1_loop i (w 0) (w 1) (w 2) (w 3) (w 4) (w (usr i)) (BitVec.ofNat 32 h)).trips)

    (f : BufTy.Contents (Elt Ideal) arg17.view.ty) (x : Fin 8) (y : Fin 8192) (hx : x.val = 0 ∨ x.val = 2) (hy : y.val < 512 * m) :
    View.read (Elt Ideal) arg17.view (arg17.view.writes (Elt Ideal) f (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 init m).2.2.2) (ix2 x y)
      = if y.val < h then
            if x.val = 0 then Ideal.ofBits .f32 1035273459#32 * View.read (Elt Ideal) arg10.view X10 (ix3 0 (head i) y)
            else View.read (Elt Ideal) arg12.view X12 (ix3 0 (head i) y)
          else 0 := by
  induction m with
  | zero => exact absurd hy (by omega)
  | succ m ih =>
    rw [st_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 init ⟨m, hm⟩]
    dsimp only
    rw [trip1_rows hr hh hw h1 a0 _ ⟨m, hm⟩ f _ x y hx]
    split
    · rfl
    · exact ih (by omega) (by dsimp only at *; omega)

end Cert.KernelIdeal.Hand

end
-- ==== Proof.Ideal.Payload2.lean ====
/-
  The vector values of the score loop and of the row tiles, read at an index.
-/
module

public import proofs.«01_k».proof.Proof.Ideal.Payload

@[expose] public section

set_option maxRecDepth 16384

noncomputable section

namespace Cert.KernelIdeal.Hand

open Cert.KernelIdeal Cert.KernelIdeal.Gen
open Idealize.ShloMosaic Idealize.ShloMosaic.TcCoe

open Cert.Words

/-- One attention weight: the scaled and shifted score times its gate times the column's factor. -/
def weigh (x s b m : EReal) : EReal :=
  (x * s + b) * Ideal.logistic (x * s + b) * m

set_option maxHeartbeats 4000000 in
theorem pay48_apply (q a : Vec Ideal S256x128 .bf16) (kt : Vec Ideal S256x512 .bf16) (s b m : Vec Ideal S1x512 .f32)
    (acc : Vec Ideal S256x256 .f32) (vt : Vec Ideal S256x512 .bf16) (r c : Fin 256) :
    k0_pay48 (F := Ideal) q a kt s b m acc vt (ix2 r c)
      = acc (ix2 r c) + ∑ x : Fin 512,
          weigh ((∑ y : Fin 128, q (ix2 r y) * kt (ix2 ⟨y.val, by omega⟩ x)) + ∑ y : Fin 128, a (ix2 r y) * kt (ix2 ⟨128 + y.val, by omega⟩ x))
            (s (ix2 0 x)) (b (ix2 0 x)) (m (ix2 0 x)) * vt (ix2 c x) := by
  unfold weigh
  pointwise [k0_pay48, k0_pay49]

theorem pay55_apply (v24 : BitVec 32) (v : Vec Ideal S1x8192 .f32) {h : ℕ} (hv : v24 = BitVec.ofNat 32 h) (hh : h ≤ 8192) (y : Fin 8192) :
    k0_pay55 (F := Ideal) v24 v (ix2 0 y) = v (ix2 0 ⟨(y.val + 8192 - h) % 8192, Nat.mod_lt _ (by omega)⟩) := by
  pointwise [k0_pay55]
  congr 2
  refine Fin.ext ?_
  show (y.val + 8192 - v24.toNat % 8192) % 8192 = (y.val + 8192 - h) % 8192
  rw [hv, BitVec.toNat_ofNat, Nat.mod_eq_of_lt (show h < 2 ^ 32 by omega)]
  rcases Nat.lt_or_ge h 8192 with e | e
  · rw [Nat.mod_eq_of_lt e]
  · obtain rfl : h = 8192 := by omega
    omega

set_option maxHeartbeats 4000000 in
theorem pay50_apply {i : grid0.Coords} {v1 v5 v9 v13 v17 v21 v24 : BitVec 32} {v63 : BitVec 32} {s e row : ℕ} (k : Fin (k0_t3_loop i v1 v5 v9 v13 v17 v21).trips)
    (hrow : Scalar.minsi (Scalar.addi v63 (Scalar.muli (Scf.iv 0#32 1#32 k.val) 256#32)) 2304#32 = BitVec.ofNat 32 row)
    (hb : row ≤ 2304) (hs : s ≤ 2560) (he : e ≤ 2560)
    (l : Vec Ideal S256x128 .f32) (m a o : Vec Ideal S256x128 .f32) (r : Fin 256) (c : Fin 128) :
    k0_pay50 (F := Ideal) i v1 v5 v9 v13 v17 (BitVec.ofNat 32 s) v21 (BitVec.ofNat 32 e) v24 v63 0#32 1#32 k l m a o (ix2 r c)
      = if s ≤ row + r.val ∧ row + r.val < e then
          Ideal.div (m (ix2 r c) - (∑ x, l (ix2 r x)) + a (ix2 r c)) (FloatOps.sitofp (F := Ideal) .f32 (Scalar.addi v24 1#32))
        else o (ix2 r c) := by
  pointwise [k0_pay50]
  rw [hrow]
  unfold Scalar.select
  refine if_congr ?_ rfl rfl
  refine IntOp.andi_eq_one.trans ?_
  have e1 : IntOp.addi (BitVec.ofNat 32 row) (BitVec.ofNat 32 r.val) = BitVec.ofNat 32 (row + r.val) := add_word _ _
  have toI : ∀ x : ℕ, x < 2 ^ 31 → (BitVec.ofNat 32 x).toInt = (x : ℤ) := by
    intro x hx
    have a := isInt (n := x) hx
    unfold Affine.IsInt at a
    exact a
  rw [e1, IntOp.cmpi_sge, IntOp.cmpi_slt, toI _ (by omega), toI _ (by omega), toI _ (by omega)]
  omega

end Cert.KernelIdeal.Hand

end
-- ==== Proof.Ideal.Tile.lean ====
/-
  One row tile: the score loop over the history tiles, and the quotient written into the output block.
-/
module

public import proofs.«01_k».proof.Proof.Ideal.Unpack
public import proofs.«01_k».proof.Proof.Ideal.Payload2
public import proofs.«01_k».proof.Proof.Ideal.Loops

@[expose] public section

set_option maxRecDepth 16384

noncomputable section

namespace Cert.KernelIdeal.Hand

open Cert.KernelIdeal Cert.KernelIdeal.Gen
open Idealize.ShloMosaic Idealize.ShloMosaic.TcCoe

open Cert.Words

/-- The weight of history column `y` for row `r`, from a key tile and the three rows of column factors. -/
def prob (q a : Vec Ideal S2560x128 .bf16) (kt : Vec Ideal S256x8192 .bf16) (rr : Vec Ideal S8x8192 .f32) (r : Fin 2560) (y : Fin 8192) : EReal :=
  weigh ((∑ x : Fin 128, q (ix2 r x) * kt (ix2 ⟨x.val, by omega⟩ y)) + ∑ x : Fin 128, a (ix2 r x) * kt (ix2 ⟨128 + x.val, by omega⟩ y))
    (rr (ix2 0 y)) (rr (ix2 1 y)) (rr (ix2 2 y))

/-- The weighted sum of row `c` of the value tile over the first `m` columns. -/
def dotTo (q a : Vec Ideal S2560x128 .bf16) (kt vt : Vec Ideal S256x8192 .bf16) (rr : Vec Ideal S8x8192 .f32) (m : ℕ) (r : Fin 2560) (c : Fin 256) : EReal :=
  ∑ y ∈ Finset.range m, if hy : y < 8192 then prob q a kt rr r ⟨y, hy⟩ * vt (ix2 c ⟨y, hy⟩) else 0

theorem dotTo_add (q a : Vec Ideal S2560x128 .bf16) (kt vt : Vec Ideal S256x8192 .bf16) (rr : Vec Ideal S8x8192 .f32) {k : ℕ} (hk : k < 16) (r : Fin 2560) (c : Fin 256) :
    dotTo q a kt vt rr (512 * (k + 1)) r c = dotTo q a kt vt rr (512 * k) r c
      + ∑ x : Fin 512, prob q a kt rr r ⟨512 * k + x.val, by omega⟩ * vt (ix2 c ⟨512 * k + x.val, by omega⟩) := by
  unfold dotTo
  rw [Nat.mul_add, Nat.mul_one, Finset.sum_range_add, ← Fin.sum_univ_eq_sum_range (fun x => if hy : 512 * k + x < 8192 then
    prob q a kt rr r ⟨512 * k + x, hy⟩ * vt (ix2 c ⟨512 * k + x, hy⟩) else 0) 512]
  congr 1
  refine Finset.sum_congr rfl fun x _ => ?_
  rw [dif_pos (by omega)]

/-- What a row tile leaves in row `r`, column `c` of the output block. -/
def quot (q a : Vec Ideal S2560x128 .bf16) (o : Vec Ideal S2560x128 .f32) (kt vt : Vec Ideal S256x8192 .bf16) (rr : Vec Ideal S8x8192 .f32) (m h : ℕ) (r : Fin 2560) (c : Fin 128) : EReal :=
  Ideal.div (dotTo q a kt vt rr m r ⟨c.val, by omega⟩ - (∑ x : Fin 128, dotTo q a kt vt rr m r ⟨128 + x.val, by omega⟩) + o (ix2 r c))
    (FloatOps.sitofp (F := Ideal) .f32 (Scalar.addi (BitVec.ofNat 32 h) 1#32))

variable {c : Dev nD} {i : grid0.Coords} {arg2 : Memref sig .tc .smem S5 .i32} {harg2 : arg2.IsWhole} {arg3 : Memref sig .tc .smem S5 .i32} {harg3 : arg3.IsWhole} {arg4 : Memref sig .tc .vmem S2560x128 .bf16} {harg4 : arg4.IsWhole} {arg5 : Memref sig .tc .vmem S2560x128 .bf16} {harg5 : arg5.IsWhole} {arg6 : Memref sig .tc .vmem S2560x128 .f32} {harg6 : arg6.IsWhole} {arg7 : Memref sig .tc .vmem S8x8193 .f32} {harg7 : arg7.IsWhole} {arg8 : Memref sig .tc .vmem S1x1x64x8192 .i8} {harg8 : arg8.IsWhole} {arg9 : Memref sig .tc .vmem S1x1x64x8192 .i8} {harg9 : arg9.IsWhole} {arg10 : Memref sig .tc .vmem S1x8x8192 .f32} {harg10 : arg10.IsWhole} {arg11 : Memref sig .tc .vmem S1x8x8192 .f32} {harg11 : arg11.IsWhole} {arg12 : Memref sig .tc .vmem S1x8x8192 .f32} {harg12 : arg12.IsWhole} {arg13 : Memref sig .tc .vmem S1x8x8192 .f32} {harg13 : arg13.IsWhole} {arg14 : Memref sig .tc .vmem S2560x128 .f32} {harg14 : arg14.IsWhole} {arg15 : Memref sig .tc .vmem S256x8192 .bf16} {harg15 : arg15.IsWhole} {arg16 : Memref sig .tc .vmem S256x8192 .bf16} {harg16 : arg16.IsWhole} {arg17 : Memref sig .tc .vmem S8x8192 .f32} {harg17 : arg17.IsWhole} {arg18 : Memref sig .tc .vmem S256x256 .f32} {harg18 : arg18.IsWhole}
  {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty} {X9 : BufTy.Contents (Elt Ideal) arg9.view.ty} {X10 : BufTy.Contents (Elt Ideal) arg10.view.ty} {X11 : BufTy.Contents (Elt Ideal) arg11.view.ty} {X12 : BufTy.Contents (Elt Ideal) arg12.view.ty} {X13 : BufTy.Contents (Elt Ideal) arg13.view.ty} {X14 : BufTy.Contents (Elt Ideal) arg14.view.ty} {X15 : BufTy.Contents (Elt Ideal) arg15.view.ty} {X16 : BufTy.Contents (Elt Ideal) arg16.view.ty} {X17 : BufTy.Contents (Elt Ideal) arg17.view.ty} {X18 : BufTy.Contents (Elt Ideal) arg18.view.ty}
  {w : Fin 5 → BitVec 32} {n : Fin 5 → ℕ} {h : ℕ} (hr : Ragged w n) (hh : h ≤ 8192)

set_option maxHeartbeats 2000000 in
include hr hh in
theorem trip4 {v19 v22 v28 v63 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1)
    (k3 : Fin (k0_t3_loop i (w 0) (w 1) (w 2) (w 3) (w 4) (w (usr i))).trips) (k : Fin (k0_t4_loop i (w 0) (w 1) (w 2) (w 3) (w 4) (w (usr i)) (BitVec.ofNat 32 h)).trips) (acc : BitVec 32)
    (f18 G : BufTy.Contents (Elt Ideal) arg18.view.ty) (L : List (View.Piece (Elt Ideal) S256x256 .f32)) (r c' : Fin 256) (r' : Fin 2560)
    (hr' : r'.val = row (first n (usr i).val) k3.val + r.val) (hk : k.val < 16) :
    View.read (Elt Ideal) arg18.view (arg18.view.writes (Elt Ideal) G
        ((tripL_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (w 0) (w 1) (w 2) (w 3) (w 4) v19 (w (usr i)) v22 (BitVec.ofNat 32 h) hw v28 h1 v63 0#32 1#32 k3 X4 X5 X15 X16 X17 k acc f18) ++ L)) (ix2 r c')
      = View.read (Elt Ideal) arg18.view f18 (ix2 r c')
        + ∑ x : Fin 512, prob (View.read (Elt Ideal) arg4.view X4) (View.read (Elt Ideal) arg5.view X5) (View.read (Elt Ideal) arg15.view X15) (View.read (Elt Ideal) arg17.view X17) r' ⟨512 * k.val + x.val, by omega⟩
            * (View.read (Elt Ideal) arg16.view X16) (ix2 c' ⟨512 * k.val + x.val, by omega⟩) := by
  unfold tripL_k0_t4 trip_k0_t4
  dsimp only
  rw [List.cons_append, List.nil_append]
  have e19 := off19_eq hr i k3
  have e20 := off20_eq hr hh i k
  have e21 := off21_eq hr hh i k
  have e22 := off22_eq hr hh i k
  have e23 := off23_eq hr hh i k
  refine Eq.trans (View.read_writes_cons_unit_of_mem _ _ _ _ _ _ (ix2 r c') rfl ?_) ?_
  · exact Fin.forall_fin_two.mpr ⟨by show r.val = 0 + r.val; omega, by show c'.val = 0 + c'.val; omega⟩
  rw [pay48_apply]
  refine congrArg₂ _ ?_ (Finset.sum_congr rfl fun x _ => congrArg₂ _ ?_ ?_)
  · exact readAt_at _ _ _ rfl _ _ (Fin.forall_fin_two.mpr ⟨by show r.val = 0 + r.val; omega, by show c'.val = 0 + c'.val; omega⟩)
  · unfold prob
    congr 1
    · congr 1
      · refine Finset.sum_congr rfl fun z _ => congrArg₂ _ ?_ ?_
        · refine readAt_at _ _ _ e19 _ _ ?_
          exact Fin.forall_fin_two.mpr ⟨hr', by show z.val = 0 + z.val; omega⟩
        · exact readAt_at _ _ _ e20 _ _ (Fin.forall_fin_two.mpr ⟨by show z.val = 0 + z.val; omega, rfl⟩)
      · refine Finset.sum_congr rfl fun z _ => congrArg₂ _ ?_ ?_
        · refine readAt_at _ _ _ e19 _ _ ?_
          exact Fin.forall_fin_two.mpr ⟨hr', by show z.val = 0 + z.val; omega⟩
        · exact readAt_at _ _ _ e20 _ _ (Fin.forall_fin_two.mpr ⟨by show 128 + z.val = 0 + (128 + z.val); omega, rfl⟩)
    · exact readAt_at _ _ _ e21 _ _ (Fin.forall_fin_two.mpr ⟨rfl, rfl⟩)
    · exact readAt_at _ _ _ e22 _ _ (Fin.forall_fin_two.mpr ⟨rfl, rfl⟩)
    · exact readAt_at _ _ _ e23 _ _ (Fin.forall_fin_two.mpr ⟨rfl, rfl⟩)
  · exact readAt_at _ _ _ e20 _ _ (Fin.forall_fin_two.mpr ⟨by show c'.val = 0 + c'.val; omega, rfl⟩)

include hr hh in
theorem loop4 {v19 v22 v28 v63 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1)
    (k3 : Fin (k0_t3_loop i (w 0) (w 1) (w 2) (w 3) (w 4) (w (usr i))).trips) (init : BitVec 32) (m : ℕ) (hm : m ≤ (k0_t4_loop i (w 0) (w 1) (w 2) (w 3) (w 4) (w (usr i)) (BitVec.ofNat 32 h)).trips)
    (G : BufTy.Contents (Elt Ideal) arg18.view.ty) (r c' : Fin 256) (r' : Fin 2560)
    (hr' : r'.val = row (first n (usr i).val) k3.val + r.val) :
    View.read (Elt Ideal) arg18.view (arg18.view.writes (Elt Ideal) G
        (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (w 0) (w 1) (w 2) (w 3) (w 4) v19 (w (usr i)) v22 (BitVec.ofNat 32 h) hw v28 h1 v63 0#32 1#32 k3 X4 X5 X15 X16 X17 G init m).2) (ix2 r c')
      = View.read (Elt Ideal) arg18.view G (ix2 r c') + dotTo (View.read (Elt Ideal) arg4.view X4) (View.read (Elt Ideal) arg5.view X5) (View.read (Elt Ideal) arg15.view X15) (View.read (Elt Ideal) arg16.view X16) (View.read (Elt Ideal) arg17.view X17) (512 * m) r' c' := by
  induction m with
  | zero => simp [st_k0_t4, View.writes, dotTo]
  | succ m ih =>
    have hk := t4_lt hr hh i ⟨m, hm⟩
    rw [st_k0_t4_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (w 0) (w 1) (w 2) (w 3) (w 4) v19 (w (usr i)) v22 (BitVec.ofNat 32 h) hw v28 h1 v63 0#32 1#32 k3 X4 X5 X15 X16 X17 G init ⟨m, hm⟩]
    dsimp only
    rw [trip4 hr hh hw h1 k3 ⟨m, hm⟩ _ _ _ _ r c' r' hr' hk, ih (by omega), dotTo_add _ _ _ _ _ hk, add_assoc]

set_option maxHeartbeats 2000000 in
include hr hh in
/-- The accumulator's contents after its loop, over the zeros stored first. -/
theorem acc3 {v19 v22 v28 v63 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1)
    (k3 : Fin (k0_t3_loop i (w 0) (w 1) (w 2) (w 3) (w 4) (w (usr i))).trips) (T : ℕ) (hT : T = tiles (n (usr i)) h) (J : BufTy.Contents (Elt Ideal) arg18.view.ty) (inb)
    (r c' : Fin 256) (r' : Fin 2560) (hr' : r'.val = row (first n (usr i).val) k3.val + r.val) :
    View.read (Elt Ideal) arg18.view (arg18.view.writes (Elt Ideal) J
        ((st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (w 0) (w 1) (w 2) (w 3) (w 4) v19 (w (usr i)) v22 (BitVec.ofNat 32 h) hw v28 h1 v63 0#32 1#32 k3 X4 X5 X15 X16 X17
          (arg18.view.writes (Elt Ideal) J [⟨Rect.unit (s := S256x256) ![0, 0] ![256, 256] inb, k0_pay47 (F := Ideal)⟩]) 0#32 T).2
          ++ [⟨Rect.unit (s := S256x256) ![0, 0] ![256, 256] inb, k0_pay47 (F := Ideal)⟩])) (ix2 r c')
      = dotTo (View.read (Elt Ideal) arg4.view X4) (View.read (Elt Ideal) arg5.view X5) (View.read (Elt Ideal) arg15.view X15) (View.read (Elt Ideal) arg16.view X16) (View.read (Elt Ideal) arg17.view X17) (512 * tiles (n (usr i)) h) r' c' := by
  rw [View.writes_append, loop4 hr hh hw h1 k3 _ _ (by rw [hT, t4_trips hr hh]) _ r c' r' hr', hT]
  have z : View.read (Elt Ideal) arg18.view (arg18.view.writes (Elt Ideal) J [⟨Rect.unit (s := S256x256) ![0, 0] ![256, 256] inb, k0_pay47 (F := Ideal)⟩]) (ix2 r c') = 0 := by
    refine Eq.trans (View.read_writes_cons_unit_of_mem _ _ _ _ _ _ (ix2 r c') rfl ?_) ?_
    rotate_left
    · exact pay47_apply r c'
    exact Fin.forall_fin_two.mpr ⟨by show r.val = 0 + r.val; omega, by show c'.val = 0 + c'.val; omega⟩
  rw [z, zero_add]

set_option maxHeartbeats 4000000 in
include hr hh in
theorem trip3 {v28 v63 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1)
    (k3 : Fin (k0_t3_loop i (w 0) (w 1) (w 2) (w 3) (w 4) (w (usr i))).trips) (c0 : BitVec 32) {s e : ℕ} (hs : s ≤ 2560) (he : e ≤ 2560)
    (hrow : Scalar.minsi (Scalar.addi v63 (Scalar.muli (Scf.iv 0#32 1#32 k3.val) 256#32)) 2304#32 = BitVec.ofNat 32 (row (first n (usr i).val) k3.val))
    (f14 F : BufTy.Contents (Elt Ideal) arg14.view.ty) (L : List (View.Piece (Elt Ideal) S2560x128 .f32)) (r : Fin 2560) (c' : Fin 128) :
    View.read (Elt Ideal) arg14.view (arg14.view.writes (Elt Ideal) F
        ((trip_t3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (w 0) (w 1) (w 2) (w 3) (w 4) (BitVec.ofNat 32 s) (w (usr i)) (BitVec.ofNat 32 e) (BitVec.ofNat 32 h) hw v28 h1 v63 0#32 X4 X5 X6 X15 X16 X17 k3).1 f14 ++ L)) (ix2 r c')
      = if row (first n (usr i).val) k3.val ≤ r.val ∧ r.val < row (first n (usr i).val) k3.val + 256 then
          if s ≤ r.val ∧ r.val < e then
            quot (View.read (Elt Ideal) arg4.view X4) (View.read (Elt Ideal) arg5.view X5) (View.read (Elt Ideal) arg6.view X6) (View.read (Elt Ideal) arg15.view X15) (View.read (Elt Ideal) arg16.view X16) (View.read (Elt Ideal) arg17.view X17) (512 * tiles (n (usr i)) h) h r c'
          else View.read (Elt Ideal) arg14.view f14 (ix2 r c')
        else View.read (Elt Ideal) arg14.view (arg14.view.writes (Elt Ideal) F L) (ix2 r c') := by
  unfold trip_t3
  dsimp only
  rw [List.cons_append, List.nil_append]
  have e29 := off29_eq hr i k3
  have hle := row_le (first n (usr i).val) k3.val
  by_cases hin : row (first n (usr i).val) k3.val ≤ r.val ∧ r.val < row (first n (usr i).val) k3.val + 256
  · rw [if_pos hin]
    obtain ⟨j, hj⟩ : ∃ j : Fin 256, r.val = row (first n (usr i).val) k3.val + j.val := ⟨⟨r.val - row (first n (usr i).val) k3.val, by omega⟩, by simp; omega⟩
    refine Eq.trans (View.read_writes_cons_unit_of_mem _ _ _ _ _ _ (ix2 j c') e29 ?_) ?_
    · exact Fin.forall_fin_two.mpr ⟨hj, by show c'.val = 0 + c'.val; omega⟩
    unfold trip_t3.sl.r
    rw [pay50_apply k3 hrow (by omega) hs he, ← hj]
    refine if_congr Iff.rfl ?_ ?_
    · unfold quot
      congr 1
      refine congrArg₂ _ (congrArg₂ _ ?_ (Finset.sum_congr rfl fun x _ => ?_)) ?_
      · unfold trip_t3.sl.v92 View.readCov
        refine (readAt_at _ _ _ rfl _ (ix2 j ⟨c'.val, by omega⟩) ?_).trans ?_
        · exact Fin.forall_fin_two.mpr ⟨by show j.val = 0 + j.val; omega, by show c'.val = 0 + c'.val; omega⟩
        · refine acc3 hr hh hw h1 k3 _ (t4_trips hr hh i) _ _ _ _ _ hj
      · unfold trip_t3.sl.v89 View.readCov
        refine (readAt_at _ _ _ rfl _ (ix2 j ⟨128 + x.val, by omega⟩) ?_).trans ?_
        · exact Fin.forall_fin_two.mpr ⟨by show j.val = 0 + j.val; omega, rfl⟩
        · refine acc3 hr hh hw h1 k3 _ (t4_trips hr hh i) _ _ _ _ _ hj
      · refine readAt_at _ _ _ e29 _ _ ?_
        exact Fin.forall_fin_two.mpr ⟨hj, by show c'.val = 0 + c'.val; omega⟩
    · refine readAt_at _ _ _ e29 _ _ ?_
      exact Fin.forall_fin_two.mpr ⟨hj, by show c'.val = 0 + c'.val; omega⟩
  · rw [if_neg hin, View.read_writes_cons_unit_of_not_mem _ _ _ _ _ _ e29 (0 : Fin 2)
        (by show r.val < row (first n (usr i).val) k3.val ∨ row (first n (usr i).val) k3.val + 256 ≤ r.val; omega)]

end Cert.KernelIdeal.Hand

end
-- ==== Proof.Ideal.Rows.lean ====
/-
  The row tiles together: a user's rows of the output block, and what one point's run leaves there.
-/
module

public import proofs.«01_k».proof.Proof.Ideal.Tile
public import proofs.«01_k».proof.Proof.Ideal.Body

@[expose] public section

set_option maxRecDepth 16384

noncomputable section

namespace Cert.KernelIdeal.Hand

open Cert.KernelIdeal Cert.KernelIdeal.Gen
open Idealize.ShloMosaic Idealize.ShloMosaic.TcCoe

open Cert.Words

/-- One of the row tiles from row `s` on holds row `r`, for every row `r` of the user. -/
theorem row_cover {s c r : ℕ} (hc : s + c ≤ 2560) (h1 : s ≤ r) (h2 : r < s + c) :
    ∃ k, k < rowTiles s c ∧ row s k ≤ r ∧ r < row s k + 256 := by
  refine ⟨(r - s / 16 * 16) / 256, ?_, ?_, ?_⟩
  · unfold rowTiles; omega
  · unfold row; omega
  · unfold row; omega

variable {c : Dev nD} {i : grid0.Coords} {arg2 : Memref sig .tc .smem S5 .i32} {harg2 : arg2.IsWhole} {arg3 : Memref sig .tc .smem S5 .i32} {harg3 : arg3.IsWhole} {arg4 : Memref sig .tc .vmem S2560x128 .bf16} {harg4 : arg4.IsWhole} {arg5 : Memref sig .tc .vmem S2560x128 .bf16} {harg5 : arg5.IsWhole} {arg6 : Memref sig .tc .vmem S2560x128 .f32} {harg6 : arg6.IsWhole} {arg7 : Memref sig .tc .vmem S8x8193 .f32} {harg7 : arg7.IsWhole} {arg8 : Memref sig .tc .vmem S1x1x64x8192 .i8} {harg8 : arg8.IsWhole} {arg9 : Memref sig .tc .vmem S1x1x64x8192 .i8} {harg9 : arg9.IsWhole} {arg10 : Memref sig .tc .vmem S1x8x8192 .f32} {harg10 : arg10.IsWhole} {arg11 : Memref sig .tc .vmem S1x8x8192 .f32} {harg11 : arg11.IsWhole} {arg12 : Memref sig .tc .vmem S1x8x8192 .f32} {harg12 : arg12.IsWhole} {arg13 : Memref sig .tc .vmem S1x8x8192 .f32} {harg13 : arg13.IsWhole} {arg14 : Memref sig .tc .vmem S2560x128 .f32} {harg14 : arg14.IsWhole} {arg15 : Memref sig .tc .vmem S256x8192 .bf16} {harg15 : arg15.IsWhole} {arg16 : Memref sig .tc .vmem S256x8192 .bf16} {harg16 : arg16.IsWhole} {arg17 : Memref sig .tc .vmem S8x8192 .f32} {harg17 : arg17.IsWhole} {arg18 : Memref sig .tc .vmem S256x256 .f32} {harg18 : arg18.IsWhole}
  {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty} {X9 : BufTy.Contents (Elt Ideal) arg9.view.ty} {X10 : BufTy.Contents (Elt Ideal) arg10.view.ty} {X11 : BufTy.Contents (Elt Ideal) arg11.view.ty} {X12 : BufTy.Contents (Elt Ideal) arg12.view.ty} {X13 : BufTy.Contents (Elt Ideal) arg13.view.ty} {X14 : BufTy.Contents (Elt Ideal) arg14.view.ty} {X15 : BufTy.Contents (Elt Ideal) arg15.view.ty} {X16 : BufTy.Contents (Elt Ideal) arg16.view.ty} {X17 : BufTy.Contents (Elt Ideal) arg17.view.ty} {X18 : BufTy.Contents (Elt Ideal) arg18.view.ty}
  {w : Fin 5 → BitVec 32} {n : Fin 5 → ℕ} {h : ℕ} (hr : Ragged w n) (hh : h ≤ 8192)

include hr hh in
theorem loop3 {v28 v63 : BitVec 32} (hw : k0_chk1 i (w 0) (w 1) (w 2) (w 3) (w 4) (w (usr i)) (BitVec.ofNat 32 h)) (h1 : k0_cond1 i (w 0) (w 1) (w 2) (w 3) (w 4) (w (usr i)) (BitVec.ofNat 32 h) = 1#1)
    (h63 : ∀ k3 : Fin (k0_t3_loop i (w 0) (w 1) (w 2) (w 3) (w 4) (w (usr i))).trips, Scalar.minsi (Scalar.addi v63 (Scalar.muli (Scf.iv 0#32 1#32 k3.val) 256#32)) 2304#32 = BitVec.ofNat 32 (row (first n (usr i).val) k3.val))
    (m : ℕ) (hm : m ≤ (k0_t3_loop i (w 0) (w 1) (w 2) (w 3) (w 4) (w (usr i))).trips) (r : Fin 2560) (c' : Fin 128) :
    View.read (Elt Ideal) arg14.view (arg14.view.writes (Elt Ideal) X14 (st_t3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (w 0) (w 1) (w 2) (w 3) (w 4) (BitVec.ofNat 32 (first n (usr i).val)) (w (usr i)) (BitVec.ofNat 32 (first n (usr i).val + n (usr i))) (BitVec.ofNat 32 h) hw v28 h1 v63 0#32 X4 X5 X6 X15 X16 X17 X14 m)) (ix2 r c')
      = if (∃ k, k < m ∧ row (first n (usr i).val) k ≤ r.val ∧ r.val < row (first n (usr i).val) k + 256)
            ∧ first n (usr i).val ≤ r.val ∧ r.val < first n (usr i).val + n (usr i) then
          quot (View.read (Elt Ideal) arg4.view X4) (View.read (Elt Ideal) arg5.view X5) (View.read (Elt Ideal) arg6.view X6) (View.read (Elt Ideal) arg15.view X15) (View.read (Elt Ideal) arg16.view X16) (View.read (Elt Ideal) arg17.view X17) (512 * tiles (n (usr i)) h) h r c'
        else View.read (Elt Ideal) arg14.view X14 (ix2 r c') := by
  have hle := le_2560 hr i
  induction m with
  | zero => rw [if_neg (by rintro ⟨⟨k, hk, _⟩, _⟩; omega)]; rfl
  | succ m ih =>
    rw [st_t3_succ c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (w 0) (w 1) (w 2) (w 3) (w 4) (BitVec.ofNat 32 (first n (usr i).val)) (w (usr i)) (BitVec.ofNat 32 (first n (usr i).val + n (usr i))) (BitVec.ofNat 32 h) hw v28 h1 _ _ X4 X5 X6 X15 X16 X17 X14 ⟨m, hm⟩,
      trip3 hr hh hw h1 ⟨m, hm⟩ 0#32 (by omega) hle (h63 ⟨m, hm⟩), ih (by omega)]
    dsimp only
    by_cases a : row (first n (usr i).val) m ≤ r.val ∧ r.val < row (first n (usr i).val) m + 256
    · rw [if_pos a]
      by_cases b : first n (usr i).val ≤ r.val ∧ r.val < first n (usr i).val + n (usr i)
      · rw [if_pos b, if_pos ⟨⟨m, by omega, a⟩, b⟩]
      · rw [if_neg b, if_neg (fun x => b x.2), if_neg (fun x => b x.2)]
    · rw [if_neg a]
      refine if_congr (and_congr_left fun _ => ⟨fun ⟨k, hk, x⟩ => ⟨k, by omega, x⟩, fun ⟨k, hk, x⟩ => ?_⟩) rfl rfl
      rcases Nat.lt_succ_iff_lt_or_eq.mp hk with hk | rfl
      · exact ⟨k, hk, x⟩
      · exact absurd x a

include hr hh in
/-- The output block after all row tiles: the user's rows hold the quotient, the others what they held. -/
theorem loop3_all {v28 v63 : BitVec 32} (hw : k0_chk1 i (w 0) (w 1) (w 2) (w 3) (w 4) (w (usr i)) (BitVec.ofNat 32 h)) (h1 : k0_cond1 i (w 0) (w 1) (w 2) (w 3) (w 4) (w (usr i)) (BitVec.ofNat 32 h) = 1#1)
    (h63 : ∀ k3 : Fin (k0_t3_loop i (w 0) (w 1) (w 2) (w 3) (w 4) (w (usr i))).trips, Scalar.minsi (Scalar.addi v63 (Scalar.muli (Scf.iv 0#32 1#32 k3.val) 256#32)) 2304#32 = BitVec.ofNat 32 (row (first n (usr i).val) k3.val))
    (m : ℕ) (hm : m = (k0_t3_loop i (w 0) (w 1) (w 2) (w 3) (w 4) (w (usr i))).trips) (r : Fin 2560) (c' : Fin 128) :
    View.read (Elt Ideal) arg14.view (arg14.view.writes (Elt Ideal) X14 (st_t3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (w 0) (w 1) (w 2) (w 3) (w 4) (BitVec.ofNat 32 (first n (usr i).val)) (w (usr i)) (BitVec.ofNat 32 (first n (usr i).val + n (usr i))) (BitVec.ofNat 32 h) hw v28 h1 v63 0#32 X4 X5 X6 X15 X16 X17 X14 m)) (ix2 r c')
      = if first n (usr i).val ≤ r.val ∧ r.val < first n (usr i).val + n (usr i) then
          quot (View.read (Elt Ideal) arg4.view X4) (View.read (Elt Ideal) arg5.view X5) (View.read (Elt Ideal) arg6.view X6) (View.read (Elt Ideal) arg15.view X15) (View.read (Elt Ideal) arg16.view X16) (View.read (Elt Ideal) arg17.view X17) (512 * tiles (n (usr i)) h) h r c'
        else View.read (Elt Ideal) arg14.view X14 (ix2 r c') := by
  rw [loop3 hr hh hw h1 h63 m (le_of_eq hm) r c']
  refine if_congr ⟨fun x => x.2, fun x => ⟨?_, x⟩⟩ rfl rfl
  rw [hm, t3_trips hr]
  exact row_cover (le_2560 hr i) x.1 x.2

set_option maxHeartbeats 1000000 in
include hr hh in
/-- A point with work leaves the quotient in the user's rows, computed from the tiles its first loop unpacks. -/
theorem work_read (e0 : word (F := Ideal) arg2 X2 ![0] inb_S5_S1_0 = w 0) (e1 : word (F := Ideal) arg2 X2 ![1] inb_S5_S1_1 = w 1) (e2 : word (F := Ideal) arg2 X2 ![2] inb_S5_S1_2 = w 2) (e3 : word (F := Ideal) arg2 X2 ![3] inb_S5_S1_3 = w 3) (e4 : word (F := Ideal) arg2 X2 ![4] inb_S5_S1_4 = w 4) (e5 : word (F := Ideal) arg2 X2 (k0_off1 i) (k0_off1_inb i) = w (usr i)) (e6 : word (F := Ideal) arg3 X3 (k0_off1 i) (k0_off1_inb i) = BitVec.ofNat 32 h)
    (e19 : start19 i (w 0) (w 1) (w 2) (w 3) (w 4) = (BitVec.ofNat 32 (first n (usr i).val))) (e22 : Scalar.addi (BitVec.ofNat 32 (first n (usr i).val)) (w (usr i)) = (BitVec.ofNat 32 (first n (usr i).val + n (usr i))))
    (hw : k0_chk1 i (w 0) (w 1) (w 2) (w 3) (w 4) (w (usr i)) (BitVec.ofNat 32 h)) (h1 : k0_cond1 i (w 0) (w 1) (w 2) (w 3) (w 4) (w (usr i)) (BitVec.ofNat 32 h) = 1#1) (r : Fin 2560) (c' : Fin 128) :
    ∃ (v28 : BitVec 32) (a0 : BitVec 32) (B : ℕ), B = tiles (n (usr i)) h ∧
    View.read (Elt Ideal) arg14.view (arg14.view.writes (Elt Ideal) X14
        ((work (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 X12 X13 _ _ _ _ _ _ _ _ _ e0 e1 e2 e3 e4 e5 e6 e19 e22 hw h1).1 X14 X15 X16 X17)) (ix2 r c')
      = if first n (usr i).val ≤ r.val ∧ r.val < first n (usr i).val + n (usr i) then
          quot (View.read (Elt Ideal) arg4.view X4) (View.read (Elt Ideal) arg5.view X5) (View.read (Elt Ideal) arg6.view X6)
            (View.read (Elt Ideal) arg15.view (arg15.view.writes (Elt Ideal) X15 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) (BitVec.ofNat 32 (first n (usr i).val)) (w (usr i)) (BitVec.ofNat 32 (first n (usr i).val + n (usr i))) (BitVec.ofNat 32 h) hw v28 h1 X8 X9 X10 X11 X12 X13 0#32 B).2.1))
            (View.read (Elt Ideal) arg16.view (arg16.view.writes (Elt Ideal) X16 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) (BitVec.ofNat 32 (first n (usr i).val)) (w (usr i)) (BitVec.ofNat 32 (first n (usr i).val + n (usr i))) (BitVec.ofNat 32 h) hw v28 h1 X8 X9 X10 X11 X12 X13 0#32 B).2.2.1))
            (View.read (Elt Ideal) arg17.view (arg17.view.writes (Elt Ideal) X17 ((st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) (BitVec.ofNat 32 (first n (usr i).val)) (w (usr i)) (BitVec.ofNat 32 (first n (usr i).val + n (usr i))) (BitVec.ofNat 32 h) hw v28 h1 X8 X9 X10 X11 X12 X13 0#32 B).2.2.2
              ++ [⟨Rect.unit (s := S8x8192) ![1, 0] ![1, 8192] inb_S8x8192_S1x8192_1_0, k0_pay55 (F := Ideal) (BitVec.ofNat 32 h) (View.readAt (Elt Ideal) arg7.view (Rect.unit (s := S8x8193) (k0_off2 i) S1x8192.size (k0_off2_inb i)).toLoadRect X7)⟩])))
            (512 * tiles (n (usr i)) h) h r c'
        else View.read (Elt Ideal) arg14.view X14 (ix2 r c') := by
  unfold work
  dsimp only
  refine ⟨_, _, _, ?h, loop3_all hr hh hw h1 ?h63 _ ?hm r c'⟩
  case h => exact t1_trips hr hh i
  case h63 =>
    intro k3
    have a := row_word hr i k3
    rw [start_word hr] at a
    unfold work.sl.v63 work.sl.v62 work.sl.v60 work.sl.v61 work.sl.v46
    unfold rowW floorW at a
    exact a
  case hm => rfl

end Cert.KernelIdeal.Hand

end
-- ==== Proof.Ideal.Attend.lean ====
/-
  What one candidate row attends to: the sum over the history positions as the mathematics states it, and the
  kernel's tiles brought to it.
-/
module

public import proofs.«01_k».proof.Proof.Ideal.Tile

@[expose] public section

set_option maxRecDepth 16384

noncomputable section

namespace Cert.KernelIdeal.Hand

open Cert.KernelIdeal Cert.KernelIdeal.Gen
open Idealize.ShloMosaic Idealize.ShloMosaic.TcCoe

/-- The scaled, shifted and biased score of one position. -/
def score (q k : Fin 128 → EReal) (s z b : EReal) : EReal :=
  Ideal.ofBits .f32 1035273459#32 * s * ((∑ x, k x * q x) - (∑ x, q x) * z) + b

/-- A position's weight: nothing from the history's end on. -/
def weight (h : ℕ) (q : Fin 128 → EReal) (k : Fin 8192 → Fin 128 → EReal) (s z b t : Fin 8192 → EReal) (p : Fin 8192) : EReal :=
  (if p.val < h then score q (k p) (s p) (z p) (b p) * Ideal.logistic (score q (k p) (s p) (z p) (b p)) else 0) * t p

/-- One lane of one candidate row's result. -/
def attend (h : ℕ) (q : Fin 128 → EReal) (k : Fin 8192 → Fin 128 → EReal) (s z b t v y : Fin 8192 → EReal) (o : EReal) : EReal :=
  Ideal.div ((∑ p, weight h q k s z b t p * v p) - (∑ p, weight h q k s z b t p * y p) + o)
    (FloatOps.sitofp (F := Ideal) .f32 (BitVec.ofNat 32 h + 1#32))

/-- The result of user `u`'s candidate row `r` in column `j`, from the launch's arrays. -/
def valueAt (h : Fin 5 → ℕ) (q : Vec Ideal S2560x1024 .bf16) (av : Vec Ideal S2560x1024 .f32) (rab : Vec Ideal S8x8193 .f32)
    (kc vc : Vec Ideal S5x8x64x8192 .i8) (ks kz vs vz : Vec Ideal S5x8x8192 .f32) (u : Fin 5) (r : Fin 2560) (j : Fin 1024) : EReal :=
  attend (h u) (fun x => q (ix2 r ⟨j.val / 128 * 128 + x.val, by omega⟩))
    (fun p x => code (kc (ix4 u ⟨j.val / 128, by omega⟩ ⟨x.val / 2, by omega⟩ p)) x.val)
    (fun p => ks (ix3 u ⟨j.val / 128, by omega⟩ p)) (fun p => kz (ix3 u ⟨j.val / 128, by omega⟩ p))
    (fun p => rab (ix2 ⟨j.val / 128, by omega⟩ ⟨(p.val + 8192 - h u) % 8192, by omega⟩))
    (fun p => vs (ix3 u ⟨j.val / 128, by omega⟩ p))
    (fun p => code (vc (ix4 u ⟨j.val / 128, by omega⟩ ⟨j.val % 128 / 2, by omega⟩ p)) (j.val % 128))
    (fun p => vz (ix3 u ⟨j.val / 128, by omega⟩ p)) (av (ix2 r j))

/-- A row belongs to at most one user. -/
theorem own_unique (n : Fin 5 → ℕ) (r : ℕ) (u v : Fin 5) (hu : Cert.Words.first n u.val ≤ r ∧ r < Cert.Words.first n u.val + n u)
    (hv : Cert.Words.first n v.val ≤ r ∧ r < Cert.Words.first n v.val + n v) : u = v := by
  fin_cases u <;> fin_cases v <;> first | rfl | (exfalso; simp [Cert.Words.first] at hu hv; omega)

theorem three_sum (A : Fin 128 → EReal) (hA : ∀ x, A x ≠ ⊤ ∧ A x ≠ ⊥) (z : EReal) (hz : z ≠ ⊤ ∧ z ≠ ⊥) (hd : Fin 8) (K : Fin 128 → EReal)
    (hK : ∀ x : Fin 128, K x = if 128 + 16 * hd.val ≤ 128 + x.val ∧ 128 + x.val < 144 + 16 * hd.val ∧ part (128 + x.val - (128 + 16 * hd.val)) then -z else 0) :
    ∑ x, A x * K x = -((A ⟨16 * hd.val, by omega⟩ + A ⟨16 * hd.val + 3, by omega⟩ + A ⟨16 * hd.val + 6, by omega⟩) * z) := by
  have e : ∀ x, A x * K x = (if x = ⟨16 * hd.val, by omega⟩ then A x * -z else 0) + (if x = ⟨16 * hd.val + 3, by omega⟩ then A x * -z else 0)
      + (if x = ⟨16 * hd.val + 6, by omega⟩ then A x * -z else 0) := by
    intro x
    rw [hK x]
    simp only [Fin.ext_iff]
    by_cases a0 : x.val = 16 * hd.val
    · rw [if_pos ⟨by omega, by omega, Or.inl (by omega)⟩, if_pos a0, if_neg (by omega), if_neg (by omega), add_zero, add_zero]
    · by_cases a3 : x.val = 16 * hd.val + 3
      · rw [if_pos ⟨by omega, by omega, Or.inr (Or.inl (by omega))⟩, if_neg (by omega), if_pos a3, if_neg (by omega), add_zero, zero_add]
      · by_cases a6 : x.val = 16 * hd.val + 6
        · rw [if_pos ⟨by omega, by omega, Or.inr (Or.inr (by omega))⟩, if_neg (by omega), if_neg (by omega), if_pos a6, zero_add, zero_add]
        · rw [if_neg (by unfold part; omega), if_neg a0, if_neg a3, if_neg a6, mul_zero, add_zero, add_zero]
  rw [Finset.sum_congr rfl fun x _ => e x, Finset.sum_add_distrib, Finset.sum_add_distrib]
  simp only [Finset.sum_ite_eq', Finset.mem_univ, if_true]
  obtain ⟨z, rfl⟩ := EReal.canLift.prf z ⟨hz.1, hz.2⟩
  obtain ⟨x0, h0⟩ := EReal.canLift.prf _ (hA ⟨16 * hd.val, by omega⟩)
  obtain ⟨x3, h3⟩ := EReal.canLift.prf _ (hA ⟨16 * hd.val + 3, by omega⟩)
  obtain ⟨x6, h6⟩ := EReal.canLift.prf _ (hA ⟨16 * hd.val + 6, by omega⟩)
  rw [← h0, ← h3, ← h6]
  norm_cast
  ring

theorem first_only (B : Fin 128 → EReal) (hB : ∀ x : Fin 128, x.val ≠ 0 → B x = 0) : ∑ x, B x = B 0 :=
  (Finset.sum_eq_single 0 (fun x _ hx => hB x fun e => hx (Fin.ext e)) fun a => absurd (Finset.mem_univ _) a)

theorem range_all (f : Fin 8192 → EReal) (M : ℕ) (hM : M ≤ 8192) (h0 : ∀ y : Fin 8192, M ≤ y.val → f y = 0) :
    (∑ y ∈ Finset.range M, if hy : y < 8192 then f ⟨y, hy⟩ else 0) = ∑ y, f y := by
  rw [show (∑ y, f y) = ∑ y ∈ Finset.range 8192, (if hy : y < 8192 then f ⟨y, hy⟩ else 0) by
    rw [← Fin.sum_univ_eq_sum_range (fun y => if hy : y < 8192 then f ⟨y, hy⟩ else 0)]
    exact Finset.sum_congr rfl fun y _ => by rw [dif_pos y.isLt]]
  refine Finset.sum_subset (Finset.range_mono hM) fun y hy hn => ?_
  rw [Finset.mem_range] at hy hn
  rw [dif_pos hy]
  exact h0 _ (by show M ≤ y; omega)

theorem lane0 (hd : Fin 8) : 16 * hd.val < 128 := by omega
theorem lane3 (hd : Fin 8) : 16 * hd.val + 3 < 128 := by omega
theorem lane6 (hd : Fin 8) : 16 * hd.val + 6 < 128 := by omega

variable {hd : Fin 8} {h T : ℕ} (hT : h ≤ 512 * T) (hT' : T ≤ 16) {q a : Vec Ideal S2560x128 .bf16} {o : Vec Ideal S2560x128 .f32}
  {kt vt : Vec Ideal S256x8192 .bf16} {rr : Vec Ideal S8x8192 .f32} {kc vc : Vec Ideal S1x1x64x8192 .i8} {ks kz vs vz : Vec Ideal S1x8x8192 .f32}
  {rb : Fin 8192 → EReal} (r : Fin 2560)
  (hk : ∀ x (y : Fin 8192), y.val < 512 * T → kt (ix2 x y) = keyTile hd h kc kz x y)
  (hv : ∀ x (y : Fin 8192), y.val < 512 * T → vt (ix2 x y) = valTile hd h vc vz x y)
  (h0 : ∀ y : Fin 8192, y.val < 512 * T → rr (ix2 0 y) = if y.val < h then Ideal.ofBits .f32 1035273459#32 * ks (ix3 0 hd y) else 0)
  (h1 : ∀ y : Fin 8192, y.val < 512 * T → rr (ix2 1 y) = rb y)
  (h2 : ∀ y : Fin 8192, y.val < 512 * T → rr (ix2 2 y) = if y.val < h then vs (ix3 0 hd y) else 0)
  (ha : ∀ x, a (ix2 r x) ≠ ⊤ ∧ a (ix2 r x) ≠ ⊥) (hz : ∀ y, kz (ix3 0 hd y) ≠ ⊤ ∧ kz (ix3 0 hd y) ≠ ⊥)
  (hs : a (ix2 r ⟨16 * hd.val, lane0 hd⟩) + a (ix2 r ⟨16 * hd.val + 3, lane3 hd⟩) + a (ix2 r ⟨16 * hd.val + 6, lane6 hd⟩) = ∑ x, q (ix2 r x))

include hk h0 h1 h2 ha hz hs in
theorem prob_eq (y : Fin 8192) (hy : y.val < 512 * T) :
    prob q a kt rr r y = weight h (fun x => q (ix2 r x)) (fun p x => code (kc (ix4 0 0 ⟨x.val / 2, by omega⟩ p)) x.val)
      (fun p => ks (ix3 0 hd p)) (fun p => kz (ix3 0 hd p)) rb (fun p => vs (ix3 0 hd p)) y := by
  unfold prob weight weigh
  rw [h0 y hy, h1 y hy, h2 y hy]
  by_cases hh : y.val < h
  · rw [if_pos hh, if_pos hh, if_pos hh]
    have e : (∑ x : Fin 128, q (ix2 r x) * kt (ix2 ⟨x.val, by omega⟩ y)) + ∑ x : Fin 128, a (ix2 r x) * kt (ix2 ⟨128 + x.val, by omega⟩ y)
        = (∑ x : Fin 128, code (kc (ix4 0 0 ⟨x.val / 2, by omega⟩ y)) x.val * q (ix2 r x)) - (∑ x, q (ix2 r x)) * kz (ix3 0 hd y) := by
      rw [three_sum (fun x => a (ix2 r x)) ha (kz (ix3 0 hd y)) (hz y) hd (fun x => kt (ix2 ⟨128 + x.val, by omega⟩ y)) (fun x => by
        rw [hk _ y hy]
        unfold keyTile
        rw [dif_neg (by show ¬ 128 + x.val < 128; omega), if_pos hh]), hs, sub_eq_add_neg]
      refine congrArg (· + _) (Finset.sum_congr rfl fun x _ => ?_)
      rw [hk _ y hy]
      unfold keyTile
      rw [dif_pos (show x.val < 128 from x.isLt), mul_comm]
    rw [e]
    unfold score
    rw [mul_comm (_ - _) (_ * _)]
  · rw [if_neg hh, if_neg hh, if_neg hh, mul_zero, zero_mul]

include hT hT' hk hv h0 h1 h2 ha hz hs in
/-- The kernel's quotient over its tiles is the row's result. -/
theorem quot_eq (c : Fin 128) :
    quot q a o kt vt rr (512 * T) h r c = attend h (fun x => q (ix2 r x)) (fun p x => code (kc (ix4 0 0 ⟨x.val / 2, by omega⟩ p)) x.val)
      (fun p => ks (ix3 0 hd p)) (fun p => kz (ix3 0 hd p)) rb (fun p => vs (ix3 0 hd p))
      (fun p => code (vc (ix4 0 0 ⟨c.val / 2, by omega⟩ p)) c.val) (fun p => vz (ix3 0 hd p)) (o (ix2 r c)) := by
  have W0 : ∀ y : Fin 8192, h ≤ y.val → weight h (fun x => q (ix2 r x)) (fun p x => code (kc (ix4 0 0 ⟨x.val / 2, by omega⟩ p)) x.val)
      (fun p => ks (ix3 0 hd p)) (fun p => kz (ix3 0 hd p)) rb (fun p => vs (ix3 0 hd p)) y = 0 := fun y hy => by
    unfold weight; rw [if_neg (by omega), zero_mul]
  have D : ∀ (x : Fin 256) (V : Fin 8192 → EReal), (∀ y : Fin 8192, y.val < h → valTile hd h vc vz x y = V y) →
      dotTo q a kt vt rr (512 * T) r x = ∑ p, weight h (fun x => q (ix2 r x)) (fun p x => code (kc (ix4 0 0 ⟨x.val / 2, by omega⟩ p)) x.val)
      (fun p => ks (ix3 0 hd p)) (fun p => kz (ix3 0 hd p)) rb (fun p => vs (ix3 0 hd p)) p * V p := fun x V hV => by
    rw [← range_all _ (512 * T) (by omega) (fun y hy => by rw [W0 y (by omega), zero_mul])]
    unfold dotTo
    refine Finset.sum_congr rfl fun y hy => ?_
    rw [Finset.mem_range] at hy
    rw [dif_pos (show y < 8192 by omega), dif_pos (show y < 8192 by omega), prob_eq r hk h0 h1 h2 ha hz hs ⟨y, _⟩ hy]
    by_cases hh : y < h
    · rw [hv _ ⟨y, _⟩ hy, hV ⟨y, _⟩ hh]
    · rw [W0 ⟨y, _⟩ (by show h ≤ y; omega), zero_mul, zero_mul]
  unfold quot attend
  rw [first_only (fun x => dotTo q a kt vt rr (512 * T) r ⟨128 + x.val, by omega⟩) (fun x hx => by
      rw [D _ (fun _ => 0) (fun y hy => by
        unfold valTile
        rw [dif_neg (by show ¬ 128 + x.val < 128; omega), if_neg (by show ¬ 128 + x.val = 128; omega)])]
      exact Finset.sum_eq_zero fun y _ => mul_zero _),
    D _ (fun p => code (vc (ix4 0 0 ⟨c.val / 2, by omega⟩ p)) c.val) (fun y hy => by
      unfold valTile; rw [dif_pos (show c.val < 128 from c.isLt)]),
    D _ (fun p => vz (ix3 0 hd p)) (fun y hy => by
      unfold valTile
      rw [dif_neg (by show ¬ 128 + (0 : Fin 128).val < 128; omega), if_pos (by show 128 + (0 : Fin 128).val = 128; rfl), if_pos hy])]
  rfl

end Cert.KernelIdeal.Hand

end
-- ==== Proof.Ideal.Point.lean ====
/-
  One grid point: what the point leaves in the output block, from what the operand blocks hold.
-/
module

public import proofs.«01_k».proof.Proof.Ideal.Rows
public import proofs.«01_k».proof.Proof.Ideal.Attend

@[expose] public section

set_option maxRecDepth 16384

noncomputable section

namespace Cert.KernelIdeal.Hand

open Cert.KernelIdeal Cert.KernelIdeal.Gen
open Idealize.ShloMosaic Idealize.ShloMosaic.TcCoe

open Cert.Words

variable {c : Dev nD} {i : grid0.Coords} {arg2 : Memref sig .tc .smem S5 .i32} {harg2 : arg2.IsWhole} {arg3 : Memref sig .tc .smem S5 .i32} {harg3 : arg3.IsWhole} {arg4 : Memref sig .tc .vmem S2560x128 .bf16} {harg4 : arg4.IsWhole} {arg5 : Memref sig .tc .vmem S2560x128 .bf16} {harg5 : arg5.IsWhole} {arg6 : Memref sig .tc .vmem S2560x128 .f32} {harg6 : arg6.IsWhole} {arg7 : Memref sig .tc .vmem S8x8193 .f32} {harg7 : arg7.IsWhole} {arg8 : Memref sig .tc .vmem S1x1x64x8192 .i8} {harg8 : arg8.IsWhole} {arg9 : Memref sig .tc .vmem S1x1x64x8192 .i8} {harg9 : arg9.IsWhole} {arg10 : Memref sig .tc .vmem S1x8x8192 .f32} {harg10 : arg10.IsWhole} {arg11 : Memref sig .tc .vmem S1x8x8192 .f32} {harg11 : arg11.IsWhole} {arg12 : Memref sig .tc .vmem S1x8x8192 .f32} {harg12 : arg12.IsWhole} {arg13 : Memref sig .tc .vmem S1x8x8192 .f32} {harg13 : arg13.IsWhole} {arg14 : Memref sig .tc .vmem S2560x128 .f32} {harg14 : arg14.IsWhole} {arg15 : Memref sig .tc .vmem S256x8192 .bf16} {harg15 : arg15.IsWhole} {arg16 : Memref sig .tc .vmem S256x8192 .bf16} {harg16 : arg16.IsWhole} {arg17 : Memref sig .tc .vmem S8x8192 .f32} {harg17 : arg17.IsWhole} {arg18 : Memref sig .tc .vmem S256x256 .f32} {harg18 : arg18.IsWhole}
  {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty} {X9 : BufTy.Contents (Elt Ideal) arg9.view.ty} {X10 : BufTy.Contents (Elt Ideal) arg10.view.ty} {X11 : BufTy.Contents (Elt Ideal) arg11.view.ty} {X12 : BufTy.Contents (Elt Ideal) arg12.view.ty} {X13 : BufTy.Contents (Elt Ideal) arg13.view.ty} {X14 : BufTy.Contents (Elt Ideal) arg14.view.ty} {X15 : BufTy.Contents (Elt Ideal) arg15.view.ty} {X16 : BufTy.Contents (Elt Ideal) arg16.view.ty} {X17 : BufTy.Contents (Elt Ideal) arg17.view.ty} {X18 : BufTy.Contents (Elt Ideal) arg18.view.ty}

/-- The words a run reads, under other names. -/
theorem work_cast {v1 v5 v9 v13 v17 v21 v24 v19 v22 : BitVec 32} (e0 : word (F := Ideal) arg2 X2 ![0] inb_S5_S1_0 = v1) (e1 : word (F := Ideal) arg2 X2 ![1] inb_S5_S1_1 = v5) (e2 : word (F := Ideal) arg2 X2 ![2] inb_S5_S1_2 = v9) (e3 : word (F := Ideal) arg2 X2 ![3] inb_S5_S1_3 = v13) (e4 : word (F := Ideal) arg2 X2 ![4] inb_S5_S1_4 = v17) (e5 : word (F := Ideal) arg2 X2 (k0_off1 i) (k0_off1_inb i) = v21) (e6 : word (F := Ideal) arg3 X3 (k0_off1 i) (k0_off1_inb i) = v24)
    (e19 : start19 i v1 v5 v9 v13 v17 = v19) (e22 : Scalar.addi v19 v21 = v22)
    (hw : k0_chk1 i (word (F := Ideal) arg2 X2 ![0] inb_S5_S1_0) (word (F := Ideal) arg2 X2 ![1] inb_S5_S1_1) (word (F := Ideal) arg2 X2 ![2] inb_S5_S1_2) (word (F := Ideal) arg2 X2 ![3] inb_S5_S1_3) (word (F := Ideal) arg2 X2 ![4] inb_S5_S1_4) (word (F := Ideal) arg2 X2 (k0_off1 i) (k0_off1_inb i)) (word (F := Ideal) arg3 X3 (k0_off1 i) (k0_off1_inb i))) (h1 : k0_cond1 i (word (F := Ideal) arg2 X2 ![0] inb_S5_S1_0) (word (F := Ideal) arg2 X2 ![1] inb_S5_S1_1) (word (F := Ideal) arg2 X2 ![2] inb_S5_S1_2) (word (F := Ideal) arg2 X2 ![3] inb_S5_S1_3) (word (F := Ideal) arg2 X2 ![4] inb_S5_S1_4) (word (F := Ideal) arg2 X2 (k0_off1 i) (k0_off1_inb i)) (word (F := Ideal) arg3 X3 (k0_off1 i) (k0_off1_inb i)) = 1#1) :
    ∃ hw' h1', (work (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 X12 X13 _ _ _ _ _ _ _ _ _ rfl rfl rfl rfl rfl rfl rfl rfl rfl hw h1).1 X14 X15 X16 X17
      = (work (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 X12 X13 _ _ _ _ _ _ _ _ _ e0 e1 e2 e3 e4 e5 e6 e19 e22 hw' h1').1 X14 X15 X16 X17 := by
  subst e0 e1 e2 e3 e4 e5 e6 e19 e22
  exact ⟨hw, h1, rfl⟩

variable {w : Fin 5 → BitVec 32} {n : Fin 5 → ℕ} {h : ℕ} (hr : Ragged w n) (hh : h ≤ 8192)

include hr hh in
theorem trip1_bias {v19 v22 v28 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1) (a0 acc : BitVec 32)
    (k : Fin (k0_t1_loop i (w 0) (w 1) (w 2) (w 3) (w 4) (w (usr i)) (BitVec.ofNat 32 h)).trips)
    (f : BufTy.Contents (Elt Ideal) arg17.view.ty) (L : List (View.Piece (Elt Ideal) S8x8192 .f32)) (y : Fin 8192) :
    View.read (Elt Ideal) arg17.view (arg17.view.writes (Elt Ideal) f ((tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 k acc).2.2 ++ L)) (ix2 1 y)
      = View.read (Elt Ideal) arg17.view (arg17.view.writes (Elt Ideal) f L) (ix2 1 y) := by
  have hk := t1_lt hr hh i k
  unfold tripL_k0_t1 trip_k0_t1
  dsimp only
  rw [List.cons_append, List.cons_append, List.nil_append]
  have e5 := off5_eq hr hh i k
  have e4 := off4_eq hr hh i k
  rw [View.read_writes_cons_unit_of_not_mem _ _ _ _ _ _ e5 (0 : Fin 2) (Or.inl (by show (1 : ℕ) < 2; omega)),
    View.read_writes_cons_unit_of_not_mem _ _ _ _ _ _ e4 (0 : Fin 2) (Or.inr (by show 0 + 1 ≤ (1 : ℕ); omega))]

include hr hh in
theorem loop1_bias {v19 v22 v28 : BitVec 32} (hw : k0_chk1 i (w 0) (w 1) (w 2) (w 3) (w 4) (w (usr i)) (BitVec.ofNat 32 h))
    (h1 : k0_cond1 i (w 0) (w 1) (w 2) (w 3) (w 4) (w (usr i)) (BitVec.ofNat 32 h) = 1#1) (a0 init : BitVec 32) (m : ℕ) (hm : m ≤ (k0_t1_loop i (w 0) (w 1) (w 2) (w 3) (w 4) (w (usr i)) (BitVec.ofNat 32 h)).trips)
    (f : BufTy.Contents (Elt Ideal) arg17.view.ty) (y : Fin 8192) :
    View.read (Elt Ideal) arg17.view (arg17.view.writes (Elt Ideal) f (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 init m).2.2.2) (ix2 1 y)
      = View.read (Elt Ideal) arg17.view f (ix2 1 y) := by
  induction m with
  | zero => rfl
  | succ m ih =>
    rw [st_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 (w 0) (w 1) (w 2) (w 3) (w 4) v19 (w (usr i)) v22 (BitVec.ofNat 32 h) hw v28 h1 X8 X9 X10 X11 X12 X13 init ⟨m, hm⟩]
    dsimp only
    rw [trip1_bias hr hh hw h1 a0 _ ⟨m, hm⟩ f _ y]
    exact ih (by omega)

theorem k0_off2_eq (i : grid0.Coords) : k0_off2 i = ![(head i).val, 0] := by
  have h : (i 0).val < 8 := (i 0).isLt
  have e : (BitVec.ofNat 32 (i 0).val).toNat = (i 0).val := by rw [BitVec.toNat_ofNat]; omega
  funext a
  fin_cases a
  · exact e
  · rfl

theorem tiles_bound {c h : ℕ} (hc : 0 < c) (hh : h ≤ 8192) : h ≤ 512 * tiles c h ∧ tiles c h ≤ 16 := by
  unfold tiles
  rw [if_pos hc]
  omega

set_option maxHeartbeats 1000000 in
include hr hh in
/-- A point with work leaves the attention of its user's rows in them, from its operand blocks. -/
theorem point_read (e0 : word (F := Ideal) arg2 X2 ![0] inb_S5_S1_0 = w 0) (e1 : word (F := Ideal) arg2 X2 ![1] inb_S5_S1_1 = w 1) (e2 : word (F := Ideal) arg2 X2 ![2] inb_S5_S1_2 = w 2) (e3 : word (F := Ideal) arg2 X2 ![3] inb_S5_S1_3 = w 3) (e4 : word (F := Ideal) arg2 X2 ![4] inb_S5_S1_4 = w 4) (e5 : word (F := Ideal) arg2 X2 (k0_off1 i) (k0_off1_inb i) = w (usr i)) (e6 : word (F := Ideal) arg3 X3 (k0_off1 i) (k0_off1_inb i) = BitVec.ofNat 32 h)
    (e19 : start19 i (w 0) (w 1) (w 2) (w 3) (w 4) = (BitVec.ofNat 32 (first n (usr i).val))) (e22 : Scalar.addi (BitVec.ofNat 32 (first n (usr i).val)) (w (usr i)) = (BitVec.ofNat 32 (first n (usr i).val + n (usr i))))
    (hw : k0_chk1 i (w 0) (w 1) (w 2) (w 3) (w 4) (w (usr i)) (BitVec.ofNat 32 h)) (h1 : k0_cond1 i (w 0) (w 1) (w 2) (w 3) (w 4) (w (usr i)) (BitVec.ofNat 32 h) = 1#1) (r : Fin 2560) (c' : Fin 128)
    (hz : ∀ y, (View.read (Elt Ideal) arg11.view X11) (ix3 0 (head i) y) ≠ ⊤ ∧ (View.read (Elt Ideal) arg11.view X11) (ix3 0 (head i) y) ≠ ⊥)
    (hz' : ∀ y, (View.read (Elt Ideal) arg13.view X13) (ix3 0 (head i) y) ≠ ⊤ ∧ (View.read (Elt Ideal) arg13.view X13) (ix3 0 (head i) y) ≠ ⊥)
    (ha : ∀ x, (View.read (Elt Ideal) arg5.view X5) (ix2 r x) ≠ ⊤ ∧ (View.read (Elt Ideal) arg5.view X5) (ix2 r x) ≠ ⊥)
    (hs : (View.read (Elt Ideal) arg5.view X5) (ix2 r ⟨16 * (head i).val, lane0 (head i)⟩) + (View.read (Elt Ideal) arg5.view X5) (ix2 r ⟨16 * (head i).val + 3, lane3 (head i)⟩) + (View.read (Elt Ideal) arg5.view X5) (ix2 r ⟨16 * (head i).val + 6, lane6 (head i)⟩) = ∑ x, (View.read (Elt Ideal) arg4.view X4) (ix2 r x)) :
    View.read (Elt Ideal) arg14.view (arg14.view.writes (Elt Ideal) X14
        ((work (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X5 X6 X7 X8 X9 X10 X11 X12 X13 _ _ _ _ _ _ _ _ _ e0 e1 e2 e3 e4 e5 e6 e19 e22 hw h1).1 X14 X15 X16 X17)) (ix2 r c')
      = if first n (usr i).val ≤ r.val ∧ r.val < first n (usr i).val + n (usr i) then
          attend h (fun x => (View.read (Elt Ideal) arg4.view X4) (ix2 r x)) (fun p x => code ((View.read (Elt Ideal) arg8.view X8) (ix4 0 0 ⟨x.val / 2, by omega⟩ p)) x.val)
            (fun p => (View.read (Elt Ideal) arg10.view X10) (ix3 0 (head i) p)) (fun p => (View.read (Elt Ideal) arg11.view X11) (ix3 0 (head i) p))
            (fun p => (View.read (Elt Ideal) arg7.view X7) (ix2 (head i) ⟨(p.val + 8192 - h) % 8192, by omega⟩)) (fun p => (View.read (Elt Ideal) arg12.view X12) (ix3 0 (head i) p))
            (fun p => code ((View.read (Elt Ideal) arg9.view X9) (ix4 0 0 ⟨c'.val / 2, by omega⟩ p)) c'.val) (fun p => (View.read (Elt Ideal) arg13.view X13) (ix3 0 (head i) p)) ((View.read (Elt Ideal) arg6.view X6) (ix2 r c'))
        else View.read (Elt Ideal) arg14.view X14 (ix2 r c') := by
  obtain ⟨v28, a0, B, hB, e⟩ := work_read (X14 := X14) (X15 := X15) (X16 := X16) (X17 := X17) (X4 := X4) (X5 := X5) (X6 := X6) (X7 := X7) (X8 := X8) (X9 := X9) (X10 := X10) (X11 := X11) (X12 := X12) (X13 := X13) (harg14 := harg14) hr hh e0 e1 e2 e3 e4 e5 e6 e19 e22 hw h1 r c'
  refine e.trans ?_
  by_cases own : first n (usr i).val ≤ r.val ∧ r.val < first n (usr i).val + n (usr i)
  swap
  · rw [if_neg own, if_neg own]
  rw [if_pos own, if_pos own]
  obtain ⟨b1, b2⟩ := tiles_bound (c := n (usr i)) (by omega) hh
  have hm : B ≤ (k0_t1_loop i (w 0) (w 1) (w 2) (w 3) (w 4) (w (usr i)) (BitVec.ofNat 32 h)).trips := by
    rw [t1_trips hr hh]; exact le_of_eq hB
  refine quot_eq b1 b2 (hd := head i) r (fun x y hy => ?_) (fun x y hy => ?_) (fun y hy => ?_) (fun y hy => ?_) (fun y hy => ?_) ha hz hs c'
  · exact loop1_key hr hh hw h1 a0 0#32 B hm hz X15 x y (by rw [hB]; exact hy)
  · exact loop1_val hr hh hw h1 a0 0#32 B hm hz' X16 x y (by rw [hB]; exact hy)
  · rw [View.writes_append]
    exact (loop1_rows hr hh hw h1 a0 0#32 B hm _ 0 y (Or.inl rfl) (by rw [hB]; exact hy)).trans (by rw [if_pos (show (0 : Fin 8).val = 0 from rfl)])
  · rw [View.writes_append]
    refine (loop1_bias hr hh hw h1 a0 0#32 B hm _ y).trans ?_
    refine Eq.trans (View.read_writes_cons_unit_of_mem _ _ _ _ _ _ (ix2 (0 : Fin 1) y) rfl ?_) ?_
    · exact Fin.forall_fin_two.mpr ⟨by show (1 : ℕ) = 1 + 0; rfl, by show y.val = 0 + y.val; omega⟩
    rw [pay55_apply _ _ rfl hh]
    exact readAt_at _ _ _ (k0_off2_eq i) _ _ (Fin.forall_fin_two.mpr ⟨by show (head i).val = (head i).val + 0; rfl, by
      show (y.val + 8192 - h) % 8192 = 0 + (y.val + 8192 - h) % 8192; omega⟩)
  · rw [View.writes_append]
    exact (loop1_rows hr hh hw h1 a0 0#32 B hm _ 2 y (Or.inr rfl) (by rw [hB]; exact hy)).trans (by rw [if_neg (show ¬ (2 : Fin 8).val = 0 by decide)])

set_option maxHeartbeats 1000000 in
include hr hh in
/-- What a point leaves in the output block: the attention in its user's rows, and what was there in the others. -/
theorem stored_read {d2 : S5.Idx → Elt Ideal .i32} {d3 : S5.Idx → Elt Ideal .i32} {d4 : S2560x128.Idx → Elt Ideal .bf16} {d5 : S2560x128.Idx → Elt Ideal .bf16} {d6 : S2560x128.Idx → Elt Ideal .f32} {d7 : S8x8193.Idx → Elt Ideal .f32} {d8 : S1x1x64x8192.Idx → Elt Ideal .i8} {d9 : S1x1x64x8192.Idx → Elt Ideal .i8} {d10 : S1x8x8192.Idx → Elt Ideal .f32} {d11 : S1x8x8192.Idx → Elt Ideal .f32} {d12 : S1x8x8192.Idx → Elt Ideal .f32} {d13 : S1x8x8192.Idx → Elt Ideal .f32} {d14 d14' : S2560x128.Idx → Elt Ideal .f32} (hpos : 1 ≤ h)
    (hS : Stored (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 d2 d3 d4 d5 d6 d7 d8 d9 d10 d11 d12 d13 d14 d14')
    (he : ∀ X2, arg2.view.read (Elt Ideal) X2 = d2 → ∀ (o : Fin S5.rank → ℕ) (ho : ∀ a, o a + S1.size a ≤ S5.size a) (u : Fin 5), o 0 = u.val → word (F := Ideal) arg2 X2 o ho = w u)
    (he' : ∀ X3, arg3.view.read (Elt Ideal) X3 = d3 → word (F := Ideal) arg3 X3 (k0_off1 i) (k0_off1_inb i) = BitVec.ofNat 32 h)
    (ho : k0_off1 i 0 = (usr i).val)
    (hz : ∀ y, d11 (ix3 0 (head i) y) ≠ (⊤ : EReal) ∧ d11 (ix3 0 (head i) y) ≠ (⊥ : EReal))
    (hz' : ∀ y, d13 (ix3 0 (head i) y) ≠ (⊤ : EReal) ∧ d13 (ix3 0 (head i) y) ≠ (⊥ : EReal)) (r : Fin 2560) (c' : Fin 128)
    (ha : ∀ x, d5 (ix2 r x) ≠ (⊤ : EReal) ∧ d5 (ix2 r x) ≠ (⊥ : EReal))
    (hs : @Eq EReal (d5 (ix2 r ⟨16 * (head i).val, lane0 (head i)⟩) + d5 (ix2 r ⟨16 * (head i).val + 3, lane3 (head i)⟩) + d5 (ix2 r ⟨16 * (head i).val + 6, lane6 (head i)⟩)) (∑ x, (d4 (ix2 r x) : EReal))) :
    @Eq EReal (d14' (ix2 r c')) (if first n (usr i).val ≤ r.val ∧ r.val < first n (usr i).val + n (usr i) then
          attend h (fun x => d4 (ix2 r x)) (fun p x => code (d8 (ix4 0 0 ⟨x.val / 2, by omega⟩ p)) x.val)
            (fun p => d10 (ix3 0 (head i) p)) (fun p => d11 (ix3 0 (head i) p))
            (fun p => d7 (ix2 (head i) ⟨(p.val + 8192 - h) % 8192, by omega⟩)) (fun p => d12 (ix3 0 (head i) p))
            (fun p => code (d9 (ix4 0 0 ⟨c'.val / 2, by omega⟩ p)) c'.val) (fun p => d13 (ix3 0 (head i) p)) (d6 (ix2 r c'))
        else d14 (ix2 r c')) := by
  unfold Stored at hS
  obtain ⟨X2, X3, X4, X5, X6, X7, X8, X9, X10, X11, X12, X13, X14, X15, X16, X17, ⟨h2, h3, h4, h5, h6, h7, h8, h9, h10, h11, h12, h13, h14⟩, hc⟩ := hS
  have e0 := he X2 h2 ![0] inb_S5_S1_0 0 rfl
  have e1 := he X2 h2 ![1] inb_S5_S1_1 1 rfl
  have e2 := he X2 h2 ![2] inb_S5_S1_2 2 rfl
  have e3 := he X2 h2 ![3] inb_S5_S1_3 3 rfl
  have e4 := he X2 h2 ![4] inb_S5_S1_4 4 rfl
  have e5 := he X2 h2 (k0_off1 i) (k0_off1_inb i) (usr i) ho
  have e6 := he' X3 h3
  rcases hc with ⟨hn, rfl⟩ | ⟨hw, h1, rfl⟩
  · rw [e0, e1, e2, e3, e4, e5, e6, cond_iff hr hh i] at hn
    rw [if_neg]
    unfold tiles at hn
    split at hn
    · omega
    · omega
  · obtain ⟨hw', h1', e⟩ := work_cast (X14 := X14) (X15 := X15) (X16 := X16) (X17 := X17) e0 e1 e2 e3 e4 e5 e6 (start_word hr i) (by rw [hr.word, add_word]) hw h1
    rw [e]
    subst h4 h5 h6 h7 h8 h9 h10 h11 h12 h13 h14
    exact point_read hr hh e0 e1 e2 e3 e4 e5 e6 _ _ hw' h1' r c' hz hz' ha hs

end Cert.KernelIdeal.Hand

end
-- ==== Proof.Ideal.Value.lean ====
/-
  The launch's result: what the output array holds, from the argument arrays.
-/
module

public import proofs.«01_k».proof.Proof.Ideal.Point
public import proofs.«01_k».proof.Proof.Ideal.Frame
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe

open Cert.Words
open Idealize.ShloMosaic.Pipeline Idealize.SL.Sem

theorem head_num (i : grid0.Coords) : (BitVec.ofNat 32 (i 0).val).toNat = (head i).val := by
  have h : (i 0).val < 8 := (i 0).isLt
  rw [BitVec.toNat_ofNat]
  show _ = (i 0).val
  omega

theorem usr_num (i : grid0.Coords) : (BitVec.ofNat 32 (i 1).val).toNat = (usr i).val := by
  have h : (i 1).val < 5 := (i 1).isLt
  rw [BitVec.toNat_ofNat]
  show _ = (i 1).val
  omega

variable (m : (ℓ : Loc nD τ sig) → Buf (Elt Ideal) ℓ) (c : Dev nD) (t : Fin cfg0.N)

/-! ## The operand blocks -/

theorem iblk_2 (r : Fin 2560) (x : Fin 128) :
    iblk m c 2 t (ix2 r x) = m ((c.tc : Thread nD τ).loc main_arg2) (ix2 r ⟨(head (grid0.coords t)).val * 128 + x.val, by have := (head (grid0.coords t)).isLt; omega⟩) := by
  unfold iblk
  rw [View.read_apply, cast_eq]
  refine congrArg (m ((c.tc : Thread nD τ).loc main_arg2)) (funext fun (a : Fin 2) => ?_)
  apply Fin.ext
  fin_cases a
  · show 0 * 2560 + 1 * r.val = r.val
    omega
  · show (BitVec.ofNat 32 (grid0.coords t 0).val).toNat * 128 + 1 * x.val = (head (grid0.coords t)).val * 128 + x.val
    rw [head_num]; omega

theorem iblk_3 (r : Fin 2560) (x : Fin 128) :
    iblk m c 3 t (ix2 r x) = m ((c.tc : Thread nD τ).loc main_arg3) (ix2 r x) := by
  unfold iblk
  rw [View.read_apply, cast_eq]
  refine congrArg (m ((c.tc : Thread nD τ).loc main_arg3)) (funext fun (a : Fin 2) => ?_)
  apply Fin.ext
  fin_cases a
  · show 0 * 2560 + 1 * r.val = r.val
    omega
  · show 0 * 128 + 1 * x.val = x.val
    omega

theorem iblk_4 (r : Fin 2560) (x : Fin 128) :
    iblk m c 4 t (ix2 r x) = m ((c.tc : Thread nD τ).loc main_arg4) (ix2 r ⟨(head (grid0.coords t)).val * 128 + x.val, by have := (head (grid0.coords t)).isLt; omega⟩) := by
  unfold iblk
  rw [View.read_apply, cast_eq]
  refine congrArg (m ((c.tc : Thread nD τ).loc main_arg4)) (funext fun (a : Fin 2) => ?_)
  apply Fin.ext
  fin_cases a
  · show 0 * 2560 + 1 * r.val = r.val
    omega
  · show (BitVec.ofNat 32 (grid0.coords t 0).val).toNat * 128 + 1 * x.val = (head (grid0.coords t)).val * 128 + x.val
    rw [head_num]; omega

theorem iblk_5 (d : Fin 8) (p : Fin 8193) :
    iblk m c 5 t (ix2 d p) = m ((c.tc : Thread nD τ).loc main_arg5) (ix2 d p) := by
  unfold iblk
  rw [View.read_apply, cast_eq]
  refine congrArg (m ((c.tc : Thread nD τ).loc main_arg5)) (funext fun (a : Fin 2) => ?_)
  apply Fin.ext
  fin_cases a
  · show 0 * 8 + 1 * d.val = d.val
    omega
  · show 0 * 8193 + 1 * p.val = p.val
    omega

theorem iblk_6 (x : Fin 64) (p : Fin 8192) :
    iblk m c 6 t (ix4 0 0 x p) = m ((c.tc : Thread nD τ).loc main_arg6) (ix4 (usr (grid0.coords t)) (head (grid0.coords t)) x p) := by
  unfold iblk
  rw [View.read_apply, cast_eq]
  refine congrArg (m ((c.tc : Thread nD τ).loc main_arg6)) (funext fun (a : Fin 4) => ?_)
  apply Fin.ext
  fin_cases a
  · show (BitVec.ofNat 32 (grid0.coords t 1).val).toNat * 1 + 1 * 0 = (usr (grid0.coords t)).val
    rw [usr_num]; omega
  · show (BitVec.ofNat 32 (grid0.coords t 0).val).toNat * 1 + 1 * 0 = (head (grid0.coords t)).val
    rw [head_num]; omega
  · show 0 * 64 + 1 * x.val = x.val
    omega
  · show 0 * 8192 + 1 * p.val = p.val
    omega

theorem iblk_7 (x : Fin 64) (p : Fin 8192) :
    iblk m c 7 t (ix4 0 0 x p) = m ((c.tc : Thread nD τ).loc main_arg7) (ix4 (usr (grid0.coords t)) (head (grid0.coords t)) x p) := by
  unfold iblk
  rw [View.read_apply, cast_eq]
  refine congrArg (m ((c.tc : Thread nD τ).loc main_arg7)) (funext fun (a : Fin 4) => ?_)
  apply Fin.ext
  fin_cases a
  · show (BitVec.ofNat 32 (grid0.coords t 1).val).toNat * 1 + 1 * 0 = (usr (grid0.coords t)).val
    rw [usr_num]; omega
  · show (BitVec.ofNat 32 (grid0.coords t 0).val).toNat * 1 + 1 * 0 = (head (grid0.coords t)).val
    rw [head_num]; omega
  · show 0 * 64 + 1 * x.val = x.val
    omega
  · show 0 * 8192 + 1 * p.val = p.val
    omega

theorem iblk_8 (d : Fin 8) (p : Fin 8192) :
    iblk m c 8 t (ix3 0 d p) = m ((c.tc : Thread nD τ).loc main_arg8) (ix3 (usr (grid0.coords t)) d p) := by
  unfold iblk
  rw [View.read_apply, cast_eq]
  refine congrArg (m ((c.tc : Thread nD τ).loc main_arg8)) (funext fun (a : Fin 3) => ?_)
  apply Fin.ext
  fin_cases a
  · show (BitVec.ofNat 32 (grid0.coords t 1).val).toNat * 1 + 1 * 0 = (usr (grid0.coords t)).val
    rw [usr_num]; omega
  · show 0 * 8 + 1 * d.val = d.val
    omega
  · show 0 * 8192 + 1 * p.val = p.val
    omega

theorem iblk_9 (d : Fin 8) (p : Fin 8192) :
    iblk m c 9 t (ix3 0 d p) = m ((c.tc : Thread nD τ).loc main_arg9) (ix3 (usr (grid0.coords t)) d p) := by
  unfold iblk
  rw [View.read_apply, cast_eq]
  refine congrArg (m ((c.tc : Thread nD τ).loc main_arg9)) (funext fun (a : Fin 3) => ?_)
  apply Fin.ext
  fin_cases a
  · show (BitVec.ofNat 32 (grid0.coords t 1).val).toNat * 1 + 1 * 0 = (usr (grid0.coords t)).val
    rw [usr_num]; omega
  · show 0 * 8 + 1 * d.val = d.val
    omega
  · show 0 * 8192 + 1 * p.val = p.val
    omega

theorem iblk_10 (d : Fin 8) (p : Fin 8192) :
    iblk m c 10 t (ix3 0 d p) = m ((c.tc : Thread nD τ).loc main_arg10) (ix3 (usr (grid0.coords t)) d p) := by
  unfold iblk
  rw [View.read_apply, cast_eq]
  refine congrArg (m ((c.tc : Thread nD τ).loc main_arg10)) (funext fun (a : Fin 3) => ?_)
  apply Fin.ext
  fin_cases a
  · show (BitVec.ofNat 32 (grid0.coords t 1).val).toNat * 1 + 1 * 0 = (usr (grid0.coords t)).val
    rw [usr_num]; omega
  · show 0 * 8 + 1 * d.val = d.val
    omega
  · show 0 * 8192 + 1 * p.val = p.val
    omega

theorem iblk_11 (d : Fin 8) (p : Fin 8192) :
    iblk m c 11 t (ix3 0 d p) = m ((c.tc : Thread nD τ).loc main_arg11) (ix3 (usr (grid0.coords t)) d p) := by
  unfold iblk
  rw [View.read_apply, cast_eq]
  refine congrArg (m ((c.tc : Thread nD τ).loc main_arg11)) (funext fun (a : Fin 3) => ?_)
  apply Fin.ext
  fin_cases a
  · show (BitVec.ofNat 32 (grid0.coords t 1).val).toNat * 1 + 1 * 0 = (usr (grid0.coords t)).val
    rw [usr_num]; omega
  · show 0 * 8 + 1 * d.val = d.val
    omega
  · show 0 * 8192 + 1 * p.val = p.val
    omega

/-! ## The relation -/

/-- The values are described: the part sums and the zero points are finite, and a head's three part lanes add up to its
    query lanes. -/
structure Described (q : Vec Ideal S2560x1024 .bf16) (a : Vec Ideal S2560x128 .bf16) (kz vz : Vec Ideal S5x8x8192 .f32) : Prop where
  part : ∀ r x, a (ix2 r x) ≠ ⊤ ∧ a (ix2 r x) ≠ ⊥
  kz : ∀ u d p, kz (ix3 u d p) ≠ ⊤ ∧ kz (ix3 u d p) ≠ ⊥
  vz : ∀ u d p, vz (ix3 u d p) ≠ ⊤ ∧ vz (ix3 u d p) ≠ ⊥
  aug : ∀ (r : Fin 2560) (d : Fin 8), a (ix2 r ⟨16 * d.val, lane0 d⟩) + a (ix2 r ⟨16 * d.val + 3, lane3 d⟩) + a (ix2 r ⟨16 * d.val + 6, lane6 d⟩)
    = ∑ x : Fin 128, q (ix2 r ⟨d.val * 128 + x.val, by omega⟩)

/-- The rows of the users up to number `k` hold their results in head `d`'s block. -/
def Done (n h : Fin 5 → ℕ) (d : Fin 8) (k : ℕ) (X : S2560x128.Idx → Elt Ideal .f32) : Prop :=
  ∀ (u : Fin 5) (r : Fin 2560) (y : Fin 128), u.val ≤ k → first n u.val ≤ r.val → r.val < first n u.val + n u →
    @Eq EReal (X (ix2 r y)) (valueAt h (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) u r ⟨d.val * 128 + y.val, by omega⟩)

variable {m c} in
/-- A point carries the relation from the users before its own to its own. -/
theorem step {n h : Fin 5 → ℕ} (H : Inputs m c n h) (D : Described (m ((c.tc : Thread nD τ).loc main_arg2)) (m ((c.tc : Thread nD τ).loc main_arg3)) (m ((c.tc : Thread nD τ).loc main_arg9)) (m ((c.tc : Thread nD τ).loc main_arg11))) (Y X : S2560x128.Idx → Elt Ideal .f32)
    (hY : ∀ u : ℕ, u < (usr (grid0.coords t)).val → Done m c n h (head (grid0.coords t)) u Y) (hS : StoredAt m c t Y X) : Done m c n h (head (grid0.coords t)) (usr (grid0.coords t)).val X := by
  intro u r y hu h1 h2
  have e := stored_read (i := grid0.coords t) H.ragged (H.le (usr (grid0.coords t))) (H.pos (usr (grid0.coords t))) hS
    (fun X2 h o ho u hu => read_word0 m c t X2 h o ho u hu)
    (fun X3 h => (read_word1 m c t X3 h _ _ (usr (grid0.coords t)) (off1_usr _)).trans (H.hist (usr (grid0.coords t)))) (off1_usr _)
    (fun y => by rw [iblk_9]; exact D.kz _ _ _) (fun y => by rw [iblk_11]; exact D.vz _ _ _) r y
    (fun x => by rw [iblk_3]; exact D.part _ _)
    (by
      rw [iblk_3, iblk_3, iblk_3]
      refine (D.aug r (head (grid0.coords t))).trans (Finset.sum_congr rfl fun x _ => ?_)
      rw [iblk_2])
  refine e.trans ?_
  by_cases own : first n (usr (grid0.coords t)).val ≤ r.val ∧ r.val < first n (usr (grid0.coords t)).val + n (usr (grid0.coords t))
  · rw [if_pos own]
    obtain rfl : u = (usr (grid0.coords t)) := own_unique n r.val u (usr (grid0.coords t)) ⟨h1, h2⟩ own
    unfold valueAt
    simp only [iblk_2, iblk_4, iblk_5, iblk_6, iblk_7, iblk_8, iblk_9, iblk_10, iblk_11]
    have q1 : ((head (grid0.coords t)).val * 128 + y.val) / 128 = (head (grid0.coords t)).val := by omega
    have q2 : ((head (grid0.coords t)).val * 128 + y.val) % 128 = y.val := by omega
    simp only [q1, q2]
  · rw [if_neg own]
    have ne : u ≠ (usr (grid0.coords t)) := fun e => own (e ▸ ⟨h1, h2⟩)
    have lt : u.val < (usr (grid0.coords t)).val := lt_of_le_of_ne hu fun e => ne (Fin.ext e)
    exact hY u.val lt u r y le_rfl h1 h2

/-! ## The launch -/

theorem usr_mod (t : Fin cfg0.N) : (usr (grid0.coords t)).val = t.val % 5 := by
  show (grid0.coords t 1).val = _
  rw [Grid.coords_val (G := grid0) t 1 (S := 1) (B := 5) (by decide) rfl, Nat.div_one]

theorem head_div (t : Fin cfg0.N) : (head (grid0.coords t)).val = t.val / 5 % 8 := by
  show (grid0.coords t 0).val = _
  rw [Grid.coords_val (G := grid0) t 0 (S := 5) (B := 8) (by decide) rfl]

/-- What each point leaves in the output block. -/
def Rel (m : (ℓ : Loc nD τ sig) → Buf (Elt Ideal) ℓ) (n h : Dev nD → Fin 5 → ℕ) (c : Dev nD) : RelTy (F := Ideal) := fun w t X => match w, X with
  | ⟨12, _⟩, X => Done m c (n c) (h c) (head (grid0.coords t)) (usr (grid0.coords t)).val X
  | ⟨_, _⟩, _ => True

/-- What one element of the output array holds. -/
def Final (n h : Fin 5 → ℕ) (i : S2560x1024.Idx) (v : EReal) : Prop :=
  ∀ u : Fin 5, first n u.val ≤ (i 0).val → (i 0).val < first n u.val + n u → v = valueAt h (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) u (i 0) (i 1)

theorem found {n h : Dev nD → Fin 5 → ℕ} (Y : S2560x128.Idx → Elt Ideal .f32)
    (hF : ((dats m 0 c).toRRel forgets0 (Rel m n h c)).Finds 12 t Y) : ∀ u : ℕ, u < (usr (grid0.coords t)).val → Done m c (n c) (h c) (head (grid0.coords t)) u Y := by
  intro u hu
  rw [usr_mod] at hu
  have h0 : t.val ≠ 0 := by omega
  rw [RDat.finds_of_pos _ (Window.fetch_out (cfg0.win 12) rfl t) h0] at hF
  rcases hF with hF | hF
  · rw [flush0_12] at hF
    have : (t.val - 1) % 5 = 4 := hF
    omega
  · have d : Done m c (n c) (h c) (head (grid0.coords ⟨t.val - 1, _⟩)) (usr (grid0.coords ⟨t.val - 1, _⟩)).val Y :=
      (dats m 0 c).toRRel_leaves (w := 12) rfl hF
    have e : head (grid0.coords ⟨t.val - 1, Nat.lt_of_le_of_lt (Nat.sub_le _ _) t.isLt⟩) = (head (grid0.coords t)) := Fin.ext (by
      rw [head_div, head_div]
      show (t.val - 1) / 5 % 8 = _
      omega)
    have e' : (usr (grid0.coords ⟨t.val - 1, Nat.lt_of_le_of_lt (Nat.sub_le _ _) t.isLt⟩)).val = t.val % 5 - 1 := by
      rw [usr_mod]
      show (t.val - 1) % 5 = _
      omega
    rw [e, e'] at d
    exact fun v r y hv => d v r y (by omega)

/-- The kernel terminates; every user's rows of the output hold their results, the operands end unchanged, and every
    semaphore ends at zero. -/
theorem value_main (ρ : Dev nD → PrngReg) (n h : Dev nD → Fin 5 → ℕ) (H : ∀ c, Inputs m c (n c) (h c))
    (D : ∀ c : Dev nD, Described (m ((c.tc : Thread nD τ).loc main_arg2)) (m ((c.tc : Thread nD τ).loc main_arg3)) (m ((c.tc : Thread nD τ).loc main_arg9)) (m ((c.tc : Thread nD τ).loc main_arg11))) :
    θ_run defs (onTc (τ := τ) (main (F := Ideal))) ⟨m, fun _ => 0, ρ⟩ (fun r => (∀ c : Dev nD,
      (∀ i : S2560x1024.Idx, Final m c (n c) (h c) i (r.2.mem ((c.tc : Thread nD τ).loc main_v0) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine (θ_run defs _ _).mono (fun r g => ⟨fun c => ⟨?_, (g.1.arr_in c 0 rfl).trans ((A_eq m c 0).trans (V_main_arg0 m c)),
      (g.1.arr_in c 1 rfl).trans ((A_eq m c 1).trans (V_main_arg1 m c)),
      (g.1.arr_in c 2 rfl).trans ((A_eq m c 2).trans (V_main_arg2 m c)),
      (g.1.arr_in c 3 rfl).trans ((A_eq m c 3).trans (V_main_arg3 m c)),
      (g.1.arr_in c 4 rfl).trans ((A_eq m c 4).trans (V_main_arg4 m c)),
      (g.1.arr_in c 5 rfl).trans ((A_eq m c 5).trans (V_main_arg5 m c)),
      (g.1.arr_in c 6 rfl).trans ((A_eq m c 6).trans (V_main_arg6 m c)),
      (g.1.arr_in c 7 rfl).trans ((A_eq m c 7).trans (V_main_arg7 m c)),
      (g.1.arr_in c 8 rfl).trans ((A_eq m c 8).trans (V_main_arg8 m c)),
      (g.1.arr_in c 9 rfl).trans ((A_eq m c 9).trans (V_main_arg9 m c)),
      (g.1.arr_in c 10 rfl).trans ((A_eq m c 10).trans (V_main_arg10 m c)),
      (g.1.arr_in c 11 rfl).trans ((A_eq m c 11).trans (V_main_arg11 m c))⟩, g.2⟩)
    (run_main (ρ := ρ) m (fun c => checked m c (H c)) (Rel m n h) (fun c t Y X hF hS => step t (H c) (D c) Y X (found m c t Y hF) hS))
  obtain ⟨after, hL, hA⟩ := g.1.exists_exact c
  intro i
  have a : r.2.mem ((c.tc : Thread nD τ).loc main_v0) = _ := hA 12
  rw [a]
  refine Dat.arrAt_forall_of_covers (c := c) (cfg := cfg0) (Val := Elt Ideal) (((dats m 0 c).toRRel forgets0 (Rel m n h c)).withAfter after) 12 (fun (i : S2560x1024.Idx) (v : EReal) => Final m c (n c) (h c) i v) (by decide +kernel) (fun t hf y => ?_) i
  intro u h1 h2
  have d : Done m c (n c) (h c) (head (grid0.coords t)) (usr (grid0.coords t)).val (after 12 t) := (dats m 0 c).toRRel_leaves (w := 12) rfl (hL 12 t hf)
  have q : (usr (grid0.coords t)).val = 4 := by rw [usr_mod]; exact (flush0_12 t).1 hf
  have y0 : (y (0 : Fin 2)).val < 2560 := (y (0 : Fin 2)).isLt
  have y1 : (y (1 : Fin 2)).val < 128 := (y (1 : Fin 2)).isLt
  have i0 : ((((cfg0.win 12).blk t).view.emb y : S2560x1024.Idx) 0).val = (y (0 : Fin 2)).val := by
    show 0 * 2560 + 1 * (y (0 : Fin 2)).val = _
    omega
  have i1 : ((((cfg0.win 12).blk t).view.emb y : S2560x1024.Idx) 1).val = (head (grid0.coords t)).val * 128 + (y (1 : Fin 2)).val := by
    show (BitVec.ofNat 32 (grid0.coords t 0).val).toNat * 128 + 1 * (y (1 : Fin 2)).val = _
    rw [head_num]; omega
  have ul := u.isLt
  refine Eq.trans (b := after 12 t (ix2 ⟨(y (0 : Fin 2)).val, y0⟩ ⟨(y (1 : Fin 2)).val, y1⟩ : S2560x128.Idx)) (congrArg (after 12 t) (eq_ix2 (n0 := 2560) (n1 := 128) _)) ?_
  refine (d u ⟨(y (0 : Fin 2)).val, y0⟩ ⟨(y (1 : Fin 2)).val, y1⟩ (by omega) (by rw [← i0]; exact h1) (by rw [← i0]; exact h2)).trans ?_
  exact congrArg₂ (fun a b => valueAt (h c) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) u a b) (Fin.ext i0.symm) (Fin.ext i1.symm)

end Cert.KernelIdeal.Hand

end
-- ==== Proof.Described.lean ====
/-
  The second precondition, read back: the ragged conditions, the three lanes of every query's augmented columns that sum to
  the query's own sum, and the finite augmented columns and zero points.
-/
module

public import proofs.«01_k».proof.Pre_described
public import proofs.«01_k».proof.Proof.Decode
public import proofs.«01_k».proof.Proof.Ideal.Value
public import Idealize.ShloMosaic.Lib.ReduceAll

@[expose] public section

set_option maxRecDepth 16384

noncomputable section

namespace Cert.Pre_described

open Idealize.ShloMosaic Cert.KernelIdeal.Hand

instance facts : Facts where
  bitsLt_bf16_f32 := by decide
  shapeCasts_S2560x128_S2560x8x16 := by decide
  slices_S2560x8x16_S2560x8x1_0_0_0 := by decide
  shapeCasts_S2560x8x1_S2560x8 := by decide
  slices_S2560x8x16_S2560x8x1_0_0_3 := by decide
  slices_S2560x8x16_S2560x8x1_0_0_6 := by decide
  shapeCasts_S2560x1024_S2560x8x128 := by decide
  reducesTo_S2560x8x128_S2560x8_d2 := by decide
  h_S_ := by decide
  bcast_S_S2560x8x16 := by decide
  reducesTo_S2560x8x16_S_d0_1_2 := by decide
  bcast_S_S5x8x8192 := by decide
  reducesTo_S5x8x8192_S_d0_1_2 := by decide
  bcast_S_S5 := by decide
  reducesTo_S5_S_d0 := by decide
  reducesTo_S2560x8_S_d0_1 := by decide

instance : Subsingleton S_.Idx := ⟨fun a b => funext fun i => i.elim0⟩

/-- A value whose absolute value is below infinity is finite. -/
theorem finite_of (x : EReal) (h : Ideal.cmp .olt (max x (-x)) (Ideal.ofBits .f32 0x7F800000#32) = 1#1) : x ≠ ⊤ ∧ x ≠ ⊥ := by
  rw [show Ideal.ofBits .f32 0x7F800000#32 = ⊤ by simp [Ideal.ofBits, Ideal.ieee]] at h
  constructor <;> rintro rfl <;> simp [Ideal.cmp] at h

theorem eq_of_oeq (x y : EReal) (h : Ideal.cmp .oeq x y = 1#1) : x = y := by
  by_contra a
  simp [Ideal.cmp, a] at h

theorem decode (x0 x1 : IVec S5 32) (x2 : FVec Ideal S2560x1024 .bf16) (x3 : FVec Ideal S2560x128 .bf16)
    (x4 : FVec Ideal S2560x1024 .f32) (x5 : FVec Ideal S8x8193 .f32) (x6 x7 : IVec S5x8x64x8192 8) (x8 x9 x10 x11 : FVec Ideal S5x8x8192 .f32)
    (h : fn (F := Ideal) x0 x1 x2 x3 x4 x5 x6 x7 x8 x9 x10 x11 = fun _ => 1#1) :
    Pre_ragged.fn (F := Ideal) x0 x1 x2 x3 x4 x5 x6 x7 x8 x9 x10 x11 = (fun _ => 1#1) ∧ Described x2 x3 x9 x11 := by
  have key := fun u : S5.Idx => IntOp.andi_eq_one.1 (show IntOp.andi (Pre_ragged.fn (F := Ideal) x0 x1 x2 x3 x4 x5 x6 x7 x8 x9 x10 x11 u) _ = 1#1 from congrFun h u)
  refine ⟨funext fun u => (key u).1, ?_⟩
  obtain ⟨hs, hf⟩ := IntOp.andi_eq_one.1 (key (ix1 0)).2
  obtain ⟨hf, hv⟩ := IntOp.andi_eq_one.1 hf
  obtain ⟨hp, hk⟩ := IntOp.andi_eq_one.1 hf
  have hs := Host.reduce_andi_all _ _ _ _ _ hs
  have hp := Host.reduce_andi_all _ _ _ _ _ hp
  have hk := Host.reduce_andi_all _ _ _ _ _ hk
  have hv := Host.reduce_andi_all _ _ _ _ _ hv
  refine ⟨fun r x => ?_, fun u d p => finite_of _ (hk (ix3 u d p)), fun u d p => finite_of _ (hv (ix3 u d p)), fun r d => ?_⟩
  · have a := finite_of _ (hp (ix3 r ⟨x.val / 16, by omega⟩ ⟨x.val % 16, by omega⟩))
    have e : @Eq EReal (shapeCast S2560x8x16 (extf (F := Ideal) .f32 x3 facts.bitsLt_bf16_f32) facts.shapeCasts_S2560x128_S2560x8x16 (ix3 r ⟨x.val / 16, by omega⟩ ⟨x.val % 16, by omega⟩)) (x3 (ix2 r x)) := by
      pointwise []
    exact e ▸ a
  · have a := eq_of_oeq _ _ (hs (ix2 r d))
    pointwise [] at a
    refine Eq.trans (congrArg₂ (· + ·) (congrArg₂ (· + ·) ?_ ?_) ?_) a <;>
      exact congrArg (fun y => x3 (ix2 r y)) (Fin.ext (by simp only []; omega))

end Cert.Pre_described

end
-- ==== Proof.OutSpec.lean ====
module

public import Idealize.ShloMosaic.Lib.Routing.Ops
public import proofs.«01_k».proof.Proof.Ideal.Attend

/-! # One row of the output stage, in extended reals

The normalisation, gate, quantiser, projection, residual and second quantiser of one row of 1024 numbers.
Both programs are read as these functions: the kernel on blocks of 256 rows, the reference on all 2560. -/

@[expose] public section
noncomputable section
namespace Cert.OutSpec
open Idealize.ShloMosaic

/-- The mean of a row. -/
def mean (o : Fin 1024 → EReal) : EReal := Ideal.div (∑ i, o i) (Ideal.ofBits FTy.f32 1149239296#32)

/-- A row normalised, scaled, shifted and gated. -/
def gated (o u g b : Fin 1024 → EReal) (j : Fin 1024) : EReal :=
  ((o j - mean o) *
      Ideal.rsqrt (Ideal.div (∑ i, (o i - mean o) * (o i - mean o)) (Ideal.ofBits FTy.f32 1149239296#32)
        + Ideal.ofBits FTy.f32 897988541#32) * g j + b j) * u j

/-- The largest absolute value of a row. -/
def top (v : Fin 1024 → EReal) : EReal :=
  Finset.fold max (Ideal.ofBits FTy.f32 4286578688#32) (fun i => FloatOps.absf (F := Ideal) (φ := .f32) (v i)) Finset.univ

/-- A row's scale: its largest absolute value over 448, or one if the row is zero. -/
def scale (v : Fin 1024 → EReal) : EReal :=
  if top v = 0 then 1 else Ideal.div (top v) (Ideal.ofBits FTy.f32 1138753536#32)

/-- A row over its scale, kept within ±448. -/
def code (v : Fin 1024 → EReal) (j : Fin 1024) : EReal :=
  min (Ideal.ofBits FTy.f32 1138753536#32)
    (max (Ideal.ofBits FTy.f32 3286237184#32) (Ideal.div (v j) (scale v)))

/-- The projection of a quantised row, with bias and residual. -/
def proj (v x : Fin 1024 → EReal) (w : Fin 1024 → Fin 1024 → EReal) (ws bo : Fin 1024 → EReal)
    (j : Fin 1024) : EReal :=
  (∑ i, code v i * w i j) * scale v * ws j + bo j + x j

/-- One logit of a quantised row. -/
def logit (y wh : Fin 1024 → EReal) (whs bh : EReal) : EReal :=
  (∑ i, wh i * code y i) * scale y * whs + bh

end Cert.OutSpec
end
-- ==== Proof.OutBlock.lean ====
module

public import proofs.«01_k».proof.Proof.Gen.OutputIdeal.Value
public import proofs.«01_k».proof.Proof.OutSpec

/-! # The kernel's output stage on a block of 256 rows, row by row -/

@[expose] public section

set_option maxRecDepth 16384

noncomputable section

namespace Cert.OutputIdeal.Hand

open Cert.OutputIdeal Cert.OutputIdeal.Gen
open Idealize.ShloMosaic
open Cert.OutSpec

variable (x0 x1 : Vec Ideal S256x1024 .f32) (x2 : Vec Ideal S256x1024 .bf16) (x3 x4 : Vec Ideal S1x1024 .f32)
  (x5 : Vec Ideal S1024x1024 .fp8e4m3) (x6 x7 : Vec Ideal S1x1024 .f32) (x8 : Vec Ideal S16x1024 .fp8e4m3) (x9 x10 : Vec Ideal S16x1 .f32)

/-- The gated, normalised row. -/
abbrev hrow (r : Fin 256) : Fin 1024 → EReal :=
  gated (fun j => x0 (ix2 r j)) (fun j => x1 (ix2 r j)) (fun j => x3 (ix2 0 j)) (fun j => x4 (ix2 0 j))

/-- The projected row. -/
abbrev yrow (r : Fin 256) : Fin 1024 → EReal :=
  proj (hrow x0 x1 x3 x4 r) (fun j => x2 (ix2 r j)) (fun i j => x5 (ix2 i j)) (fun j => x6 (ix2 0 j)) (fun j => x7 (ix2 0 j))

theorem pay5_at (r : Fin 256) (j : Fin 1024) :
    @Eq EReal (k0_pay5 x0 x3 x4 x1 (ix2 r j)) (hrow x0 x1 x3 x4 r j) := by
  pointwise [k0_pay5]
  rfl

theorem pay6_at (r : Fin 256) :
    @Eq EReal (k0_pay6 x0 x3 x4 x1 (ix2 r 0)) (scale (hrow x0 x1 x3 x4 r)) := by
  pointwise [k0_pay6]
  simp only [pay5_at]
  rfl

theorem pay7_at (r : Fin 256) (j : Fin 1024) :
    @Eq EReal (k0_pay7 x0 x3 x4 x1 (ix2 r j)) (code (hrow x0 x1 x3 x4 r) j) := by
  pointwise [k0_pay7]
  simp only [pay5_at, pay6_at]
  rfl

theorem pay8_at (r : Fin 256) (j : Fin 1024) :
    @Eq EReal (k0_pay8 (k0_pay7 x0 x3 x4 x1) (ix2 r j)) (code (hrow x0 x1 x3 x4 r) j) := by
  pointwise [k0_pay8]
  exact pay7_at x0 x1 x3 x4 r j

theorem pay9_at (r : Fin 256) (j : Fin 1024) :
    @Eq EReal (k0_pay9 (k0_pay6 x0 x3 x4 x1) (k0_pay7 x0 x3 x4 x1) x5 x6 x7 x2 (ix2 r j)) (yrow x0 x1 x2 x3 x4 x5 x6 x7 r j) := by
  pointwise [k0_pay9, k0_pay8]
  simp only [pay6_at, pay7_at]
  rfl

theorem pay10_at (r : Fin 256) (j : Fin 1024) :
    @Eq EReal (k0_pay10 (k0_pay6 x0 x3 x4 x1) (k0_pay7 x0 x3 x4 x1) x5 x6 x7 x2 (ix2 r j)) (yrow x0 x1 x2 x3 x4 x5 x6 x7 r j) := by
  pointwise [k0_pay10]
  exact pay9_at x0 x1 x2 x3 x4 x5 x6 x7 r j

theorem pay11_at (r : Fin 256) :
    @Eq EReal (k0_pay11 (k0_pay6 x0 x3 x4 x1) (k0_pay7 x0 x3 x4 x1) x5 x6 x7 x2 (ix2 r 0)) (scale (yrow x0 x1 x2 x3 x4 x5 x6 x7 r)) := by
  pointwise [k0_pay11]
  simp only [pay9_at]
  rfl

theorem pay12_at (r : Fin 256) (j : Fin 1024) :
    @Eq EReal (k0_pay12 (k0_pay6 x0 x3 x4 x1) (k0_pay7 x0 x3 x4 x1) x5 x6 x7 x2 (ix2 r j)) (code (yrow x0 x1 x2 x3 x4 x5 x6 x7 r) j) := by
  pointwise [k0_pay12]
  simp only [pay9_at, pay11_at]
  rfl

/-- Lane 0 of the packed scales carries the first. -/
theorem pay1_zero (a b : FVec Ideal S256x1 .f32) (z : Ideal .f32) (r : Fin 256) :
    @Eq EReal (k0_pay1 a b (iota .tc S256x128 32 [1] iota_S256x128_d1_w32) z (ix2 0 r)) (a (ix2 r 0)) := by
  pointwise [k0_pay1]
  exact congrArg (fun q : BitVec 1 => Scalar.select q (b (ix2 r 0)) (a (ix2 r 0))) (show IntOp.cmpi CmpIPredicate.eq 0#32 1#32 = 0#1 by decide)

/-- Lane 1 of the packed scales carries the second. -/
theorem pay1_one (a b : FVec Ideal S256x1 .f32) (z : Ideal .f32) (r : Fin 256) :
    @Eq EReal (k0_pay1 a b (iota .tc S256x128 32 [1] iota_S256x128_d1_w32) z (ix2 1 r)) (b (ix2 r 0)) := by
  pointwise [k0_pay1]

theorem pay2_at (a b : FVec Ideal S256x1 .f32) (z : Ideal .f32) (r : Fin 256) :
    @Eq EReal (k0_pay2 a b (iota .tc S256x128 32 [1] iota_S256x128_d1_w32) z (ix2 0 r)) (a (ix2 r 0)) := by
  pointwise [k0_pay2]
  exact pay1_zero a b z r

theorem pay3_at (a b : FVec Ideal S256x1 .f32) (z : Ideal .f32) (r : Fin 256) :
    @Eq EReal (k0_pay3 a b (iota .tc S256x128 32 [1] iota_S256x128_d1_w32) z (ix2 0 r)) (b (ix2 r 0)) := by
  pointwise [k0_pay3]
  exact pay1_one a b z r

theorem pay4_at (a : FVec Ideal S256x1 .f32) (z : Ideal .f32) (e : Fin 16) (r : Fin 256) :
    @Eq EReal (k0_pay4 a (k0_pay11 (k0_pay6 x0 x3 x4 x1) (k0_pay7 x0 x3 x4 x1) x5 x6 x7 x2)
        (k0_pay12 (k0_pay6 x0 x3 x4 x1) (k0_pay7 x0 x3 x4 x1) x5 x6 x7 x2) (iota .tc S256x128 32 [1] iota_S256x128_d1_w32) z x8 x9 x10 (ix2 e r))
      (logit (yrow x0 x1 x2 x3 x4 x5 x6 x7 r) (fun j => x8 (ix2 e j)) (x9 (ix2 e 0)) (x10 (ix2 e 0))) := by
  pointwise [k0_pay4]
  exact congrArg₂ (fun p q : EReal => p + q) (congrArg₂ (fun p q : EReal => p * q)
    (congrArg₂ (fun p q : EReal => p * q)
      (Finset.sum_congr rfl fun i _ => congrArg (fun q : EReal => x8 (ix2 e i) * q) (pay12_at x0 x1 x2 x3 x4 x5 x6 x7 r i))
      ((pay1_one _ _ z r).trans (pay11_at x0 x1 x2 x3 x4 x5 x6 x7 r))) rfl) rfl

end Cert.OutputIdeal.Hand

end
-- ==== Proof.OutValue.lean ====
/-
  The output launch's results: what its arrays hold, from the argument arrays.
-/
module

public import proofs.«01_k».proof.Proof.OutBlock
public import Idealize.ShloMosaic.Lib.Pipeline.ValueKit.Geometry

@[expose] public section

set_option maxRecDepth 16384

noncomputable section

namespace Cert.OutputIdeal.Hand

open Cert.OutputIdeal Cert.OutputIdeal.Gen
open Idealize.ShloMosaic Idealize.ShloMosaic.TcCoe
open Idealize.ShloMosaic.Pipeline Idealize.SL.Sem
open Cert.OutSpec

variable (m : (ℓ : Loc nD τ sig) → Buf (Elt Ideal) ℓ) (c : Dev nD) (t : Fin cfg0.N)

/-- The block a point works on. -/
def blkNo (i : grid0.Coords) : Fin 10 := ⟨(i 0).val, (i 0).isLt⟩

theorem blk_num (i : grid0.Coords) : (BitVec.ofNat 32 (i 0).val).toNat = (blkNo i).val := by
  have h : (i 0).val < 10 := (i 0).isLt
  rw [BitVec.toNat_ofNat]
  show _ = (i 0).val
  omega

/-- A block's row in the whole array. -/
def full (r : Fin 256) : Fin 2560 := ⟨(blkNo (grid0.coords t)).val * 256 + r.val, by have := (blkNo (grid0.coords t)).isLt; omega⟩

abbrev A0 : Vec Ideal S2560x1024 .f32 := m ((c.tc : Thread nD τ).loc main_arg0)
abbrev A1 : Vec Ideal S2560x1024 .f32 := m ((c.tc : Thread nD τ).loc main_arg1)
abbrev A2 : Vec Ideal S2560x1024 .bf16 := m ((c.tc : Thread nD τ).loc main_arg2)
abbrev A3 : Vec Ideal S1x1024 .f32 := m ((c.tc : Thread nD τ).loc main_arg3)
abbrev A4 : Vec Ideal S1x1024 .f32 := m ((c.tc : Thread nD τ).loc main_arg4)
abbrev A5 : Vec Ideal S1024x1024 .fp8e4m3 := m ((c.tc : Thread nD τ).loc main_arg5)
abbrev A6 : Vec Ideal S1x1024 .f32 := m ((c.tc : Thread nD τ).loc main_arg6)
abbrev A7 : Vec Ideal S1x1024 .f32 := m ((c.tc : Thread nD τ).loc main_arg7)
abbrev A8 : Vec Ideal S16x1024 .fp8e4m3 := m ((c.tc : Thread nD τ).loc main_arg8)
abbrev A9 : Vec Ideal S16x1 .f32 := m ((c.tc : Thread nD τ).loc main_arg9)
abbrev A10 : Vec Ideal S16x1 .f32 := m ((c.tc : Thread nD τ).loc main_arg10)

/-- The gated, normalised row of the whole array. -/
def hRow (R : Fin 2560) : Fin 1024 → EReal :=
  gated (fun j => A0 m c (ix2 R j)) (fun j => A1 m c (ix2 R j)) (fun j => A3 m c (ix2 0 j)) (fun j => A4 m c (ix2 0 j))

/-- The projected row of the whole array. -/
def yRow (R : Fin 2560) : Fin 1024 → EReal :=
  proj (hRow m c R) (fun j => A2 m c (ix2 R j)) (fun i j => A5 m c (ix2 i j)) (fun j => A6 m c (ix2 0 j)) (fun j => A7 m c (ix2 0 j))

theorem iblk_0 (r : Fin 256) (x : Fin 1024) : @Eq EReal (iblk m c 0 t (ix2 r x)) (A0 m c (ix2 (full t r) x)) := by
  unfold iblk
  rw [View.read_apply, cast_eq]
  refine congrArg (m ((c.tc : Thread nD τ).loc main_arg0)) (funext fun (a : Fin 2) => ?_)
  apply Fin.ext
  fin_cases a
  · show (BitVec.ofNat 32 (grid0.coords t 0).val).toNat * 256 + 1 * r.val = (blkNo (grid0.coords t)).val * 256 + r.val
    rw [blk_num]; omega
  · show 0 * 1024 + 1 * x.val = x.val
    omega

theorem iblk_1 (r : Fin 256) (x : Fin 1024) : @Eq EReal (iblk m c 1 t (ix2 r x)) (A1 m c (ix2 (full t r) x)) := by
  unfold iblk
  rw [View.read_apply, cast_eq]
  refine congrArg (m ((c.tc : Thread nD τ).loc main_arg1)) (funext fun (a : Fin 2) => ?_)
  apply Fin.ext
  fin_cases a
  · show (BitVec.ofNat 32 (grid0.coords t 0).val).toNat * 256 + 1 * r.val = (blkNo (grid0.coords t)).val * 256 + r.val
    rw [blk_num]; omega
  · show 0 * 1024 + 1 * x.val = x.val
    omega

theorem iblk_2 (r : Fin 256) (x : Fin 1024) : @Eq EReal (iblk m c 2 t (ix2 r x)) (A2 m c (ix2 (full t r) x)) := by
  unfold iblk
  rw [View.read_apply, cast_eq]
  refine congrArg (m ((c.tc : Thread nD τ).loc main_arg2)) (funext fun (a : Fin 2) => ?_)
  apply Fin.ext
  fin_cases a
  · show (BitVec.ofNat 32 (grid0.coords t 0).val).toNat * 256 + 1 * r.val = (blkNo (grid0.coords t)).val * 256 + r.val
    rw [blk_num]; omega
  · show 0 * 1024 + 1 * x.val = x.val
    omega

theorem iblk_3 (r : Fin 1) (x : Fin 1024) : @Eq EReal (iblk m c 3 t (ix2 r x)) (A3 m c (ix2 r x)) := by
  unfold iblk
  rw [View.read_apply, cast_eq]
  refine congrArg (m ((c.tc : Thread nD τ).loc main_arg3)) (funext fun (a : Fin 2) => ?_)
  apply Fin.ext
  fin_cases a
  · show 0 * 1 + 1 * r.val = r.val
    omega
  · show 0 * 1024 + 1 * x.val = x.val
    omega

theorem iblk_4 (r : Fin 1) (x : Fin 1024) : @Eq EReal (iblk m c 4 t (ix2 r x)) (A4 m c (ix2 r x)) := by
  unfold iblk
  rw [View.read_apply, cast_eq]
  refine congrArg (m ((c.tc : Thread nD τ).loc main_arg4)) (funext fun (a : Fin 2) => ?_)
  apply Fin.ext
  fin_cases a
  · show 0 * 1 + 1 * r.val = r.val
    omega
  · show 0 * 1024 + 1 * x.val = x.val
    omega

theorem iblk_5 (r : Fin 1024) (x : Fin 1024) : @Eq EReal (iblk m c 5 t (ix2 r x)) (A5 m c (ix2 r x)) := by
  unfold iblk
  rw [View.read_apply, cast_eq]
  refine congrArg (m ((c.tc : Thread nD τ).loc main_arg5)) (funext fun (a : Fin 2) => ?_)
  apply Fin.ext
  fin_cases a
  · show 0 * 1024 + 1 * r.val = r.val
    omega
  · show 0 * 1024 + 1 * x.val = x.val
    omega

theorem iblk_6 (r : Fin 1) (x : Fin 1024) : @Eq EReal (iblk m c 6 t (ix2 r x)) (A6 m c (ix2 r x)) := by
  unfold iblk
  rw [View.read_apply, cast_eq]
  refine congrArg (m ((c.tc : Thread nD τ).loc main_arg6)) (funext fun (a : Fin 2) => ?_)
  apply Fin.ext
  fin_cases a
  · show 0 * 1 + 1 * r.val = r.val
    omega
  · show 0 * 1024 + 1 * x.val = x.val
    omega

theorem iblk_7 (r : Fin 1) (x : Fin 1024) : @Eq EReal (iblk m c 7 t (ix2 r x)) (A7 m c (ix2 r x)) := by
  unfold iblk
  rw [View.read_apply, cast_eq]
  refine congrArg (m ((c.tc : Thread nD τ).loc main_arg7)) (funext fun (a : Fin 2) => ?_)
  apply Fin.ext
  fin_cases a
  · show 0 * 1 + 1 * r.val = r.val
    omega
  · show 0 * 1024 + 1 * x.val = x.val
    omega

theorem iblk_8 (r : Fin 16) (x : Fin 1024) : @Eq EReal (iblk m c 8 t (ix2 r x)) (A8 m c (ix2 r x)) := by
  unfold iblk
  rw [View.read_apply, cast_eq]
  refine congrArg (m ((c.tc : Thread nD τ).loc main_arg8)) (funext fun (a : Fin 2) => ?_)
  apply Fin.ext
  fin_cases a
  · show 0 * 16 + 1 * r.val = r.val
    omega
  · show 0 * 1024 + 1 * x.val = x.val
    omega

theorem iblk_9 (r : Fin 16) (x : Fin 1) : @Eq EReal (iblk m c 9 t (ix2 r x)) (A9 m c (ix2 r x)) := by
  unfold iblk
  rw [View.read_apply, cast_eq]
  refine congrArg (m ((c.tc : Thread nD τ).loc main_arg9)) (funext fun (a : Fin 2) => ?_)
  apply Fin.ext
  fin_cases a
  · show 0 * 16 + 1 * r.val = r.val
    omega
  · show 0 * 1 + 1 * x.val = x.val
    omega

theorem iblk_10 (r : Fin 16) (x : Fin 1) : @Eq EReal (iblk m c 10 t (ix2 r x)) (A10 m c (ix2 r x)) := by
  unfold iblk
  rw [View.read_apply, cast_eq]
  refine congrArg (m ((c.tc : Thread nD τ).loc main_arg10)) (funext fun (a : Fin 2) => ?_)
  apply Fin.ext
  fin_cases a
  · show 0 * 16 + 1 * r.val = r.val
    omega
  · show 0 * 1 + 1 * x.val = x.val
    omega

theorem h_block (r : Fin 256) : hrow (iblk m c 0 t) (iblk m c 1 t) (iblk m c 3 t) (iblk m c 4 t) r = hRow m c (full t r) := by
  have e0 := funext fun x => iblk_0 m c t r x
  have e1 := funext fun x => iblk_1 m c t r x
  have e3 := funext fun x => iblk_3 m c t 0 x
  have e4 := funext fun x => iblk_4 m c t 0 x
  unfold hrow hRow
  exact congr (congr (congr (congrArg gated e0) e1) e3) e4

theorem y_block (r : Fin 256) : yrow (iblk m c 0 t) (iblk m c 1 t) (iblk m c 2 t) (iblk m c 3 t) (iblk m c 4 t) (iblk m c 5 t) (iblk m c 6 t) (iblk m c 7 t) r = yRow m c (full t r) := by
  have e2 := funext fun x => iblk_2 m c t r x
  have e5 := funext fun y => funext fun x => iblk_5 m c t y x
  have e6 := funext fun x => iblk_6 m c t 0 x
  have e7 := funext fun x => iblk_7 m c t 0 x
  unfold yrow yRow
  exact congr (congr (congr (congr (congrArg proj (h_block m c t r)) e2) e5) e6) e7

theorem l_block (e : Fin 16) (r : Fin 256) :
    logit (yrow (iblk m c 0 t) (iblk m c 1 t) (iblk m c 2 t) (iblk m c 3 t) (iblk m c 4 t) (iblk m c 5 t) (iblk m c 6 t) (iblk m c 7 t) r)
        (fun j => iblk m c 8 t (ix2 e j)) (iblk m c 9 t (ix2 e 0)) (iblk m c 10 t (ix2 e 0))
      = logit (yRow m c (full t r)) (fun j => A8 m c (ix2 e j)) (A9 m c (ix2 e 0)) (A10 m c (ix2 e 0)) :=
  congr (congr (congr (congrArg logit (y_block m c t r)) (funext fun x => iblk_8 m c t e x)) (iblk_9 m c t e 0)) (iblk_10 m c t e 0)

theorem hz : (![0, 0] : Fin 2 → Nat) = fun _ => 0 := funext fun a => by fin_cases a <;> rfl

section Blocks

variable (x0 x1 : Vec Ideal S256x1024 .f32) (x2 : Vec Ideal S256x1024 .bf16) (x3 x4 : Vec Ideal S1x1024 .f32)
  (x5 : Vec Ideal S1024x1024 .fp8e4m3) (x6 x7 : Vec Ideal S1x1024 .f32) (x8 : Vec Ideal S16x1024 .fp8e4m3) (x9 x10 : Vec Ideal S16x1 .f32)

theorem out11_eq : out0_11 (F := Ideal) x0 x1 x2 x3 x4 x5 x6 x7 x8 x9 x10 = k0_pay10 (k0_pay6 x0 x3 x4 x1) (k0_pay7 x0 x3 x4 x1) x5 x6 x7 x2 := by
  unfold out0_11 k0_pay13 k0_pay14
  rw [View.canon_unit_zero hz, View.ld_unit_zero (S := S256x1024) hz _ x0, View.ld_unit_zero (S := S1x1024) hz _ x3, View.ld_unit_zero (S := S1x1024) hz _ x4, View.ld_unit_zero (S := S256x1024) hz _ x1, View.ld_unit_zero (S := S1024x1024) hz _ x5, View.ld_unit_zero (S := S1x1024) hz _ x6, View.ld_unit_zero (S := S1x1024) hz _ x7, View.ld_unit_zero (S := S256x1024) hz _ x2]

theorem out12_eq : out0_12 (F := Ideal) x0 x1 x2 x3 x4 x5 x6 x7 x8 x9 x10 = k0_pay4 (k0_pay6 x0 x3 x4 x1) (k0_pay11 (k0_pay6 x0 x3 x4 x1) (k0_pay7 x0 x3 x4 x1) x5 x6 x7 x2) (k0_pay12 (k0_pay6 x0 x3 x4 x1) (k0_pay7 x0 x3 x4 x1) x5 x6 x7 x2) (iota .tc S256x128 32 [1] iota_S256x128_d1_w32) (Scalar.ofBits .f32 0x00000000#32) x8 x9 x10 := by
  unfold out0_12 k0_pay16 k0_pay15 k0_pay13 k0_pay14
  rw [View.canon_unit_zero hz, View.ld_unit_zero (S := S256x1024) hz _ x0, View.ld_unit_zero (S := S1x1024) hz _ x3, View.ld_unit_zero (S := S1x1024) hz _ x4, View.ld_unit_zero (S := S256x1024) hz _ x1, View.ld_unit_zero (S := S1024x1024) hz _ x5, View.ld_unit_zero (S := S1x1024) hz _ x6, View.ld_unit_zero (S := S1x1024) hz _ x7, View.ld_unit_zero (S := S256x1024) hz _ x2, View.ld_unit_zero (S := S16x1024) hz _ x8, View.ld_unit_zero (S := S16x1) hz _ x9, View.ld_unit_zero (S := S16x1) hz _ x10]

theorem out13_eq : out0_13 (F := Ideal) x0 x1 x2 x3 x4 x5 x6 x7 x8 x9 x10 = k0_pay8 (k0_pay7 x0 x3 x4 x1) := by
  unfold out0_13 k0_pay14
  rw [View.canon_unit_zero hz, View.ld_unit_zero (S := S256x1024) hz _ x0, View.ld_unit_zero (S := S1x1024) hz _ x3, View.ld_unit_zero (S := S1x1024) hz _ x4, View.ld_unit_zero (S := S256x1024) hz _ x1]

theorem out14_eq : out0_14 (F := Ideal) x0 x1 x2 x3 x4 x5 x6 x7 x8 x9 x10 = k0_pay2 (k0_pay6 x0 x3 x4 x1) (k0_pay11 (k0_pay6 x0 x3 x4 x1) (k0_pay7 x0 x3 x4 x1) x5 x6 x7 x2) (iota .tc S256x128 32 [1] iota_S256x128_d1_w32) (Scalar.ofBits .f32 0x00000000#32) := by
  unfold out0_14 k0_pay16 k0_pay15 k0_pay13 k0_pay14
  rw [View.canon_unit_zero hz, View.ld_unit_zero (S := S256x1024) hz _ x0, View.ld_unit_zero (S := S1x1024) hz _ x3, View.ld_unit_zero (S := S1x1024) hz _ x4, View.ld_unit_zero (S := S256x1024) hz _ x1, View.ld_unit_zero (S := S1024x1024) hz _ x5, View.ld_unit_zero (S := S1x1024) hz _ x6, View.ld_unit_zero (S := S1x1024) hz _ x7, View.ld_unit_zero (S := S256x1024) hz _ x2]

theorem out15_eq : out0_15 (F := Ideal) x0 x1 x2 x3 x4 x5 x6 x7 x8 x9 x10 = k0_pay12 (k0_pay6 x0 x3 x4 x1) (k0_pay7 x0 x3 x4 x1) x5 x6 x7 x2 := by
  unfold out0_15 k0_pay13 k0_pay14
  rw [View.canon_unit_zero hz, View.ld_unit_zero (S := S256x1024) hz _ x0, View.ld_unit_zero (S := S1x1024) hz _ x3, View.ld_unit_zero (S := S1x1024) hz _ x4, View.ld_unit_zero (S := S256x1024) hz _ x1, View.ld_unit_zero (S := S1024x1024) hz _ x5, View.ld_unit_zero (S := S1x1024) hz _ x6, View.ld_unit_zero (S := S1x1024) hz _ x7, View.ld_unit_zero (S := S256x1024) hz _ x2]

theorem out16_eq : out0_16 (F := Ideal) x0 x1 x2 x3 x4 x5 x6 x7 x8 x9 x10 = k0_pay3 (k0_pay6 x0 x3 x4 x1) (k0_pay11 (k0_pay6 x0 x3 x4 x1) (k0_pay7 x0 x3 x4 x1) x5 x6 x7 x2) (iota .tc S256x128 32 [1] iota_S256x128_d1_w32) (Scalar.ofBits .f32 0x00000000#32) := by
  unfold out0_16 k0_pay16 k0_pay15 k0_pay13 k0_pay14
  rw [View.canon_unit_zero hz, View.ld_unit_zero (S := S256x1024) hz _ x0, View.ld_unit_zero (S := S1x1024) hz _ x3, View.ld_unit_zero (S := S1x1024) hz _ x4, View.ld_unit_zero (S := S256x1024) hz _ x1, View.ld_unit_zero (S := S1024x1024) hz _ x5, View.ld_unit_zero (S := S1x1024) hz _ x6, View.ld_unit_zero (S := S1x1024) hz _ x7, View.ld_unit_zero (S := S256x1024) hz _ x2]

end Blocks

theorem after11 (r : Fin 256) (j : Fin 1024) : @Eq EReal ((dats m 0 c).after 11 t (ix2 r j : S256x1024.Idx)) (yRow m c (full t r) j) :=
  (congrFun (after0_11 m c t) (ix2 r j : S256x1024.Idx)).trans ((congrFun (out11_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r j : S256x1024.Idx)).trans ((pay10_at (iblk m c 0 t) (iblk m c 1 t) (iblk m c 2 t) (iblk m c 3 t) (iblk m c 4 t) (iblk m c 5 t) (iblk m c 6 t) (iblk m c 7 t) r j).trans (congrFun (y_block m c t r) j)))

theorem final11 : (dats m 0 c).arrAt 11 cfg0.N = fun (i : S2560x1024.Idx) => (yRow m c (i 0) (i 1) : EReal) := by
  refine Dat.arrAt_eq_of_covers (c := c) (cfg := cfg0) (Val := Elt Ideal) (dats m 0 c) 11 (fun (i : S2560x1024.Idx) => (yRow m c (i 0) (i 1) : EReal)) (by decide +kernel) (fun t hf y => ?_)
  have y0 : (y (0 : Fin 2)).val < 256 := (y (0 : Fin 2)).isLt
  have y1 : (y (1 : Fin 2)).val < 1024 := (y (1 : Fin 2)).isLt
  have i0 : ((((cfg0.win 11).blk t).view.emb y : S2560x1024.Idx) 0).val = (full t ⟨(y (0 : Fin 2)).val, y0⟩).val := by
    show (BitVec.ofNat 32 (grid0.coords t 0).val).toNat * 256 + 1 * (y (0 : Fin 2)).val = _
    show _ = (blkNo (grid0.coords t)).val * 256 + (y (0 : Fin 2)).val
    rw [blk_num]; omega
  have i1 : ((((cfg0.win 11).blk t).view.emb y : S2560x1024.Idx) 1).val = (y (1 : Fin 2)).val := by
    show 0 * 1024 + 1 * (y (1 : Fin 2)).val = _
    omega
  refine Eq.trans (b := (dats m 0 c).after 11 t (ix2 ⟨(y (0 : Fin 2)).val, y0⟩ ⟨(y (1 : Fin 2)).val, y1⟩ : S256x1024.Idx)) (congrArg ((dats m 0 c).after 11 t) (eq_ix2 (n0 := 256) (n1 := 1024) _)) ?_
  refine (after11 m c t ⟨(y (0 : Fin 2)).val, y0⟩ ⟨(y (1 : Fin 2)).val, y1⟩).trans ?_
  exact congrArg₂ (fun a b => yRow m c a b) (Fin.ext i0.symm) (Fin.ext i1.symm)

theorem after12 (j : Fin 16) (r : Fin 256) : @Eq EReal ((dats m 0 c).after 12 t (ix2 j r : S16x256.Idx)) (logit (yRow m c (full t r)) (fun i => A8 m c (ix2 j i)) (A9 m c (ix2 j 0)) (A10 m c (ix2 j 0))) :=
  (congrFun (after0_12 m c t) (ix2 j r : S16x256.Idx)).trans ((congrFun (out12_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 j r : S16x256.Idx)).trans ((pay4_at (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ j r).trans (l_block m c t j r)))

theorem final12 : (dats m 0 c).arrAt 12 cfg0.N = fun (i : S16x2560.Idx) => (logit (yRow m c (i 1)) (fun k => A8 m c (ix2 (i 0) k)) (A9 m c (ix2 (i 0) 0)) (A10 m c (ix2 (i 0) 0)) : EReal) := by
  refine Dat.arrAt_eq_of_covers (c := c) (cfg := cfg0) (Val := Elt Ideal) (dats m 0 c) 12 (fun (i : S16x2560.Idx) => (logit (yRow m c (i 1)) (fun k => A8 m c (ix2 (i 0) k)) (A9 m c (ix2 (i 0) 0)) (A10 m c (ix2 (i 0) 0)) : EReal)) (by decide +kernel) (fun t hf y => ?_)
  have y0 : (y (0 : Fin 2)).val < 16 := (y (0 : Fin 2)).isLt
  have y1 : (y (1 : Fin 2)).val < 256 := (y (1 : Fin 2)).isLt
  have i0 : ((((cfg0.win 12).blk t).view.emb y : S16x2560.Idx) 0).val = (y (0 : Fin 2)).val := by
    show 0 * 16 + 1 * (y (0 : Fin 2)).val = _
    omega
  have i1 : ((((cfg0.win 12).blk t).view.emb y : S16x2560.Idx) 1).val = (full t ⟨(y (1 : Fin 2)).val, y1⟩).val := by
    show (BitVec.ofNat 32 (grid0.coords t 0).val).toNat * 256 + 1 * (y (1 : Fin 2)).val = _
    show _ = (blkNo (grid0.coords t)).val * 256 + (y (1 : Fin 2)).val
    rw [blk_num]; omega
  refine Eq.trans (b := (dats m 0 c).after 12 t (ix2 ⟨(y (0 : Fin 2)).val, y0⟩ ⟨(y (1 : Fin 2)).val, y1⟩ : S16x256.Idx)) (congrArg ((dats m 0 c).after 12 t) (eq_ix2 (n0 := 16) (n1 := 256) _)) ?_
  refine (after12 m c t ⟨(y (0 : Fin 2)).val, y0⟩ ⟨(y (1 : Fin 2)).val, y1⟩).trans ?_
  exact congrArg₂ (fun a b => logit (yRow m c b) (fun k => A8 m c (ix2 a k)) (A9 m c (ix2 a 0)) (A10 m c (ix2 a 0))) (Fin.ext i0.symm) (Fin.ext i1.symm)

theorem after13 (r : Fin 256) (j : Fin 1024) : @Eq EReal ((dats m 0 c).after 13 t (ix2 r j : S256x1024.Idx)) (code (hRow m c (full t r)) j) :=
  (congrFun (after0_13 m c t) (ix2 r j : S256x1024.Idx)).trans ((congrFun (out13_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r j : S256x1024.Idx)).trans ((pay8_at (iblk m c 0 t) (iblk m c 1 t) (iblk m c 3 t) (iblk m c 4 t) r j).trans (congrArg (fun h => code h j) (h_block m c t r))))

theorem final13 : (dats m 0 c).arrAt 13 cfg0.N = fun (i : S2560x1024.Idx) => (code (hRow m c (i 0)) (i 1) : EReal) := by
  refine Dat.arrAt_eq_of_covers (c := c) (cfg := cfg0) (Val := Elt Ideal) (dats m 0 c) 13 (fun (i : S2560x1024.Idx) => (code (hRow m c (i 0)) (i 1) : EReal)) (by decide +kernel) (fun t hf y => ?_)
  have y0 : (y (0 : Fin 2)).val < 256 := (y (0 : Fin 2)).isLt
  have y1 : (y (1 : Fin 2)).val < 1024 := (y (1 : Fin 2)).isLt
  have i0 : ((((cfg0.win 13).blk t).view.emb y : S2560x1024.Idx) 0).val = (full t ⟨(y (0 : Fin 2)).val, y0⟩).val := by
    show (BitVec.ofNat 32 (grid0.coords t 0).val).toNat * 256 + 1 * (y (0 : Fin 2)).val = _
    show _ = (blkNo (grid0.coords t)).val * 256 + (y (0 : Fin 2)).val
    rw [blk_num]; omega
  have i1 : ((((cfg0.win 13).blk t).view.emb y : S2560x1024.Idx) 1).val = (y (1 : Fin 2)).val := by
    show 0 * 1024 + 1 * (y (1 : Fin 2)).val = _
    omega
  refine Eq.trans (b := (dats m 0 c).after 13 t (ix2 ⟨(y (0 : Fin 2)).val, y0⟩ ⟨(y (1 : Fin 2)).val, y1⟩ : S256x1024.Idx)) (congrArg ((dats m 0 c).after 13 t) (eq_ix2 (n0 := 256) (n1 := 1024) _)) ?_
  refine (after13 m c t ⟨(y (0 : Fin 2)).val, y0⟩ ⟨(y (1 : Fin 2)).val, y1⟩).trans ?_
  exact congrArg₂ (fun a b => code (hRow m c a) b) (Fin.ext i0.symm) (Fin.ext i1.symm)

theorem after14 (r : Fin 256) : @Eq EReal ((dats m 0 c).after 14 t (ix2 0 r : S1x256.Idx)) (scale (hRow m c (full t r))) :=
  (congrFun (after0_14 m c t) (ix2 0 r : S1x256.Idx)).trans ((congrFun (out14_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 0 r : S1x256.Idx)).trans (((pay2_at _ _ _ r).trans (pay6_at (iblk m c 0 t) (iblk m c 1 t) (iblk m c 3 t) (iblk m c 4 t) r)).trans (congrArg scale (h_block m c t r))))

theorem final14 : (dats m 0 c).arrAt 14 cfg0.N = fun (i : S1x2560.Idx) => (scale (hRow m c (i 1)) : EReal) := by
  refine Dat.arrAt_eq_of_covers (c := c) (cfg := cfg0) (Val := Elt Ideal) (dats m 0 c) 14 (fun (i : S1x2560.Idx) => (scale (hRow m c (i 1)) : EReal)) (by decide +kernel) (fun t hf y => ?_)
  have y0 : (y (0 : Fin 2)).val < 1 := (y (0 : Fin 2)).isLt
  have y1 : (y (1 : Fin 2)).val < 256 := (y (1 : Fin 2)).isLt
  have i0 : ((((cfg0.win 14).blk t).view.emb y : S1x2560.Idx) 0).val = (y (0 : Fin 2)).val := by
    show 0 * 1 + 1 * (y (0 : Fin 2)).val = _
    omega
  have i1 : ((((cfg0.win 14).blk t).view.emb y : S1x2560.Idx) 1).val = (full t ⟨(y (1 : Fin 2)).val, y1⟩).val := by
    show (BitVec.ofNat 32 (grid0.coords t 0).val).toNat * 256 + 1 * (y (1 : Fin 2)).val = _
    show _ = (blkNo (grid0.coords t)).val * 256 + (y (1 : Fin 2)).val
    rw [blk_num]; omega
  refine Eq.trans (b := (dats m 0 c).after 14 t (ix2 0 ⟨(y (1 : Fin 2)).val, y1⟩ : S1x256.Idx)) (congrArg ((dats m 0 c).after 14 t) ((eq_ix2 (n0 := 1) (n1 := 256) _).trans (congrArg (fun q : Fin 1 => (ix2 q ⟨(y (1 : Fin 2)).val, y1⟩ : S1x256.Idx)) (Subsingleton.elim _ _)))) ?_
  refine (after14 m c t ⟨(y (1 : Fin 2)).val, y1⟩).trans ?_
  exact congrArg (fun b => scale (hRow m c b)) (Fin.ext i1.symm)

theorem after15 (r : Fin 256) (j : Fin 1024) : @Eq EReal ((dats m 0 c).after 15 t (ix2 r j : S256x1024.Idx)) (code (yRow m c (full t r)) j) :=
  (congrFun (after0_15 m c t) (ix2 r j : S256x1024.Idx)).trans ((congrFun (out15_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r j : S256x1024.Idx)).trans ((pay12_at (iblk m c 0 t) (iblk m c 1 t) (iblk m c 2 t) (iblk m c 3 t) (iblk m c 4 t) (iblk m c 5 t) (iblk m c 6 t) (iblk m c 7 t) r j).trans (congrArg (fun h => code h j) (y_block m c t r))))

theorem final15 : (dats m 0 c).arrAt 15 cfg0.N = fun (i : S2560x1024.Idx) => (code (yRow m c (i 0)) (i 1) : EReal) := by
  refine Dat.arrAt_eq_of_covers (c := c) (cfg := cfg0) (Val := Elt Ideal) (dats m 0 c) 15 (fun (i : S2560x1024.Idx) => (code (yRow m c (i 0)) (i 1) : EReal)) (by decide +kernel) (fun t hf y => ?_)
  have y0 : (y (0 : Fin 2)).val < 256 := (y (0 : Fin 2)).isLt
  have y1 : (y (1 : Fin 2)).val < 1024 := (y (1 : Fin 2)).isLt
  have i0 : ((((cfg0.win 15).blk t).view.emb y : S2560x1024.Idx) 0).val = (full t ⟨(y (0 : Fin 2)).val, y0⟩).val := by
    show (BitVec.ofNat 32 (grid0.coords t 0).val).toNat * 256 + 1 * (y (0 : Fin 2)).val = _
    show _ = (blkNo (grid0.coords t)).val * 256 + (y (0 : Fin 2)).val
    rw [blk_num]; omega
  have i1 : ((((cfg0.win 15).blk t).view.emb y : S2560x1024.Idx) 1).val = (y (1 : Fin 2)).val := by
    show 0 * 1024 + 1 * (y (1 : Fin 2)).val = _
    omega
  refine Eq.trans (b := (dats m 0 c).after 15 t (ix2 ⟨(y (0 : Fin 2)).val, y0⟩ ⟨(y (1 : Fin 2)).val, y1⟩ : S256x1024.Idx)) (congrArg ((dats m 0 c).after 15 t) (eq_ix2 (n0 := 256) (n1 := 1024) _)) ?_
  refine (after15 m c t ⟨(y (0 : Fin 2)).val, y0⟩ ⟨(y (1 : Fin 2)).val, y1⟩).trans ?_
  exact congrArg₂ (fun a b => code (yRow m c a) b) (Fin.ext i0.symm) (Fin.ext i1.symm)

theorem after16 (r : Fin 256) : @Eq EReal ((dats m 0 c).after 16 t (ix2 0 r : S1x256.Idx)) (scale (yRow m c (full t r))) :=
  (congrFun (after0_16 m c t) (ix2 0 r : S1x256.Idx)).trans ((congrFun (out16_eq (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 0 r : S1x256.Idx)).trans (((pay3_at _ _ _ r).trans (pay11_at (iblk m c 0 t) (iblk m c 1 t) (iblk m c 2 t) (iblk m c 3 t) (iblk m c 4 t) (iblk m c 5 t) (iblk m c 6 t) (iblk m c 7 t) r)).trans (congrArg scale (y_block m c t r))))

theorem final16 : (dats m 0 c).arrAt 16 cfg0.N = fun (i : S1x2560.Idx) => (scale (yRow m c (i 1)) : EReal) := by
  refine Dat.arrAt_eq_of_covers (c := c) (cfg := cfg0) (Val := Elt Ideal) (dats m 0 c) 16 (fun (i : S1x2560.Idx) => (scale (yRow m c (i 1)) : EReal)) (by decide +kernel) (fun t hf y => ?_)
  have y0 : (y (0 : Fin 2)).val < 1 := (y (0 : Fin 2)).isLt
  have y1 : (y (1 : Fin 2)).val < 256 := (y (1 : Fin 2)).isLt
  have i0 : ((((cfg0.win 16).blk t).view.emb y : S1x2560.Idx) 0).val = (y (0 : Fin 2)).val := by
    show 0 * 1 + 1 * (y (0 : Fin 2)).val = _
    omega
  have i1 : ((((cfg0.win 16).blk t).view.emb y : S1x2560.Idx) 1).val = (full t ⟨(y (1 : Fin 2)).val, y1⟩).val := by
    show (BitVec.ofNat 32 (grid0.coords t 0).val).toNat * 256 + 1 * (y (1 : Fin 2)).val = _
    show _ = (blkNo (grid0.coords t)).val * 256 + (y (1 : Fin 2)).val
    rw [blk_num]; omega
  refine Eq.trans (b := (dats m 0 c).after 16 t (ix2 0 ⟨(y (1 : Fin 2)).val, y1⟩ : S1x256.Idx)) (congrArg ((dats m 0 c).after 16 t) ((eq_ix2 (n0 := 1) (n1 := 256) _).trans (congrArg (fun q : Fin 1 => (ix2 q ⟨(y (1 : Fin 2)).val, y1⟩ : S1x256.Idx)) (Subsingleton.elim _ _)))) ?_
  refine (after16 m c t ⟨(y (1 : Fin 2)).val, y1⟩).trans ?_
  exact congrArg (fun b => scale (yRow m c b)) (Fin.ext i1.symm)

end Cert.OutputIdeal.Hand

end
-- ==== Proof.OutReference.lean ====
module

public import proofs.«01_k».proof.Proof.Gen.OutputReferenceIdeal.Value
public import proofs.«01_k».proof.Proof.OutSpec

/-! # The reference's output stage on all rows, row by row -/

@[expose] public section

set_option maxRecDepth 16384

noncomputable section

namespace Cert.OutputReferenceIdeal.Hand

open Cert.OutputReferenceIdeal Cert.OutputReferenceIdeal.Gen
open Idealize.ShloMosaic
open Cert.OutSpec

variable (x0 x1 : Vec Ideal S2560x1024 .f32) (x2 : Vec Ideal S2560x1024 .bf16) (x3 x4 : Vec Ideal S1x1024 .f32)
  (x5 : Vec Ideal S1024x1024 .fp8e4m3) (x6 x7 : Vec Ideal S1x1024 .f32) (x8 : Vec Ideal S16x1024 .fp8e4m3) (x9 x10 : Vec Ideal S16x1 .f32)

/-- The gated, normalised row. -/
abbrev hrow (r : Fin 2560) : Fin 1024 → EReal :=
  gated (fun j => x0 (ix2 r j)) (fun j => x1 (ix2 r j)) (fun j => x3 (ix2 0 j)) (fun j => x4 (ix2 0 j))

/-- The projected row. -/
abbrev yrow (r : Fin 2560) : Fin 1024 → EReal :=
  proj (hrow x0 x1 x3 x4 r) (fun j => x2 (ix2 r j)) (fun i j => x5 (ix2 i j)) (fun j => x6 (ix2 0 j)) (fun j => x7 (ix2 0 j))

theorem pay5_at (r : Fin 2560) (j : Fin 1024) :
    @Eq EReal (k0_pay5 x0 x3 x4 x1 (ix2 r j)) (hrow x0 x1 x3 x4 r j) := by
  pointwise [k0_pay5]
  rfl

theorem cast_at (v : FVec Ideal S2560 .f32) (r : Fin 2560) :
    @Eq EReal (shapeCast S2560x1 v shapeCasts_S2560_S2560x1 (ix2 r 0)) (v (ix1 r)) := by
  pointwise

theorem max_at (v : FVec Ideal S2560x1024 .f32) (r : Fin 2560) :
    @Eq EReal (multiReduction .maximumf [1] S2560 v 0xFF800000#32 reduces_S2560x1024_S2560 (.inl rfl) rfl (ix1 r))
      (Finset.fold max (Ideal.ofBits FTy.f32 4286578688#32) (fun i => v (ix2 r i)) Finset.univ) := by
  pointwise

theorem pick_at (s : FVec Ideal S2560x1 .f32) (r : Fin 2560) :
    @Eq EReal ((select (cmpf .oeq s (broadcast S2560x1 (Scalar.ofBits (F := Ideal) .f32 0x00000000#32)))
        (broadcast S2560x1 (Scalar.ofBits (F := Ideal) .f32 0x3F800000#32))
        (divf s (broadcast S2560x1 (Scalar.ofBits (F := Ideal) .f32 0x43E00000#32))) : FVec Ideal S2560x1 .f32) (ix2 r 0))
      (if @Eq EReal (s (ix2 r 0)) 0 then (1 : EReal) else Ideal.div (s (ix2 r 0)) (Ideal.ofBits FTy.f32 1138753536#32)) := by
  pointwise

/-- A row's scale as the reference takes it. -/
theorem scale_at (v : FVec Ideal S2560x1024 .f32) (r : Fin 2560) (h : Fin 1024 → EReal) (e : ∀ j : Fin 1024, @Eq EReal (v (ix2 r j)) (h j)) :
    @Eq EReal (shapeCast S2560x1 (multiReduction .maximumf [1] S2560 (absf v) 0xFF800000#32 reduces_S2560x1024_S2560 (.inl rfl) rfl) shapeCasts_S2560_S2560x1 (ix2 r 0)) (top h) :=
  (cast_at _ r).trans ((max_at _ r).trans (congrArg (fun f : Fin 1024 → EReal => Finset.fold max (Ideal.ofBits FTy.f32 4286578688#32) f Finset.univ)
    (funext fun j => congrArg (FloatOps.absf (F := Ideal) (φ := .f32)) (e j))))

theorem ratio_at (s : FVec Ideal S2560x1 .f32) (r : Fin 2560) (h : Fin 1024 → EReal) (t : @Eq EReal (s (ix2 r 0)) (top h)) :
    @Eq EReal ((select (cmpf .oeq s (broadcast S2560x1 (Scalar.ofBits (F := Ideal) .f32 0x00000000#32)))
        (broadcast S2560x1 (Scalar.ofBits (F := Ideal) .f32 0x3F800000#32))
        (divf s (broadcast S2560x1 (Scalar.ofBits (F := Ideal) .f32 0x43E00000#32))) : FVec Ideal S2560x1 .f32) (ix2 r 0)) (scale h) :=
  (pick_at s r).trans (congrArg (fun q : EReal => if q = 0 then (1 : EReal) else Ideal.div q (Ideal.ofBits FTy.f32 1138753536#32)) t)

theorem pay6_at (r : Fin 2560) :
    @Eq EReal (k0_pay6 x0 x3 x4 x1 (ix2 r 0)) (scale (hrow x0 x1 x3 x4 r)) := by
  have e := pay5_at x0 x1 x3 x4 r
  unfold k0_pay6
  generalize k0_pay5 x0 x3 x4 x1 = v at e ⊢
  exact ratio_at _ r _ (scale_at v r _ e)

theorem add_at {S : Shape} (a b : FVec Ideal S .f32) (i : S.Idx) (x y : EReal) (p : @Eq EReal (a i) x) (q : @Eq EReal (b i) y) :
    @Eq EReal (addf a b i) (x + y) :=
  congrArg₂ (fun p q : EReal => p + q) p q

theorem mul_at {S : Shape} (a b : FVec Ideal S .f32) (i : S.Idx) (x y : EReal) (p : @Eq EReal (a i) x) (q : @Eq EReal (b i) y) :
    @Eq EReal (mulf a b i) (x * y) :=
  congrArg₂ (fun p q : EReal => p * q) p q

theorem wide_at (s : FVec Ideal S2560x1 .f32) (r : Fin 2560) (j : Fin 1024) :
    @Eq EReal (broadcastTo S2560x1024 s broadcasts_S2560x1_S2560x1024 (ix2 r j)) (s (ix2 r 0)) := by
  pointwise

theorem down_at (s : FVec Ideal S1x1024 .f32) (r : Fin 2560) (j : Fin 1024) :
    @Eq EReal (broadcastTo S2560x1024 s broadcasts_S1x1024_S2560x1024 (ix2 r j)) (s (ix2 0 j)) := by
  pointwise

theorem thin_at (s : FVec Ideal S2560x1 .f32) (r : Fin 2560) (e : Fin 16) :
    @Eq EReal (broadcastTo S2560x16 s broadcasts_S2560x1_S2560x16 (ix2 r e)) (s (ix2 r 0)) := by
  pointwise

theorem col_at (s : FVec Ideal S1x16 .f32) (r : Fin 2560) (e : Fin 16) :
    @Eq EReal (broadcastTo S2560x16 s broadcasts_S1x16_S2560x16 (ix2 r e)) (s (ix2 0 e)) := by
  pointwise

theorem flip_at (s : FVec Ideal S16x1 .f32) (e : Fin 16) :
    @Eq EReal (transpose S1x16 [1, 0] s transposes_S16x1_p1_0_S1x16 (ix2 0 e)) (s (ix2 e 0)) := by
  pointwise

theorem turn_at (s : FVec Ideal S2560x16 .f32) (r : Fin 2560) (e : Fin 16) :
    @Eq EReal (transpose S16x2560 [1, 0] s transposes_S2560x16_p1_0_S16x2560 (ix2 e r)) (s (ix2 r e)) := by
  pointwise

theorem dot_at (a : FVec Ideal S2560x1024 .fp8e4m3) (w : FVec Ideal S1024x1024 .fp8e4m3) (r : Fin 2560) (j : Fin 1024) :
    @Eq EReal (matmul dot_S2560x1024_S1024x1024_S2560x1024_1_0_0_1_n_n none a w (constant S2560x1024 .f32 0x00000000#32) (ix2 r j))
      (∑ i, @HMul.hMul EReal EReal EReal _ (a (ix2 r i)) (w (ix2 i j))) := by
  pointwise

theorem head_at (a : FVec Ideal S2560x1024 .fp8e4m3) (w : FVec Ideal S16x1024 .fp8e4m3) (r : Fin 2560) (e : Fin 16) :
    @Eq EReal (matmul dot_S2560x1024_S16x1024_S2560x16_1_1_0_0_n_n none a w (constant S2560x16 .f32 0x00000000#32) (ix2 r e))
      (∑ i, @HMul.hMul EReal EReal EReal _ (a (ix2 r i)) (w (ix2 e i))) := by
  pointwise

theorem clip_at (v : FVec Ideal S2560x1024 .f32) (s : FVec Ideal S2560x1 .f32) (r : Fin 2560) (j : Fin 1024) (h : Fin 1024 → EReal)
    (e : @Eq EReal (v (ix2 r j)) (h j)) (d : @Eq EReal (s (ix2 r 0)) (scale h)) :
    @Eq EReal ((truncf .fp8e4m3 (minimumf (broadcast S2560x1024 (Scalar.ofBits (F := Ideal) .f32 0x43E00000#32))
        (maximumf (broadcast S2560x1024 (Scalar.ofBits (F := Ideal) .f32 0xC3E00000#32)) (divf v (broadcastTo S2560x1024 s broadcasts_S2560x1_S2560x1024))))
        bitsLt_fp8e4m3_f32 : FVec Ideal S2560x1024 .fp8e4m3) (ix2 r j)) (code h j) :=
  congrArg₂ (fun p q : EReal => min (Ideal.ofBits FTy.f32 1138753536#32) (max (Ideal.ofBits FTy.f32 3286237184#32) (Ideal.div p q)))
    e ((wide_at s r j).trans d)

theorem pay9_at (r : Fin 2560) (j : Fin 1024) :
    @Eq EReal (k0_pay9 (k0_pay7 x0 x3 x4 x1) k0_pay8 (ix2 r j)) (code (hrow x0 x1 x3 x4 r) j) := by
  have e := pay5_at x0 x1 x3 x4 r
  have d := pay6_at x0 x1 x3 x4 r
  unfold k0_pay9 k0_pay7 k0_pay8
  generalize k0_pay5 x0 x3 x4 x1 = v at e ⊢
  generalize k0_pay6 x0 x3 x4 x1 = s at d ⊢
  exact clip_at v s r j _ (e j) d

theorem pay10_at (r : Fin 2560) (j : Fin 1024) :
    @Eq EReal (k0_pay10 (k0_pay6 x0 x3 x4 x1) (k0_pay7 x0 x3 x4 x1) k0_pay8 x5 x6 x7 x2 (ix2 r j)) (yrow x0 x1 x2 x3 x4 x5 x6 x7 r j) := by
  have e := pay9_at x0 x1 x3 x4 r
  have d := pay6_at x0 x1 x3 x4 r
  unfold k0_pay10 yrow
  generalize k0_pay9 (k0_pay7 x0 x3 x4 x1) k0_pay8 = v at e ⊢
  generalize k0_pay6 x0 x3 x4 x1 = s at d ⊢
  unfold proj
  exact add_at _ _ _ _ _ (add_at _ _ _ _ _ (mul_at _ _ _ _ _ (mul_at _ _ _ _ _
      ((dot_at v x5 r j).trans (Finset.sum_congr rfl fun i _ => congrArg (fun q : EReal => q * x5 (ix2 i j)) (e i)))
      ((wide_at s r j).trans d)) (down_at x6 r j)) (down_at x7 r j)) (Eq.refl (x2 (ix2 r j)))

theorem pay2_at (r : Fin 2560) (j : Fin 1024) :
    @Eq EReal (k0_pay2 (k0_pay10 (k0_pay6 x0 x3 x4 x1) (k0_pay7 x0 x3 x4 x1) k0_pay8 x5 x6 x7 x2) (ix2 r j)) (yrow x0 x1 x2 x3 x4 x5 x6 x7 r j) := by
  have e := pay10_at x0 x1 x2 x3 x4 x5 x6 x7 r j
  unfold k0_pay2
  generalize k0_pay10 (k0_pay6 x0 x3 x4 x1) (k0_pay7 x0 x3 x4 x1) k0_pay8 x5 x6 x7 x2 = v at e ⊢
  pointwise
  exact e

theorem pay11_at (r : Fin 2560) :
    @Eq EReal (k0_pay11 (k0_pay6 x0 x3 x4 x1) (k0_pay7 x0 x3 x4 x1) k0_pay8 x5 x6 x7 x2 (ix2 r 0)) (scale (yrow x0 x1 x2 x3 x4 x5 x6 x7 r)) := by
  have e := pay10_at x0 x1 x2 x3 x4 x5 x6 x7 r
  unfold k0_pay11
  generalize k0_pay10 (k0_pay6 x0 x3 x4 x1) (k0_pay7 x0 x3 x4 x1) k0_pay8 x5 x6 x7 x2 = v at e ⊢
  exact ratio_at _ r _ (scale_at v r _ e)

theorem pay12_at (r : Fin 2560) (j : Fin 1024) :
    @Eq EReal (k0_pay12 (k0_pay6 x0 x3 x4 x1) (k0_pay7 x0 x3 x4 x1) k0_pay8 x5 x6 x7 x2 (ix2 r j)) (code (yrow x0 x1 x2 x3 x4 x5 x6 x7 r) j) := by
  have e := pay10_at x0 x1 x2 x3 x4 x5 x6 x7 r
  have d := pay11_at x0 x1 x2 x3 x4 x5 x6 x7 r
  unfold k0_pay12
  generalize k0_pay10 (k0_pay6 x0 x3 x4 x1) (k0_pay7 x0 x3 x4 x1) k0_pay8 x5 x6 x7 x2 = v at e ⊢
  generalize k0_pay11 (k0_pay6 x0 x3 x4 x1) (k0_pay7 x0 x3 x4 x1) k0_pay8 x5 x6 x7 x2 = s at d ⊢
  exact clip_at v s r j _ (e j) d

theorem pay3_at (r : Fin 2560) :
    @Eq EReal (k0_pay3 (k0_pay6 x0 x3 x4 x1) (ix2 0 r)) (scale (hrow x0 x1 x3 x4 r)) := by
  have d := pay6_at x0 x1 x3 x4 r
  generalize k0_pay6 x0 x3 x4 x1 = s at d ⊢
  pointwise [k0_pay3]
  exact d

theorem pay4_at (r : Fin 2560) :
    @Eq EReal (k0_pay4 (k0_pay11 (k0_pay6 x0 x3 x4 x1) (k0_pay7 x0 x3 x4 x1) k0_pay8 x5 x6 x7 x2) (ix2 0 r)) (scale (yrow x0 x1 x2 x3 x4 x5 x6 x7 r)) := by
  have d := pay11_at x0 x1 x2 x3 x4 x5 x6 x7 r
  generalize k0_pay11 (k0_pay6 x0 x3 x4 x1) (k0_pay7 x0 x3 x4 x1) k0_pay8 x5 x6 x7 x2 = s at d ⊢
  pointwise [k0_pay4]
  exact d

theorem pay1_at (e : Fin 16) (r : Fin 2560) :
    @Eq EReal (k0_pay1 (k0_pay13 (k0_pay6 x0 x3 x4 x1) (k0_pay7 x0 x3 x4 x1) k0_pay8 x5 x6 x7 x2 x8 x9) x10 (ix2 e r))
      (logit (yrow x0 x1 x2 x3 x4 x5 x6 x7 r) (fun j => x8 (ix2 e j)) (x9 (ix2 e 0)) (x10 (ix2 e 0))) := by
  have f := pay12_at x0 x1 x2 x3 x4 x5 x6 x7 r
  have d := pay11_at x0 x1 x2 x3 x4 x5 x6 x7 r
  unfold k0_pay1 k0_pay13
  generalize k0_pay12 (k0_pay6 x0 x3 x4 x1) (k0_pay7 x0 x3 x4 x1) k0_pay8 x5 x6 x7 x2 = v at f ⊢
  generalize k0_pay11 (k0_pay6 x0 x3 x4 x1) (k0_pay7 x0 x3 x4 x1) k0_pay8 x5 x6 x7 x2 = s at d ⊢
  generalize yrow x0 x1 x2 x3 x4 x5 x6 x7 r = y at f d ⊢
  dsimp only
  unfold logit
  exact (turn_at _ r e).trans (add_at _ _ _ _ _ (mul_at _ _ _ _ _ (mul_at _ _ _ _ _
      ((head_at v x8 r e).trans (Finset.sum_congr rfl fun i _ =>
        (congrArg (fun q : EReal => q * x8 (ix2 e i)) (f i)).trans (mul_comm (code y i) (x8 (ix2 e i)))))
      ((thin_at s r e).trans d)) ((col_at _ r e).trans (flip_at x9 e))) ((col_at _ r e).trans (flip_at x10 e)))

theorem hz : (![0, 0] : Fin 2 → Nat) = fun _ => 0 := funext fun a => by fin_cases a <;> rfl

theorem v14_eq : k0_pay14 (F := Ideal) x0 x1 x2 x3 x4 x5 x6 x7 x8 x9 x10 = k0_pay6 x0 x3 x4 x1 := by
  unfold k0_pay14
  rw [View.ld_unit_zero (S := S2560x1024) hz _ x0, View.ld_unit_zero (S := S1x1024) hz _ x3, View.ld_unit_zero (S := S1x1024) hz _ x4, View.ld_unit_zero (S := S2560x1024) hz _ x1]

theorem v15_eq : k0_pay15 (F := Ideal) x0 x1 x2 x3 x4 x5 x6 x7 x8 x9 x10 = k0_pay7 x0 x3 x4 x1 := by
  unfold k0_pay15
  rw [View.ld_unit_zero (S := S2560x1024) hz _ x0, View.ld_unit_zero (S := S1x1024) hz _ x3, View.ld_unit_zero (S := S1x1024) hz _ x4, View.ld_unit_zero (S := S2560x1024) hz _ x1]

theorem v16_eq : k0_pay16 (F := Ideal) x0 x1 x2 x3 x4 x5 x6 x7 x8 x9 x10 = k0_pay8 := rfl

theorem g11_eq : Value.G11 (F := Ideal) x0 x1 x2 x3 x4 x5 x6 x7 x8 x9 x10 = fun (i : S2560x1024.Idx) => (yrow x0 x1 x2 x3 x4 x5 x6 x7 (i 0) (i 1) : EReal) := by
  unfold Value.G11
  rw [v14_eq, v15_eq, v16_eq]
  exact funext fun (i : S2560x1024.Idx) => (congrArg _ (eq_ix2 (n0 := 2560) (n1 := 1024) i)).trans (pay2_at x0 x1 x2 x3 x4 x5 x6 x7 (i 0) (i 1))

theorem g12_eq : Value.G12 (F := Ideal) x0 x1 x2 x3 x4 x5 x6 x7 x8 x9 x10 = fun (i : S16x2560.Idx) => (logit (yrow x0 x1 x2 x3 x4 x5 x6 x7 (i 1)) (fun j => x8 (ix2 (i 0) j)) (x9 (ix2 (i 0) 0)) (x10 (ix2 (i 0) 0)) : EReal) := by
  unfold Value.G12
  rw [v14_eq, v15_eq, v16_eq]
  exact funext fun (i : S16x2560.Idx) => (congrArg _ (eq_ix2 (n0 := 16) (n1 := 2560) i)).trans (pay1_at x0 x1 x2 x3 x4 x5 x6 x7 x8 x9 x10 (i 0) (i 1))

theorem g13_eq : Value.G13 (F := Ideal) x0 x1 x2 x3 x4 x5 x6 x7 x8 x9 x10 = fun (i : S2560x1024.Idx) => (code (hrow x0 x1 x3 x4 (i 0)) (i 1) : EReal) := by
  unfold Value.G13
  rw [v15_eq, v16_eq]
  exact funext fun (i : S2560x1024.Idx) => (congrArg _ (eq_ix2 (n0 := 2560) (n1 := 1024) i)).trans (pay9_at x0 x1 x3 x4 (i 0) (i 1))

theorem g14_eq : Value.G14 (F := Ideal) x0 x1 x2 x3 x4 x5 x6 x7 x8 x9 x10 = fun (i : S1x2560.Idx) => (scale (hrow x0 x1 x3 x4 (i 1)) : EReal) := by
  unfold Value.G14
  rw [v14_eq]
  exact funext fun (i : S1x2560.Idx) => (congrArg _ ((eq_ix2 (n0 := 1) (n1 := 2560) i).trans (congrArg (fun q : Fin 1 => (ix2 q (i 1) : S1x2560.Idx)) (Subsingleton.elim _ _)))).trans (pay3_at x0 x1 x3 x4 (i 1))

theorem g15_eq : Value.G15 (F := Ideal) x0 x1 x2 x3 x4 x5 x6 x7 x8 x9 x10 = fun (i : S2560x1024.Idx) => (code (yrow x0 x1 x2 x3 x4 x5 x6 x7 (i 0)) (i 1) : EReal) := by
  unfold Value.G15
  rw [v14_eq, v15_eq, v16_eq]
  exact funext fun (i : S2560x1024.Idx) => (congrArg _ (eq_ix2 (n0 := 2560) (n1 := 1024) i)).trans (pay12_at x0 x1 x2 x3 x4 x5 x6 x7 (i 0) (i 1))

theorem g16_eq : Value.G16 (F := Ideal) x0 x1 x2 x3 x4 x5 x6 x7 x8 x9 x10 = fun (i : S1x2560.Idx) => (scale (yrow x0 x1 x2 x3 x4 x5 x6 x7 (i 1)) : EReal) := by
  unfold Value.G16
  rw [v14_eq, v15_eq, v16_eq]
  exact funext fun (i : S1x2560.Idx) => (congrArg _ ((eq_ix2 (n0 := 1) (n1 := 2560) i).trans (congrArg (fun q : Fin 1 => (ix2 q (i 1) : S1x2560.Idx)) (Subsingleton.elim _ _)))).trans (pay4_at x0 x1 x2 x3 x4 x5 x6 x7 (i 1))

end Cert.OutputReferenceIdeal.Hand

end
-- ==== Proof.Reference.lean ====
/-
  The reference's result, read at one index: the value of the one user that owns the row.
-/
module

public import proofs.«01_k».proof.Proof.Gen.ReferenceIdeal.Run
public import proofs.«01_k».proof.Proof.Ideal.Attend
public import Idealize.ShloMosaic.Lib.Routing.Ops

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe
open Cert.Words Cert.KernelIdeal.Hand

theorem code_host (b : BitVec 8) (x : ℕ) : FloatOps.sitofp (F := Ideal) .bf16 (if h : x % 2 < 1 then IntOp.andi (BitVec.setWidth 32 b) 15#32
    else IntOp.shrsi ArithUnit.host (BitVec.setWidth 32 b) 4#32) = code b x := by
  unfold code
  by_cases h : x % 2 < 1
  · rw [dif_pos h, if_pos h]
  · rw [dif_neg h, if_neg h]; rfl

theorem toInt_ofNat' {x : ℕ} (h : x < 2 ^ 31) : (BitVec.ofNat 32 x).toInt = x := by
  have a := isInt h
  unfold Affine.IsInt at a
  exact a

theorem rolled_word {p h : ℕ} (hp : p < 8192) (h1 : 1 ≤ h) (hh : h ≤ 8192) :
    Scalar.select (IntOp.cmpi .slt (BitVec.ofNat 32 p) (BitVec.ofNat 32 h))
      (IntOp.addi (IntOp.subi (BitVec.ofNat 32 p) (BitVec.ofNat 32 h)) 8192#32) (IntOp.subi (BitVec.ofNat 32 p) (BitVec.ofNat 32 h))
      = BitVec.ofNat 32 ((p + 8192 - h) % 8192) := by
  have tp : (BitVec.ofNat 32 p).toInt = p := toInt_ofNat' (by omega)
  have th : (BitVec.ofNat 32 h).toInt = h := toInt_ofNat' (by omega)
  have e : IntOp.cmpi .slt (BitVec.ofNat 32 p) (BitVec.ofNat 32 h) = 1 ↔ p < h := by
    refine IntOp.cmpi_slt.trans ?_
    rw [tp, th]; omega
  unfold Scalar.select
  by_cases a : p < h
  · rw [if_pos (e.2 a)]
    refine BitVec.eq_of_toNat_eq ?_
    show ((BitVec.ofNat 32 p - BitVec.ofNat 32 h) + 8192#32).toNat = _
    simp only [BitVec.toNat_add, BitVec.toNat_sub, BitVec.toNat_ofNat]
    omega
  · rw [if_neg fun x => a (e.1 x)]
    refine BitVec.eq_of_toNat_eq ?_
    show (BitVec.ofNat 32 p - BitVec.ofNat 32 h).toNat = _
    simp only [BitVec.toNat_sub, BitVec.toNat_ofNat]
    omega

set_option maxHeartbeats 1000000 in
theorem bias_eq (hist : IVec S5 32) (rab : Vec Ideal S8x8193 .f32) (u : Fin 5) (p : Fin 8192) (hd : Fin 8) (h : ℕ)
    (hu : hist (ix1 u) = BitVec.ofNat 32 h) (h1 : 1 ≤ h) (hh : h ≤ 8192) :
    Host.gather gather_S8193x8_S40960x1_S40960x8_1_0_n_n_0_1_18 (transpose S8193x8 [1, 0] rab transposes_S8x8193_S8193x8_1_0) (broadcastInDim S40960x1 ![0] bcast_S40960_S40960x1_0 (shapeCast S40960 (select (cmpi CmpIPredicate.slt (broadcastInDim S5x8192 ![0, 1] bcast_S1x8192_S5x8192_0_1 (broadcastInDim S1x8192 ![1] bcast_S8192_S1x8192_1 (iotaInDim S8192 32 0))) (broadcastInDim S5x8192 ![0, 1] bcast_S5x1_S5x8192_0_1 (broadcastInDim S5x1 ![0] bcast_S5_S5x1_0 hist))) (addi (subi (broadcastInDim S5x8192 ![0, 1] bcast_S1x8192_S5x8192_0_1 (broadcastInDim S1x8192 ![1] bcast_S8192_S1x8192_1 (iotaInDim S8192 32 0))) (broadcastInDim S5x8192 ![0, 1] bcast_S5x1_S5x8192_0_1 (broadcastInDim S5x1 ![0] bcast_S5_S5x1_0 hist))) (broadcastInDim S5x8192 ![] bcast_S_S5x8192 (constantI S_ 32 8192#32))) (subi (broadcastInDim S5x8192 ![0, 1] bcast_S1x8192_S5x8192_0_1 (broadcastInDim S1x8192 ![1] bcast_S8192_S1x8192_1 (iotaInDim S8192 32 0))) (broadcastInDim S5x8192 ![0, 1] bcast_S5x1_S5x8192_0_1 (broadcastInDim S5x1 ![0] bcast_S5_S5x1_0 hist)))) shapeCasts_S5x8192_S40960)) (ix2 ⟨u.val * 8192 + p.val, by omega⟩ hd)
      = rab (ix2 hd ⟨(p.val + 8192 - h) % 8192, by omega⟩) := by
  refine (Routing.gather_row gather_S8193x8_S40960x1_S40960x8_1_0_n_n_0_1_18 rfl rfl rfl rfl rfl _ _ ⟨u.val * 8192 + p.val, by omega⟩ hd ⟨(p.val + 8192 - h) % 8192, by omega⟩ ?_ (by decide)).trans ?_
  · have e1 : (⟨(u.val * 8192 + p.val) / 8192, by omega⟩ : Fin 5) = u := Fin.ext (by show (u.val * 8192 + p.val) / 8192 = u.val; omega)
    have e2 : (u.val * 8192 + p.val) % 8192 = p.val := by omega
    pointwise []
    rw [hu]
    exact rolled_word p.isLt h1 hh
  · pointwise []

theorem last_word (cnt : IVec S5 32) (n : Fin 5 → ℕ) (hr : Ragged (fun u => cnt (ix1 u)) n) (u : Fin 5) :
    Host.reduceWindow IntOp.addi ![5] ![1] ![4] ![0] cnt (broadcastInDim S_ ![] bcast_S_S_ (constantI S_ 32 0#32)) reduceWindows_S5_S5_w5s1p4_0 h_S_ (ix1 u)
      = BitVec.ofNat 32 (first n u.val + n u) := by
  refine (Routing.cumsum1 (N := 5) (Nm1 := 4) rfl cnt (fun i => if hi : i < 5 then n ⟨i, hi⟩ else 0) (fun i => ?_) _ (by pointwise []) _ _ u).trans ?_
  · rw [dif_pos i.isLt]; exact hr.word i
  · refine congrArg _ ?_
    fin_cases u <;> simp [List.range_succ, first] <;> omega

theorem own_iff (cnt : IVec S5 32) (n : Fin 5 → ℕ) (hr : Ragged (fun u => cnt (ix1 u)) n) (u : Fin 5) (r : Fin 2560) :
    IntOp.andi (IntOp.cmpi CmpIPredicate.sge (BitVec.ofNat 32 r.val) (IntOp.subi (Host.reduceWindow IntOp.addi ![5] ![1] ![4] ![0] cnt (broadcastInDim S_ ![] bcast_S_S_ (constantI S_ 32 0#32)) reduceWindows_S5_S5_w5s1p4_0 h_S_ (ix1 u)) (cnt (ix1 u))))
      (IntOp.cmpi CmpIPredicate.slt (BitVec.ofNat 32 r.val) (Host.reduceWindow IntOp.addi ![5] ![1] ![4] ![0] cnt (broadcastInDim S_ ![] bcast_S_S_ (constantI S_ 32 0#32)) reduceWindows_S5_S5_w5s1p4_0 h_S_ (ix1 u))) = 1
      ↔ first n u.val ≤ r.val ∧ r.val < first n u.val + n u := by
  have hl := first_add_le hr.sum u
  rw [last_word cnt n hr u, hr.word u]
  rw [show IntOp.subi (BitVec.ofNat 32 (first n u.val + n u)) (BitVec.ofNat 32 (n u)) = BitVec.ofNat 32 (first n u.val) by
    refine BitVec.eq_of_toNat_eq ?_
    show (BitVec.ofNat 32 (first n u.val + n u) - BitVec.ofNat 32 (n u)).toNat = _
    simp only [BitVec.toNat_sub, BitVec.toNat_ofNat]
    omega]
  have t1 : (BitVec.ofNat 32 r.val).toInt = r.val := toInt_ofNat' (by omega)
  have t2 : (BitVec.ofNat 32 (first n u.val)).toInt = (first n u.val : ℕ) := toInt_ofNat' (by omega)
  have t3 : (BitVec.ofNat 32 (first n u.val + n u)).toInt = (first n u.val + n u : ℕ) := toInt_ofNat' (by omega)
  refine IntOp.andi_eq_one.trans ?_
  rw [IntOp.cmpi_sge, IntOp.cmpi_slt, t1, t2, t3]
  omega

theorem zero_id : @Eq EReal (id (constant (F := Ideal) S_ FTy.f32 0#32) ix0) 0 := by
  show @Eq EReal (constant (F := Ideal) S_ FTy.f32 0#32 ix0) 0
  pointwise []

theorem sel_eq {hist : IVec S5 32} {h : Fin 5 → ℕ} (p : Fin 8192) (u : Fin 5) (s t : EReal) {z : EReal} (hz : z = 0) (hl : ∀ u, h u ≤ 8192)
    (hh : ∀ u, hist (ix1 u) = BitVec.ofNat 32 (h u)) (e : s = t) :
    Scalar.select (IntOp.cmpi .slt (BitVec.ofNat 32 p.val) (hist (ix1 u))) (s * Ideal.div 1 (1 + Ideal.exp (-s))) z
      = if p.val < h u then t * Ideal.logistic t else 0 := by
  have lt : IntOp.cmpi .slt (BitVec.ofNat 32 p.val) (hist (ix1 u)) = 1 ↔ p.val < h u := by
    have t1 : (BitVec.ofNat 32 p.val).toInt = p.val := toInt_ofNat' (by omega)
    have t2 : (BitVec.ofNat 32 (h u)).toInt = h u := toInt_ofNat' (by have := hl u; omega)
    refine IntOp.cmpi_slt.trans ?_
    rw [hh u, t1, t2]; omega
  subst e hz
  by_cases a : p.val < h u
  · rw [Scalar.select_of_eq_one (lt.2 a), if_pos a]; rfl
  · rw [Scalar.select_of_ne_one (fun b => a (lt.1 b)), if_neg a]

set_option maxHeartbeats 600000 in

/-- The reference's result at row `r`, column `j`, for the user that owns the row. -/
theorem res_eq (m : (ℓ : Loc nD τ sig) → Buf (Elt Ideal) ℓ) (c : Dev nD) (n h : Fin 5 → ℕ)
    (hr : Ragged (fun u => (m ((c.tc : Thread nD τ).loc main_arg0) : IVec S5 32) (ix1 u)) n)
    (hh : ∀ u, (m ((c.tc : Thread nD τ).loc main_arg1) : IVec S5 32) (ix1 u) = BitVec.ofNat 32 (h u))
    (hp : ∀ u, 1 ≤ h u) (hl : ∀ u, h u ≤ 8192) (u : Fin 5) (r : Fin 2560) (j : Fin 1024)
    (own : first n u.val ≤ r.val ∧ r.val < first n u.val + n u) :
    @Eq EReal ((res_out0 m c : Vec Ideal S2560x1024 .f32) (ix2 r j))
      (valueAt h (m ((c.tc : Thread nD τ).loc main_arg2)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) u r j) := by
  unfold res_out0 res_main_v114
  pointwise []
  refine (Finset.sum_eq_single u (fun v _ hv => ?_) (fun a => absurd (Finset.mem_univ _) a)).trans ?_
  · refine (Scalar.select_of_ne_one (fun a => hv ?_) _ _).trans zero_id
    exact own_unique n r.val v u ((own_iff _ n hr v r).1 a) own
  refine (Scalar.select_of_eq_one ((own_iff _ n hr u r).2 own) _ _).trans ?_
  unfold valueAt attend weight
  beta_reduce
  refine congrArg₂ Ideal.div (congrArg₂ (· + ·) (congrArg₂ (· - ·)
    (Finset.sum_congr rfl fun p _ => congrArg₂ (· * ·) (congrArg₂ (· * ·) ?w1 rfl) ?v)
    (Finset.sum_congr rfl fun p _ => congrArg₂ (· * ·) (congrArg₂ (· * ·) ?w2 rfl) rfl)) rfl) ?n
  case v =>
    unfold code
    by_cases a : j.val % 128 % 2 < 1
    · exact congrArg (FloatOps.sitofp .bf16) ((dif_pos a).trans (if_pos a).symm)
    · exact congrArg (FloatOps.sitofp .bf16) ((dif_neg a).trans (if_neg a).symm)
  case n => rw [hh u]; rfl
  case w1 =>
    refine (sel_eq p u _ _ zero_id hl hh ?_)
    unfold score
    refine congrArg₂ (· + ·) (congrArg₂ (· * ·) rfl (congrArg₂ (· - ·) (Finset.sum_congr rfl fun x _ => congrArg₂ (· * ·) ?_ rfl) rfl)) ?_
    · unfold code
      by_cases a : x.val % 2 < 1
      · exact congrArg (FloatOps.sitofp .bf16) ((dif_pos a).trans (if_pos a).symm)
      · exact congrArg (FloatOps.sitofp .bf16) ((dif_neg a).trans (if_neg a).symm)
    · exact bias_eq (m ((c.tc : Thread nD τ).loc main_arg1)) (m ((c.tc : Thread nD τ).loc main_arg5)) u p ⟨j.val / 128, by omega⟩ (h u) (hh u) (hp u) (hl u)
  case w2 =>
    refine (sel_eq p u _ _ zero_id hl hh ?_)
    unfold score
    refine congrArg₂ (· + ·) (congrArg₂ (· * ·) rfl (congrArg₂ (· - ·) (Finset.sum_congr rfl fun x _ => congrArg₂ (· * ·) ?_ rfl) rfl)) ?_
    · unfold code
      by_cases a : x.val % 2 < 1
      · exact congrArg (FloatOps.sitofp .bf16) ((dif_pos a).trans (if_pos a).symm)
      · exact congrArg (FloatOps.sitofp .bf16) ((dif_neg a).trans (if_neg a).symm)
    · exact bias_eq (m ((c.tc : Thread nD τ).loc main_arg1)) (m ((c.tc : Thread nD τ).loc main_arg5)) u p ⟨j.val / 128, by omega⟩ (h u) (hh u) (hp u) (hl u)

end Cert.ReferenceIdeal.Hand

end
-- ==== Proof.lean ====
/-
  The certificate.
-/
module

public import proofs.«01_k».proof.Defs
public import proofs.«01_k».proof.Proof.Decode
public import proofs.«01_k».proof.Proof.Frame
public import proofs.«01_k».proof.Proof.Ideal.Frame
public import proofs.«01_k».proof.Proof.Described
public import proofs.«01_k».proof.Proof.Gen.Output.Frame
public import proofs.«01_k».proof.Proof.OutValue
public import proofs.«01_k».proof.Proof.OutReference
public import proofs.«01_k».proof.Proof.Reference
public import Idealize.ShloMosaic.Lib.Quiescent
public import Idealize.ShloMosaic.Adequacy
public import Idealize.ShloMosaic.Init

@[expose] public section

namespace Cert.Proof

open Idealize.ShloMosaic Idealize.SL.Sem

/-- The precondition names the numbers the frame speaks of. -/
theorem inputs_Kernel (m : (ℓ : Loc Cert.Kernel.nD Cert.Kernel.τ Cert.Kernel.sig) → Buf (Elt Bits) ℓ) (h : Cert.Pre_Kernel m)
    (c : Dev Cert.Kernel.nD) : ∃ n h, Cert.Kernel.Hand.Inputs m c n h :=
  have H := Cert.Pre_ragged.decode _ _ _ _ _ _ _ _ _ _ _ _ (h c)
  ⟨_, fun u => (Cert.Kernel.Hand.histW m c u).toNat, ⟨H.1, fun u => (H.2 u).1, fun u => (H.2 u).2.1, fun u => (H.2 u).2.2⟩⟩

theorem inputs_KernelIdeal (m : (ℓ : Loc Cert.KernelIdeal.nD Cert.KernelIdeal.τ Cert.KernelIdeal.sig) → Buf (Elt Ideal) ℓ)
    (h : Cert.Pre_KernelIdeal m) (c : Dev Cert.KernelIdeal.nD) : ∃ n h, Cert.KernelIdeal.Hand.Inputs m c n h :=
  have H := Cert.Pre_ragged.decode _ _ _ _ _ _ _ _ _ _ _ _ (h c)
  ⟨_, fun u => (Cert.KernelIdeal.Hand.histW m c u).toNat, ⟨H.1, fun u => (H.2 u).1, fun u => (H.2 u).2.1, fun u => (H.2 u).2.2⟩⟩

/-- The reference writes none of its arguments and declares no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run m ρ)

/-- Every row belongs to a user. -/
theorem owned (n : Fin 5 → ℕ) (x : Fin 5 → BitVec 32) (h : Cert.Words.Ragged x n) (r : Fin 2560) :
    ∃ u : Fin 5, Cert.Words.first n u.val ≤ r.val ∧ r.val < Cert.Words.first n u.val + n u := by
  have e := h.sum
  have l := r.isLt
  by_contra a
  push Not at a
  have a0 := a 0
  have a1 := a 1
  have a2 := a 2
  have a3 := a 3
  have a4 := a 4
  simp [Cert.Words.first] at a0 a1 a2 a3 a4
  omega

/-- The kernel's one claimed result is the reference's. -/
theorem value : Cert.algebraic_KernelIdeal_ReferenceIdeal_pre_described := by
  intro m g m' g' hp hag
  have D := fun c => Cert.Pre_described.decode _ _ _ _ _ _ _ _ _ _ _ _ (hp c)
  have I : ∀ c, ∃ n h, Cert.KernelIdeal.Hand.Inputs m c n h := inputs_KernelIdeal m fun c => (D c).1
  choose n h I using I
  refine ⟨fun c => Cert.ReferenceIdeal.Value.res_out0 m' c, ?_, Cert.ReferenceIdeal.Value.run m' g'⟩
  refine (θ_run (Cert.KernelIdeal.defs (F := Ideal)) _ _).mono (fun r k c => ⟨?_, (k.1 c).2⟩)
    (Cert.KernelIdeal.Hand.value_main m g n h I fun c => (D c).2)
  funext i
  obtain ⟨u, own⟩ := owned (n c) _ (I c).ragged (i 0)
  refine ((k.1 c).1 i u own.1 own.2).trans ?_
  obtain ⟨a0, a1, a2, -, a4, a5, a6, a7, a8, a9, a10, a11⟩ := hag c
  have e := Cert.ReferenceIdeal.Hand.res_eq m' c (n c) (h c) (by rw [a0]; exact (I c).ragged) (by rw [a1]; exact (I c).hist)
    (I c).pos (I c).le u (i 0) (i 1) own
  rw [a2, a4, a5, a6, a7, a8, a9, a10, a11] at e
  exact e.symm.trans (congrArg (Cert.ReferenceIdeal.Value.res_out0 m' c) (eq_ix2 (n0 := 2560) (n1 := 1024) i).symm)

open Idealize.ShloMosaic.TcCoe in
/-- The two programs of the output stage find the same arguments. -/
def Same (m : (ℓ : Loc Cert.OutputIdeal.nD Cert.OutputIdeal.τ Cert.OutputIdeal.sig) → Buf (Elt Ideal) ℓ)
    (m' : (ℓ : Loc Cert.OutputReferenceIdeal.nD Cert.OutputReferenceIdeal.τ Cert.OutputReferenceIdeal.sig) → Buf (Elt Ideal) ℓ)
    (c : Dev Cert.OutputIdeal.nD) : Prop :=
  m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
    ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
    ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
    ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
    ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
    ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
    ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)
    ∧ m' ((c.tc : Thread Cert.OutputReferenceIdeal.nD Cert.OutputReferenceIdeal.τ).loc Cert.OutputReferenceIdeal.main_arg7) = m ((c.tc : Thread Cert.OutputIdeal.nD Cert.OutputIdeal.τ).loc Cert.OutputIdeal.main_arg7)
    ∧ m' ((c.tc : Thread Cert.OutputReferenceIdeal.nD Cert.OutputReferenceIdeal.τ).loc Cert.OutputReferenceIdeal.main_arg8) = m ((c.tc : Thread Cert.OutputIdeal.nD Cert.OutputIdeal.τ).loc Cert.OutputIdeal.main_arg8)
    ∧ m' ((c.tc : Thread Cert.OutputReferenceIdeal.nD Cert.OutputReferenceIdeal.τ).loc Cert.OutputReferenceIdeal.main_arg9) = m ((c.tc : Thread Cert.OutputIdeal.nD Cert.OutputIdeal.τ).loc Cert.OutputIdeal.main_arg9)
    ∧ m' ((c.tc : Thread Cert.OutputReferenceIdeal.nD Cert.OutputReferenceIdeal.τ).loc Cert.OutputReferenceIdeal.main_arg10) = m ((c.tc : Thread Cert.OutputIdeal.nD Cert.OutputIdeal.τ).loc Cert.OutputIdeal.main_arg10)

open Idealize.ShloMosaic.TcCoe in
theorem output11 (m : (ℓ : Loc Cert.OutputIdeal.nD Cert.OutputIdeal.τ Cert.OutputIdeal.sig) → Buf (Elt Ideal) ℓ)
    (m' : (ℓ : Loc Cert.OutputReferenceIdeal.nD Cert.OutputReferenceIdeal.τ Cert.OutputReferenceIdeal.sig) → Buf (Elt Ideal) ℓ)
    (c : Dev Cert.OutputIdeal.nD) (h : Same m m' c) :
    (Cert.OutputIdeal.Gen.dats m 0 c).arrAt 11 Cert.OutputIdeal.cfg0.N = Cert.OutputReferenceIdeal.Value.G11 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) := by
  obtain ⟨a0, a1, a2, a3, a4, a5, a6, a7, a8, a9, a10⟩ := h
  have q : Cert.OutputReferenceIdeal.Value.G11 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) = Cert.OutputReferenceIdeal.Value.G11 (F := Ideal) (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c) := congr (congr (congr (congr (congr (congr (congr (congr (congr (congr (congrArg (Cert.OutputReferenceIdeal.Value.G11 (F := Ideal)) a0) a1) a2) a3) a4) a5) a6) a7) a8) a9) a10
  have p := Cert.OutputReferenceIdeal.Hand.g11_eq (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c)
  exact (Cert.OutputIdeal.Hand.final11 m c).trans (p.symm.trans q.symm)

open Idealize.ShloMosaic.TcCoe in
theorem output12 (m : (ℓ : Loc Cert.OutputIdeal.nD Cert.OutputIdeal.τ Cert.OutputIdeal.sig) → Buf (Elt Ideal) ℓ)
    (m' : (ℓ : Loc Cert.OutputReferenceIdeal.nD Cert.OutputReferenceIdeal.τ Cert.OutputReferenceIdeal.sig) → Buf (Elt Ideal) ℓ)
    (c : Dev Cert.OutputIdeal.nD) (h : Same m m' c) :
    (Cert.OutputIdeal.Gen.dats m 0 c).arrAt 12 Cert.OutputIdeal.cfg0.N = Cert.OutputReferenceIdeal.Value.G12 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) := by
  obtain ⟨a0, a1, a2, a3, a4, a5, a6, a7, a8, a9, a10⟩ := h
  have q : Cert.OutputReferenceIdeal.Value.G12 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) = Cert.OutputReferenceIdeal.Value.G12 (F := Ideal) (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c) := congr (congr (congr (congr (congr (congr (congr (congr (congr (congr (congrArg (Cert.OutputReferenceIdeal.Value.G12 (F := Ideal)) a0) a1) a2) a3) a4) a5) a6) a7) a8) a9) a10
  have p := Cert.OutputReferenceIdeal.Hand.g12_eq (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c)
  exact (Cert.OutputIdeal.Hand.final12 m c).trans (p.symm.trans q.symm)

open Idealize.ShloMosaic.TcCoe in
theorem output13 (m : (ℓ : Loc Cert.OutputIdeal.nD Cert.OutputIdeal.τ Cert.OutputIdeal.sig) → Buf (Elt Ideal) ℓ)
    (m' : (ℓ : Loc Cert.OutputReferenceIdeal.nD Cert.OutputReferenceIdeal.τ Cert.OutputReferenceIdeal.sig) → Buf (Elt Ideal) ℓ)
    (c : Dev Cert.OutputIdeal.nD) (h : Same m m' c) :
    (Cert.OutputIdeal.Gen.dats m 0 c).arrAt 13 Cert.OutputIdeal.cfg0.N = Cert.OutputReferenceIdeal.Value.G13 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) := by
  obtain ⟨a0, a1, a2, a3, a4, a5, a6, a7, a8, a9, a10⟩ := h
  have q : Cert.OutputReferenceIdeal.Value.G13 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) = Cert.OutputReferenceIdeal.Value.G13 (F := Ideal) (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c) := congr (congr (congr (congr (congr (congr (congr (congr (congr (congr (congrArg (Cert.OutputReferenceIdeal.Value.G13 (F := Ideal)) a0) a1) a2) a3) a4) a5) a6) a7) a8) a9) a10
  have p := Cert.OutputReferenceIdeal.Hand.g13_eq (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c)
  exact (Cert.OutputIdeal.Hand.final13 m c).trans (p.symm.trans q.symm)

open Idealize.ShloMosaic.TcCoe in
theorem output14 (m : (ℓ : Loc Cert.OutputIdeal.nD Cert.OutputIdeal.τ Cert.OutputIdeal.sig) → Buf (Elt Ideal) ℓ)
    (m' : (ℓ : Loc Cert.OutputReferenceIdeal.nD Cert.OutputReferenceIdeal.τ Cert.OutputReferenceIdeal.sig) → Buf (Elt Ideal) ℓ)
    (c : Dev Cert.OutputIdeal.nD) (h : Same m m' c) :
    (Cert.OutputIdeal.Gen.dats m 0 c).arrAt 14 Cert.OutputIdeal.cfg0.N = Cert.OutputReferenceIdeal.Value.G14 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) := by
  obtain ⟨a0, a1, a2, a3, a4, a5, a6, a7, a8, a9, a10⟩ := h
  have q : Cert.OutputReferenceIdeal.Value.G14 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) = Cert.OutputReferenceIdeal.Value.G14 (F := Ideal) (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c) := congr (congr (congr (congr (congr (congr (congr (congr (congr (congr (congrArg (Cert.OutputReferenceIdeal.Value.G14 (F := Ideal)) a0) a1) a2) a3) a4) a5) a6) a7) a8) a9) a10
  have p := Cert.OutputReferenceIdeal.Hand.g14_eq (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c)
  exact (Cert.OutputIdeal.Hand.final14 m c).trans (p.symm.trans q.symm)

open Idealize.ShloMosaic.TcCoe in
theorem output15 (m : (ℓ : Loc Cert.OutputIdeal.nD Cert.OutputIdeal.τ Cert.OutputIdeal.sig) → Buf (Elt Ideal) ℓ)
    (m' : (ℓ : Loc Cert.OutputReferenceIdeal.nD Cert.OutputReferenceIdeal.τ Cert.OutputReferenceIdeal.sig) → Buf (Elt Ideal) ℓ)
    (c : Dev Cert.OutputIdeal.nD) (h : Same m m' c) :
    (Cert.OutputIdeal.Gen.dats m 0 c).arrAt 15 Cert.OutputIdeal.cfg0.N = Cert.OutputReferenceIdeal.Value.G15 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) := by
  obtain ⟨a0, a1, a2, a3, a4, a5, a6, a7, a8, a9, a10⟩ := h
  have q : Cert.OutputReferenceIdeal.Value.G15 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) = Cert.OutputReferenceIdeal.Value.G15 (F := Ideal) (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c) := congr (congr (congr (congr (congr (congr (congr (congr (congr (congr (congrArg (Cert.OutputReferenceIdeal.Value.G15 (F := Ideal)) a0) a1) a2) a3) a4) a5) a6) a7) a8) a9) a10
  have p := Cert.OutputReferenceIdeal.Hand.g15_eq (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c)
  exact (Cert.OutputIdeal.Hand.final15 m c).trans (p.symm.trans q.symm)

open Idealize.ShloMosaic.TcCoe in
theorem output16 (m : (ℓ : Loc Cert.OutputIdeal.nD Cert.OutputIdeal.τ Cert.OutputIdeal.sig) → Buf (Elt Ideal) ℓ)
    (m' : (ℓ : Loc Cert.OutputReferenceIdeal.nD Cert.OutputReferenceIdeal.τ Cert.OutputReferenceIdeal.sig) → Buf (Elt Ideal) ℓ)
    (c : Dev Cert.OutputIdeal.nD) (h : Same m m' c) :
    (Cert.OutputIdeal.Gen.dats m 0 c).arrAt 16 Cert.OutputIdeal.cfg0.N = Cert.OutputReferenceIdeal.Value.G16 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) := by
  obtain ⟨a0, a1, a2, a3, a4, a5, a6, a7, a8, a9, a10⟩ := h
  have q : Cert.OutputReferenceIdeal.Value.G16 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)) = Cert.OutputReferenceIdeal.Value.G16 (F := Ideal) (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c) := congr (congr (congr (congr (congr (congr (congr (congr (congr (congr (congrArg (Cert.OutputReferenceIdeal.Value.G16 (F := Ideal)) a0) a1) a2) a3) a4) a5) a6) a7) a8) a9) a10
  have p := Cert.OutputReferenceIdeal.Hand.g16_eq (Cert.OutputIdeal.Hand.A0 m c) (Cert.OutputIdeal.Hand.A1 m c) (Cert.OutputIdeal.Hand.A2 m c) (Cert.OutputIdeal.Hand.A3 m c) (Cert.OutputIdeal.Hand.A4 m c) (Cert.OutputIdeal.Hand.A5 m c) (Cert.OutputIdeal.Hand.A6 m c) (Cert.OutputIdeal.Hand.A7 m c) (Cert.OutputIdeal.Hand.A8 m c) (Cert.OutputIdeal.Hand.A9 m c) (Cert.OutputIdeal.Hand.A10 m c)
  exact (Cert.OutputIdeal.Hand.final16 m c).trans (p.symm.trans q.symm)

/-- The reference of the output stage writes none of its arguments and ends with every semaphore at zero. -/
theorem frame_output_reference : Cert.quiescent_OutputReferenceIdeal := fun m ρ _ =>
  Cert.OutputReferenceIdeal.Gen.frame m ρ

open Idealize.ShloMosaic.TcCoe in
/-- The output stage's six results are its reference's. -/
theorem value_output : Cert.algebraic_OutputIdeal_OutputReferenceIdeal := by
  intro m g m' g' hp hag
  have e11 := fun c => output11 m m' c (hag c)
  have e12 := fun c => output12 m m' c (hag c)
  have e13 := fun c => output13 m m' c (hag c)
  have e14 := fun c => output14 m m' c (hag c)
  have e15 := fun c => output15 m m' c (hag c)
  have e16 := fun c => output16 m m' c (hag c)
  refine ⟨fun c => Cert.OutputReferenceIdeal.Value.G11 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)),
    fun c => Cert.OutputReferenceIdeal.Value.G12 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)),
    fun c => Cert.OutputReferenceIdeal.Value.G13 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)),
    fun c => Cert.OutputReferenceIdeal.Value.G14 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)),
    fun c => Cert.OutputReferenceIdeal.Value.G15 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)),
    fun c => Cert.OutputReferenceIdeal.Value.G16 (F := Ideal) (m' ((c : Thread Cert.OutputReferenceIdeal.nD Cert.OutputReferenceIdeal.τ).loc Cert.OutputReferenceIdeal.main_arg0)) (m' ((c : Thread Cert.OutputReferenceIdeal.nD Cert.OutputReferenceIdeal.τ).loc Cert.OutputReferenceIdeal.main_arg1)) (m' ((c : Thread Cert.OutputReferenceIdeal.nD Cert.OutputReferenceIdeal.τ).loc Cert.OutputReferenceIdeal.main_arg2)) (m' ((c : Thread Cert.OutputReferenceIdeal.nD Cert.OutputReferenceIdeal.τ).loc Cert.OutputReferenceIdeal.main_arg3)) (m' ((c : Thread Cert.OutputReferenceIdeal.nD Cert.OutputReferenceIdeal.τ).loc Cert.OutputReferenceIdeal.main_arg4)) (m' ((c : Thread Cert.OutputReferenceIdeal.nD Cert.OutputReferenceIdeal.τ).loc Cert.OutputReferenceIdeal.main_arg5)) (m' ((c : Thread Cert.OutputReferenceIdeal.nD Cert.OutputReferenceIdeal.τ).loc Cert.OutputReferenceIdeal.main_arg6)) (m' ((c : Thread Cert.OutputReferenceIdeal.nD Cert.OutputReferenceIdeal.τ).loc Cert.OutputReferenceIdeal.main_arg7)) (m' ((c : Thread Cert.OutputReferenceIdeal.nD Cert.OutputReferenceIdeal.τ).loc Cert.OutputReferenceIdeal.main_arg8)) (m' ((c : Thread Cert.OutputReferenceIdeal.nD Cert.OutputReferenceIdeal.τ).loc Cert.OutputReferenceIdeal.main_arg9)) (m' ((c : Thread Cert.OutputReferenceIdeal.nD Cert.OutputReferenceIdeal.τ).loc Cert.OutputReferenceIdeal.main_arg10)), ?_, Cert.OutputReferenceIdeal.Value.run m' g'⟩
  exact (θ_run (Cert.OutputIdeal.defs (F := Ideal)) _ _).mono (fun r k c => ⟨(k c).1.trans (e11 c), (k c).2.1.trans (e12 c), (k c).2.2.1.trans (e13 c),
    (k c).2.2.2.1.trans (e14 c), (k c).2.2.2.2.1.trans (e15 c), (k c).2.2.2.2.2.1.trans (e16 c), (k c).2.2.2.2.2.2⟩)
    (Cert.OutputIdeal.Value.run_blocks m g)

theorem claim : Cert.Claim := ⟨Cert.Kernel.Gen.facts, Cert.KernelIdeal.Gen.facts, Cert.ReferenceIdeal.Gen.facts, Cert.Output.Gen.facts, Cert.OutputIdeal.Gen.facts,
  Cert.OutputReferenceIdeal.Gen.facts, Cert.Pre_ragged.facts, Cert.Pre_described.facts,
  fun m g h => Cert.Kernel.Hand.frame_main m g (inputs_Kernel m h),
  fun m g h => Cert.KernelIdeal.Hand.frame_main m g (inputs_KernelIdeal m h),
  fun m g h => Cert.KernelIdeal.Hand.frame_main m g (inputs_KernelIdeal m fun c => (Cert.Pre_described.decode _ _ _ _ _ _ _ _ _ _ _ _ (h c)).1),
  frame_reference,
  fun m g _ => frame_reference m g trivial,
  fun m g _ => Cert.Output.Gen.frame m g,
  fun m g _ => Cert.OutputIdeal.Gen.frame m g,
  frame_output_reference,
  trivial, value, trivial, value_output⟩

end Cert.Proof

end
